-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

class Facts : Prop where
  bcast_S_S1024x1024 : S_.BroadcastsInDim S1024x1024 (![] : Fin 0 → Fin S1024x1024.rank)
  bcast_S_S1024x16384 : S_.BroadcastsInDim S1024x16384 (![] : Fin 0 → Fin S1024x16384.rank)

variable [Facts]

def fn {F : FTy → Type} [FloatOps F] (main_arg0 : FVec F S1024x1024 .f32) (main_arg1 : FVec F S1024x1024 .f32) (main_arg2 : FVec F S1024x1024 .f32) (main_arg3 : FVec F S1024x16384 .f32) (main_arg4 : FVec F S16384x1024 .f32) : IVec S1024x1024 1 × IVec S1024x1024 1 × IVec S1024x16384 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x16384 .f32 := Host.absf main_arg3
  let main_cst_1 : FVec F S_ .f32 := constant S_ .f32 0x7F800000#32
  let main_v7 : FVec F S1024x16384 .f32 := broadcastInDim S1024x16384 ![] bcast_S_S1024x16384 main_cst_1
  let main_v8 : IVec S1024x16384 1 := cmpf .olt main_v6 main_v7
  (main_v2, main_v5, main_v8)
-- ==== Pre_finite_ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

class Facts : Prop where
  bcast_S_S1024x1024 : S_.BroadcastsInDim S1024x1024 (![] : Fin 0 → Fin S1024x1024.rank)
  bcast_S_S1024x16384 : S_.BroadcastsInDim S1024x16384 (![] : Fin 0 → Fin S1024x16384.rank)

variable [Facts]

def fn {F : FTy → Type} [FloatOps F] (main_arg0 : FVec F S1024x1024 .f32) (main_arg1 : FVec F S1024x16384 .f32) (main_arg2 : FVec F S1024x16384 .f32) (main_arg3 : FVec F S1024x16384 .f32) (main_arg4 : FVec F S16384x1024 .f32) : IVec S1024x1024 1 × IVec S1024x16384 1 × IVec S1024x16384 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1024x16384 .f32 := Host.absf main_arg3
  let main_cst_1 : FVec F S_ .f32 := constant S_ .f32 0x7F800000#32
  let main_v7 : FVec F S1024x16384 .f32 := broadcastInDim S1024x16384 ![] bcast_S_S1024x16384 main_cst_1
  let main_v8 : IVec S1024x16384 1 := cmpf .olt main_v6 main_v7
  (main_v2, main_v5, main_v8)
-- ==== Kernel.lean ====
abbrev S1024x1024 : Shape := ⟨2, ![1024, 1024]⟩
abbrev S1024x16384 : Shape := ⟨2, ![1024, 16384]⟩
abbrev S16384x1024 : Shape := ⟨2, ![16384, 1024]⟩
abbrev S2x1024x1024 : Shape := ⟨3, ![2, 1024, 1024]⟩
abbrev S256x1024 : Shape := ⟨2, ![256, 1024]⟩
abbrev S64x1024 : Shape := ⟨2, ![64, 1024]⟩
abbrev S16x64x1024 : Shape := ⟨3, ![16, 64, 1024]⟩
abbrev S2 : Shape := ⟨1, ![2]⟩
abbrev S16 : Shape := ⟨1, ![16]⟩
abbrev S_ : Shape := ⟨0, ![]⟩
abbrev S1 : Shape := ⟨1, ![1]⟩
abbrev S1x1024x1024 : Shape := ⟨3, ![1, 1024, 1024]⟩
abbrev S256x512 : Shape := ⟨2, ![256, 512]⟩
abbrev S512x128 : Shape := ⟨2, ![512, 128]⟩
abbrev S256x128 : Shape := ⟨2, ![256, 128]⟩
abbrev S256 : Shape := ⟨1, ![256]⟩
abbrev S256x1 : Shape := ⟨2, ![256, 1]⟩
abbrev S1x64x1024 : Shape := ⟨3, ![1, 64, 1024]⟩

abbrev nBuf : Space → Nat
  | .hbm => 6
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x16384, .f32⟩
  | .hbm, ⟨4, _⟩ => ⟨S16384x1024, .f32⟩
  | .hbm, ⟨5, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S2x1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S1024x1024, .bf16⟩
  | .local _ .vmem, ⟨12, _⟩ => ⟨S64x1024, .f32⟩
  | .local _ .vmem, ⟨13, _⟩ => ⟨S16x64x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) : Fin 2 → Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v36 : BitVec 32 := Scalar.muli v2 c1024_i32
  ![0, v36.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_55 : BitVec 32 := 1024#32
  let v42 : BitVec 32 := Scalar.muli v2 c1024_i32_55
  let c0_i32_60 : BitVec 32 := 0#32
  ![v42.toNat, 0]
def k0_mult1 (d0 : Dev nD) : BitVec 32 :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  v93
def k0_off3 (d0 : Dev nD) (c0_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let v95 : Index := Scalar.indexCast v90
  let c0_94 : Index := 0#32
  ![v95.toNat, 0]
def k0_off4 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v110 : Index := Scalar.indexCast v94
  let c0_98 : Index := 0#32
  ![v110.toNat, 0]
def k0_off5 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v133 : Index := Scalar.indexCast v94
  let c128 : Index := 128#32
  ![v133.toNat, 128]
def k0_off6 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v156 : Index := Scalar.indexCast v94
  let c256 : Index := 256#32
  ![v156.toNat, 256]
def k0_off7 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v179 : Index := Scalar.indexCast v94
  let c384 : Index := 384#32
  ![v179.toNat, 384]
def k0_off8 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v202 : Index := Scalar.indexCast v94
  let c512 : Index := 512#32
  ![v202.toNat, 512]
def k0_off9 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v225 : Index := Scalar.indexCast v94
  let c640 : Index := 640#32
  ![v225.toNat, 640]
def k0_off10 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v248 : Index := Scalar.indexCast v94
  let c768 : Index := 768#32
  ![v248.toNat, 768]
def k0_off11 (d0 : Dev nD) (c0_i32_91 : BitVec 32) : Fin 2 → Nat :=
  let c512_i32 : BitVec 32 := 512#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.addi v2 c0_i32_91
  let c4_i32_92 : BitVec 32 := 4#32
  let v89 : BitVec 32 := Scalar.remsi v88 c4_i32_92
  let c256_i32 : BitVec 32 := 256#32
  let v90 : BitVec 32 := Scalar.muli v89 c256_i32
  let c128_i32 : BitVec 32 := 128#32
  let v91 : BitVec 32 := Scalar.subi v90 c128_i32
  let v92 : BitVec 32 := Scalar.maxsi c0_i32_93 v91
  let v93 : BitVec 32 := Scalar.minsi c512_i32 v92
  let v94 : BitVec 32 := v93
  let v271 : Index := Scalar.indexCast v94
  let c896 : Index := 896#32
  ![v271.toNat, 896]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_177 : BitVec 32 := 4#32
  let v302 : BitVec 32 := Scalar.muli v89 c4_i32_177
  let c0_i32_178 : BitVec 32 := 0#32
  let v303 : BitVec 32 := Scalar.addi v302 c0_i32_178
  let v304 : BitVec 1 := Scalar.cmpi .ne v2 v303
  let v305 : BitVec 32 := Scalar.extui v304
  let c0_i32_179 : BitVec 32 := 0#32
  let v306 : BitVec 1 := Scalar.cmpi .ne v305 c0_i32_179
  v306

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_177 : BitVec 32 := 4#32
  let v302 : BitVec 32 := Scalar.muli v89 c4_i32_177
  let c0_i32_178 : BitVec 32 := 0#32
  let v303 : BitVec 32 := Scalar.addi v302 c0_i32_178
  ![v303.toNat]
def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_177 : BitVec 32 := 4#32
  let v302 : BitVec 32 := Scalar.muli v89 c4_i32_177
  let c0_i32_178 : BitVec 32 := 0#32
  let v303 : BitVec 32 := Scalar.addi v302 c0_i32_178
  let c64_i32_651 : BitVec 32 := 64#32
  let v1228 : BitVec 32 := Scalar.muli v303 c64_i32_651
  let c0_i32_656 : BitVec 32 := 0#32
  ![v1228.toNat, 0]
def k0_dev17 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_177 : BitVec 32 := 4#32
  let v302 : BitVec 32 := Scalar.muli v89 c4_i32_177
  let c0_i32_178 : BitVec 32 := 0#32
  let v303 : BitVec 32 := Scalar.addi v302 c0_i32_178
  let c1_i32_652 : BitVec 32 := 1#32
  let v1229 : BitVec 32 := Scalar.muli v303 c1_i32_652
  let v1230 : BitVec 32 := Scalar.addi c0_i32_653 v1229
  v1230.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_180 : BitVec 32 := 4#32
  let v307 : BitVec 32 := Scalar.muli v89 c4_i32_180
  let c1_i32_181 : BitVec 32 := 1#32
  let v308 : BitVec 32 := Scalar.addi v307 c1_i32_181
  let v309 : BitVec 1 := Scalar.cmpi .ne v2 v308
  let v310 : BitVec 32 := Scalar.extui v309
  let c0_i32_182 : BitVec 32 := 0#32
  let v311 : BitVec 1 := Scalar.cmpi .ne v310 c0_i32_182
  v311

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_180 : BitVec 32 := 4#32
  let v307 : BitVec 32 := Scalar.muli v89 c4_i32_180
  let c1_i32_181 : BitVec 32 := 1#32
  let v308 : BitVec 32 := Scalar.addi v307 c1_i32_181
  ![v308.toNat]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_180 : BitVec 32 := 4#32
  let v307 : BitVec 32 := Scalar.muli v89 c4_i32_180
  let c1_i32_181 : BitVec 32 := 1#32
  let v308 : BitVec 32 := Scalar.addi v307 c1_i32_181
  let c64_i32_651 : BitVec 32 := 64#32
  let v1228 : BitVec 32 := Scalar.muli v308 c64_i32_651
  let c0_i32_656 : BitVec 32 := 0#32
  ![v1228.toNat, 0]
def k0_dev18 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_180 : BitVec 32 := 4#32
  let v307 : BitVec 32 := Scalar.muli v89 c4_i32_180
  let c1_i32_181 : BitVec 32 := 1#32
  let v308 : BitVec 32 := Scalar.addi v307 c1_i32_181
  let c1_i32_652 : BitVec 32 := 1#32
  let v1229 : BitVec 32 := Scalar.muli v308 c1_i32_652
  let v1230 : BitVec 32 := Scalar.addi c0_i32_653 v1229
  v1230.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_183 : BitVec 32 := 4#32
  let v312 : BitVec 32 := Scalar.muli v89 c4_i32_183
  let c2_i32_184 : BitVec 32 := 2#32
  let v313 : BitVec 32 := Scalar.addi v312 c2_i32_184
  let v314 : BitVec 1 := Scalar.cmpi .ne v2 v313
  let v315 : BitVec 32 := Scalar.extui v314
  let c0_i32_185 : BitVec 32 := 0#32
  let v316 : BitVec 1 := Scalar.cmpi .ne v315 c0_i32_185
  v316

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_183 : BitVec 32 := 4#32
  let v312 : BitVec 32 := Scalar.muli v89 c4_i32_183
  let c2_i32_184 : BitVec 32 := 2#32
  let v313 : BitVec 32 := Scalar.addi v312 c2_i32_184
  ![v313.toNat]
def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_183 : BitVec 32 := 4#32
  let v312 : BitVec 32 := Scalar.muli v89 c4_i32_183
  let c2_i32_184 : BitVec 32 := 2#32
  let v313 : BitVec 32 := Scalar.addi v312 c2_i32_184
  let c64_i32_651 : BitVec 32 := 64#32
  let v1228 : BitVec 32 := Scalar.muli v313 c64_i32_651
  let c0_i32_656 : BitVec 32 := 0#32
  ![v1228.toNat, 0]
def k0_dev19 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_183 : BitVec 32 := 4#32
  let v312 : BitVec 32 := Scalar.muli v89 c4_i32_183
  let c2_i32_184 : BitVec 32 := 2#32
  let v313 : BitVec 32 := Scalar.addi v312 c2_i32_184
  let c1_i32_652 : BitVec 32 := 1#32
  let v1229 : BitVec 32 := Scalar.muli v313 c1_i32_652
  let v1230 : BitVec 32 := Scalar.addi c0_i32_653 v1229
  v1230.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_186 : BitVec 32 := 4#32
  let v317 : BitVec 32 := Scalar.muli v89 c4_i32_186
  let c3_i32_187 : BitVec 32 := 3#32
  let v318 : BitVec 32 := Scalar.addi v317 c3_i32_187
  let v319 : BitVec 1 := Scalar.cmpi .ne v2 v318
  let v320 : BitVec 32 := Scalar.extui v319
  let c0_i32_188 : BitVec 32 := 0#32
  let v321 : BitVec 1 := Scalar.cmpi .ne v320 c0_i32_188
  v321

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_186 : BitVec 32 := 4#32
  let v317 : BitVec 32 := Scalar.muli v89 c4_i32_186
  let c3_i32_187 : BitVec 32 := 3#32
  let v318 : BitVec 32 := Scalar.addi v317 c3_i32_187
  ![v318.toNat]
def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_186 : BitVec 32 := 4#32
  let v317 : BitVec 32 := Scalar.muli v89 c4_i32_186
  let c3_i32_187 : BitVec 32 := 3#32
  let v318 : BitVec 32 := Scalar.addi v317 c3_i32_187
  let c64_i32_651 : BitVec 32 := 64#32
  let v1228 : BitVec 32 := Scalar.muli v318 c64_i32_651
  let c0_i32_656 : BitVec 32 := 0#32
  ![v1228.toNat, 0]
def k0_dev20 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let v88 : BitVec 32 := Scalar.addi v2 c0_i32_91
  let c4_i32_92 : BitVec 32 := 4#32
  let v89 : BitVec 32 := Scalar.remsi v88 c4_i32_92
  let c4_i32_186 : BitVec 32 := 4#32
  let v317 : BitVec 32 := Scalar.muli v89 c4_i32_186
  let c3_i32_187 : BitVec 32 := 3#32
  let v318 : BitVec 32 := Scalar.addi v317 c3_i32_187
  let c1_i32_652 : BitVec 32 := 1#32
  let v1229 : BitVec 32 := Scalar.muli v318 c1_i32_652
  let v1230 : BitVec 32 := Scalar.addi c0_i32_653 v1229
  v1230.toNat
def k0_mult2 (d0 : Dev nD) : BitVec 32 :=
  let c512_i32_194 : BitVec 32 := 512#32
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c256_i32_191 : BitVec 32 := 256#32
  let v324 : BitVec 32 := Scalar.muli v323 c256_i32_191
  let c128_i32_192 : BitVec 32 := 128#32
  let v325 : BitVec 32 := Scalar.subi v324 c128_i32_192
  let v326 : BitVec 32 := Scalar.maxsi c0_i32_193 v325
  let v327 : BitVec 32 := Scalar.minsi c512_i32_194 v326
  v327
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_286 : BitVec 32 := 4#32
  let v536 : BitVec 32 := Scalar.muli v323 c4_i32_286
  let c0_i32_287 : BitVec 32 := 0#32
  let v537 : BitVec 32 := Scalar.addi v536 c0_i32_287
  let v538 : BitVec 1 := Scalar.cmpi .ne v2 v537
  let v539 : BitVec 32 := Scalar.extui v538
  let c0_i32_288 : BitVec 32 := 0#32
  let v540 : BitVec 1 := Scalar.cmpi .ne v539 c0_i32_288
  v540

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_286 : BitVec 32 := 4#32
  let v536 : BitVec 32 := Scalar.muli v323 c4_i32_286
  let c0_i32_287 : BitVec 32 := 0#32
  let v537 : BitVec 32 := Scalar.addi v536 c0_i32_287
  ![v537.toNat]
def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_286 : BitVec 32 := 4#32
  let v536 : BitVec 32 := Scalar.muli v323 c4_i32_286
  let c0_i32_287 : BitVec 32 := 0#32
  let v537 : BitVec 32 := Scalar.addi v536 c0_i32_287
  let c64_i32_651 : BitVec 32 := 64#32
  let v1228 : BitVec 32 := Scalar.muli v537 c64_i32_651
  let c0_i32_656 : BitVec 32 := 0#32
  ![v1228.toNat, 0]
def k0_dev21 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_286 : BitVec 32 := 4#32
  let v536 : BitVec 32 := Scalar.muli v323 c4_i32_286
  let c0_i32_287 : BitVec 32 := 0#32
  let v537 : BitVec 32 := Scalar.addi v536 c0_i32_287
  let c1_i32_652 : BitVec 32 := 1#32
  let v1229 : BitVec 32 := Scalar.muli v537 c1_i32_652
  let v1230 : BitVec 32 := Scalar.addi c0_i32_653 v1229
  v1230.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_289 : BitVec 32 := 4#32
  let v541 : BitVec 32 := Scalar.muli v323 c4_i32_289
  let c1_i32_290 : BitVec 32 := 1#32
  let v542 : BitVec 32 := Scalar.addi v541 c1_i32_290
  let v543 : BitVec 1 := Scalar.cmpi .ne v2 v542
  let v544 : BitVec 32 := Scalar.extui v543
  let c0_i32_291 : BitVec 32 := 0#32
  let v545 : BitVec 1 := Scalar.cmpi .ne v544 c0_i32_291
  v545

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_289 : BitVec 32 := 4#32
  let v541 : BitVec 32 := Scalar.muli v323 c4_i32_289
  let c1_i32_290 : BitVec 32 := 1#32
  let v542 : BitVec 32 := Scalar.addi v541 c1_i32_290
  ![v542.toNat]
def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_289 : BitVec 32 := 4#32
  let v541 : BitVec 32 := Scalar.muli v323 c4_i32_289
  let c1_i32_290 : BitVec 32 := 1#32
  let v542 : BitVec 32 := Scalar.addi v541 c1_i32_290
  let c64_i32_651 : BitVec 32 := 64#32
  let v1228 : BitVec 32 := Scalar.muli v542 c64_i32_651
  let c0_i32_656 : BitVec 32 := 0#32
  ![v1228.toNat, 0]
def k0_dev22 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_289 : BitVec 32 := 4#32
  let v541 : BitVec 32 := Scalar.muli v323 c4_i32_289
  let c1_i32_290 : BitVec 32 := 1#32
  let v542 : BitVec 32 := Scalar.addi v541 c1_i32_290
  let c1_i32_652 : BitVec 32 := 1#32
  let v1229 : BitVec 32 := Scalar.muli v542 c1_i32_652
  let v1230 : BitVec 32 := Scalar.addi c0_i32_653 v1229
  v1230.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_292 : BitVec 32 := 4#32
  let v546 : BitVec 32 := Scalar.muli v323 c4_i32_292
  let c2_i32_293 : BitVec 32 := 2#32
  let v547 : BitVec 32 := Scalar.addi v546 c2_i32_293
  let v548 : BitVec 1 := Scalar.cmpi .ne v2 v547
  let v549 : BitVec 32 := Scalar.extui v548
  let c0_i32_294 : BitVec 32 := 0#32
  let v550 : BitVec 1 := Scalar.cmpi .ne v549 c0_i32_294
  v550

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_292 : BitVec 32 := 4#32
  let v546 : BitVec 32 := Scalar.muli v323 c4_i32_292
  let c2_i32_293 : BitVec 32 := 2#32
  let v547 : BitVec 32 := Scalar.addi v546 c2_i32_293
  ![v547.toNat]
def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_292 : BitVec 32 := 4#32
  let v546 : BitVec 32 := Scalar.muli v323 c4_i32_292
  let c2_i32_293 : BitVec 32 := 2#32
  let v547 : BitVec 32 := Scalar.addi v546 c2_i32_293
  let c64_i32_651 : BitVec 32 := 64#32
  let v1228 : BitVec 32 := Scalar.muli v547 c64_i32_651
  let c0_i32_656 : BitVec 32 := 0#32
  ![v1228.toNat, 0]
def k0_dev23 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_292 : BitVec 32 := 4#32
  let v546 : BitVec 32 := Scalar.muli v323 c4_i32_292
  let c2_i32_293 : BitVec 32 := 2#32
  let v547 : BitVec 32 := Scalar.addi v546 c2_i32_293
  let c1_i32_652 : BitVec 32 := 1#32
  let v1229 : BitVec 32 := Scalar.muli v547 c1_i32_652
  let v1230 : BitVec 32 := Scalar.addi c0_i32_653 v1229
  v1230.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_295 : BitVec 32 := 4#32
  let v551 : BitVec 32 := Scalar.muli v323 c4_i32_295
  let c3_i32_296 : BitVec 32 := 3#32
  let v552 : BitVec 32 := Scalar.addi v551 c3_i32_296
  let v553 : BitVec 1 := Scalar.cmpi .ne v2 v552
  let v554 : BitVec 32 := Scalar.extui v553
  let c0_i32_297 : BitVec 32 := 0#32
  let v555 : BitVec 1 := Scalar.cmpi .ne v554 c0_i32_297
  v555

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_295 : BitVec 32 := 4#32
  let v551 : BitVec 32 := Scalar.muli v323 c4_i32_295
  let c3_i32_296 : BitVec 32 := 3#32
  let v552 : BitVec 32 := Scalar.addi v551 c3_i32_296
  ![v552.toNat]
def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_295 : BitVec 32 := 4#32
  let v551 : BitVec 32 := Scalar.muli v323 c4_i32_295
  let c3_i32_296 : BitVec 32 := 3#32
  let v552 : BitVec 32 := Scalar.addi v551 c3_i32_296
  let c64_i32_651 : BitVec 32 := 64#32
  let v1228 : BitVec 32 := Scalar.muli v552 c64_i32_651
  let c0_i32_656 : BitVec 32 := 0#32
  ![v1228.toNat, 0]
def k0_dev24 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v322 : BitVec 32 := Scalar.addi v2 c1_i32_189
  let c4_i32_190 : BitVec 32 := 4#32
  let v323 : BitVec 32 := Scalar.remsi v322 c4_i32_190
  let c4_i32_295 : BitVec 32 := 4#32
  let v551 : BitVec 32 := Scalar.muli v323 c4_i32_295
  let c3_i32_296 : BitVec 32 := 3#32
  let v552 : BitVec 32 := Scalar.addi v551 c3_i32_296
  let c1_i32_652 : BitVec 32 := 1#32
  let v1229 : BitVec 32 := Scalar.muli v552 c1_i32_652
  let v1230 : BitVec 32 := Scalar.addi c0_i32_653 v1229
  v1230.toNat
def k0_mult3 (d0 : Dev nD) : BitVec 32 :=
  let c512_i32_303 : BitVec 32 := 512#32
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c256_i32_300 : BitVec 32 := 256#32
  let v558 : BitVec 32 := Scalar.muli v557 c256_i32_300
  let c128_i32_301 : BitVec 32 := 128#32
  let v559 : BitVec 32 := Scalar.subi v558 c128_i32_301
  let v560 : BitVec 32 := Scalar.maxsi c0_i32_302 v559
  let v561 : BitVec 32 := Scalar.minsi c512_i32_303 v560
  v561
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_395 : BitVec 32 := 4#32
  let v770 : BitVec 32 := Scalar.muli v557 c4_i32_395
  let c0_i32_396 : BitVec 32 := 0#32
  let v771 : BitVec 32 := Scalar.addi v770 c0_i32_396
  let v772 : BitVec 1 := Scalar.cmpi .ne v2 v771
  let v773 : BitVec 32 := Scalar.extui v772
  let c0_i32_397 : BitVec 32 := 0#32
  let v774 : BitVec 1 := Scalar.cmpi .ne v773 c0_i32_397
  v774

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_395 : BitVec 32 := 4#32
  let v770 : BitVec 32 := Scalar.muli v557 c4_i32_395
  let c0_i32_396 : BitVec 32 := 0#32
  let v771 : BitVec 32 := Scalar.addi v770 c0_i32_396
  ![v771.toNat]
def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_395 : BitVec 32 := 4#32
  let v770 : BitVec 32 := Scalar.muli v557 c4_i32_395
  let c0_i32_396 : BitVec 32 := 0#32
  let v771 : BitVec 32 := Scalar.addi v770 c0_i32_396
  let c64_i32_651 : BitVec 32 := 64#32
  let v1228 : BitVec 32 := Scalar.muli v771 c64_i32_651
  let c0_i32_656 : BitVec 32 := 0#32
  ![v1228.toNat, 0]
def k0_dev25 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_395 : BitVec 32 := 4#32
  let v770 : BitVec 32 := Scalar.muli v557 c4_i32_395
  let c0_i32_396 : BitVec 32 := 0#32
  let v771 : BitVec 32 := Scalar.addi v770 c0_i32_396
  let c1_i32_652 : BitVec 32 := 1#32
  let v1229 : BitVec 32 := Scalar.muli v771 c1_i32_652
  let v1230 : BitVec 32 := Scalar.addi c0_i32_653 v1229
  v1230.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_398 : BitVec 32 := 4#32
  let v775 : BitVec 32 := Scalar.muli v557 c4_i32_398
  let c1_i32_399 : BitVec 32 := 1#32
  let v776 : BitVec 32 := Scalar.addi v775 c1_i32_399
  let v777 : BitVec 1 := Scalar.cmpi .ne v2 v776
  let v778 : BitVec 32 := Scalar.extui v777
  let c0_i32_400 : BitVec 32 := 0#32
  let v779 : BitVec 1 := Scalar.cmpi .ne v778 c0_i32_400
  v779

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_398 : BitVec 32 := 4#32
  let v775 : BitVec 32 := Scalar.muli v557 c4_i32_398
  let c1_i32_399 : BitVec 32 := 1#32
  let v776 : BitVec 32 := Scalar.addi v775 c1_i32_399
  ![v776.toNat]
def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_398 : BitVec 32 := 4#32
  let v775 : BitVec 32 := Scalar.muli v557 c4_i32_398
  let c1_i32_399 : BitVec 32 := 1#32
  let v776 : BitVec 32 := Scalar.addi v775 c1_i32_399
  let c64_i32_651 : BitVec 32 := 64#32
  let v1228 : BitVec 32 := Scalar.muli v776 c64_i32_651
  let c0_i32_656 : BitVec 32 := 0#32
  ![v1228.toNat, 0]
def k0_dev26 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_398 : BitVec 32 := 4#32
  let v775 : BitVec 32 := Scalar.muli v557 c4_i32_398
  let c1_i32_399 : BitVec 32 := 1#32
  let v776 : BitVec 32 := Scalar.addi v775 c1_i32_399
  let c1_i32_652 : BitVec 32 := 1#32
  let v1229 : BitVec 32 := Scalar.muli v776 c1_i32_652
  let v1230 : BitVec 32 := Scalar.addi c0_i32_653 v1229
  v1230.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_401 : BitVec 32 := 4#32
  let v780 : BitVec 32 := Scalar.muli v557 c4_i32_401
  let c2_i32_402 : BitVec 32 := 2#32
  let v781 : BitVec 32 := Scalar.addi v780 c2_i32_402
  let v782 : BitVec 1 := Scalar.cmpi .ne v2 v781
  let v783 : BitVec 32 := Scalar.extui v782
  let c0_i32_403 : BitVec 32 := 0#32
  let v784 : BitVec 1 := Scalar.cmpi .ne v783 c0_i32_403
  v784

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_401 : BitVec 32 := 4#32
  let v780 : BitVec 32 := Scalar.muli v557 c4_i32_401
  let c2_i32_402 : BitVec 32 := 2#32
  let v781 : BitVec 32 := Scalar.addi v780 c2_i32_402
  ![v781.toNat]
def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_401 : BitVec 32 := 4#32
  let v780 : BitVec 32 := Scalar.muli v557 c4_i32_401
  let c2_i32_402 : BitVec 32 := 2#32
  let v781 : BitVec 32 := Scalar.addi v780 c2_i32_402
  let c64_i32_651 : BitVec 32 := 64#32
  let v1228 : BitVec 32 := Scalar.muli v781 c64_i32_651
  let c0_i32_656 : BitVec 32 := 0#32
  ![v1228.toNat, 0]
def k0_dev27 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_401 : BitVec 32 := 4#32
  let v780 : BitVec 32 := Scalar.muli v557 c4_i32_401
  let c2_i32_402 : BitVec 32 := 2#32
  let v781 : BitVec 32 := Scalar.addi v780 c2_i32_402
  let c1_i32_652 : BitVec 32 := 1#32
  let v1229 : BitVec 32 := Scalar.muli v781 c1_i32_652
  let v1230 : BitVec 32 := Scalar.addi c0_i32_653 v1229
  v1230.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_404 : BitVec 32 := 4#32
  let v785 : BitVec 32 := Scalar.muli v557 c4_i32_404
  let c3_i32_405 : BitVec 32 := 3#32
  let v786 : BitVec 32 := Scalar.addi v785 c3_i32_405
  let v787 : BitVec 1 := Scalar.cmpi .ne v2 v786
  let v788 : BitVec 32 := Scalar.extui v787
  let c0_i32_406 : BitVec 32 := 0#32
  let v789 : BitVec 1 := Scalar.cmpi .ne v788 c0_i32_406
  v789

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_404 : BitVec 32 := 4#32
  let v785 : BitVec 32 := Scalar.muli v557 c4_i32_404
  let c3_i32_405 : BitVec 32 := 3#32
  let v786 : BitVec 32 := Scalar.addi v785 c3_i32_405
  ![v786.toNat]
def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_404 : BitVec 32 := 4#32
  let v785 : BitVec 32 := Scalar.muli v557 c4_i32_404
  let c3_i32_405 : BitVec 32 := 3#32
  let v786 : BitVec 32 := Scalar.addi v785 c3_i32_405
  let c64_i32_651 : BitVec 32 := 64#32
  let v1228 : BitVec 32 := Scalar.muli v786 c64_i32_651
  let c0_i32_656 : BitVec 32 := 0#32
  ![v1228.toNat, 0]
def k0_dev28 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v556 : BitVec 32 := Scalar.addi v2 c2_i32_298
  let c4_i32_299 : BitVec 32 := 4#32
  let v557 : BitVec 32 := Scalar.remsi v556 c4_i32_299
  let c4_i32_404 : BitVec 32 := 4#32
  let v785 : BitVec 32 := Scalar.muli v557 c4_i32_404
  let c3_i32_405 : BitVec 32 := 3#32
  let v786 : BitVec 32 := Scalar.addi v785 c3_i32_405
  let c1_i32_652 : BitVec 32 := 1#32
  let v1229 : BitVec 32 := Scalar.muli v786 c1_i32_652
  let v1230 : BitVec 32 := Scalar.addi c0_i32_653 v1229
  v1230.toNat
def k0_mult4 (d0 : Dev nD) : BitVec 32 :=
  let c512_i32_412 : BitVec 32 := 512#32
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c256_i32_409 : BitVec 32 := 256#32
  let v792 : BitVec 32 := Scalar.muli v791 c256_i32_409
  let c128_i32_410 : BitVec 32 := 128#32
  let v793 : BitVec 32 := Scalar.subi v792 c128_i32_410
  let v794 : BitVec 32 := Scalar.maxsi c0_i32_411 v793
  let v795 : BitVec 32 := Scalar.minsi c512_i32_412 v794
  v795
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_504 : BitVec 32 := 4#32
  let v1004 : BitVec 32 := Scalar.muli v791 c4_i32_504
  let c0_i32_505 : BitVec 32 := 0#32
  let v1005 : BitVec 32 := Scalar.addi v1004 c0_i32_505
  let v1006 : BitVec 1 := Scalar.cmpi .ne v2 v1005
  let v1007 : BitVec 32 := Scalar.extui v1006
  let c0_i32_506 : BitVec 32 := 0#32
  let v1008 : BitVec 1 := Scalar.cmpi .ne v1007 c0_i32_506
  v1008

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_504 : BitVec 32 := 4#32
  let v1004 : BitVec 32 := Scalar.muli v791 c4_i32_504
  let c0_i32_505 : BitVec 32 := 0#32
  let v1005 : BitVec 32 := Scalar.addi v1004 c0_i32_505
  ![v1005.toNat]
def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_504 : BitVec 32 := 4#32
  let v1004 : BitVec 32 := Scalar.muli v791 c4_i32_504
  let c0_i32_505 : BitVec 32 := 0#32
  let v1005 : BitVec 32 := Scalar.addi v1004 c0_i32_505
  let c64_i32_651 : BitVec 32 := 64#32
  let v1228 : BitVec 32 := Scalar.muli v1005 c64_i32_651
  let c0_i32_656 : BitVec 32 := 0#32
  ![v1228.toNat, 0]
def k0_dev29 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_504 : BitVec 32 := 4#32
  let v1004 : BitVec 32 := Scalar.muli v791 c4_i32_504
  let c0_i32_505 : BitVec 32 := 0#32
  let v1005 : BitVec 32 := Scalar.addi v1004 c0_i32_505
  let c1_i32_652 : BitVec 32 := 1#32
  let v1229 : BitVec 32 := Scalar.muli v1005 c1_i32_652
  let v1230 : BitVec 32 := Scalar.addi c0_i32_653 v1229
  v1230.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_507 : BitVec 32 := 4#32
  let v1009 : BitVec 32 := Scalar.muli v791 c4_i32_507
  let c1_i32_508 : BitVec 32 := 1#32
  let v1010 : BitVec 32 := Scalar.addi v1009 c1_i32_508
  let v1011 : BitVec 1 := Scalar.cmpi .ne v2 v1010
  let v1012 : BitVec 32 := Scalar.extui v1011
  let c0_i32_509 : BitVec 32 := 0#32
  let v1013 : BitVec 1 := Scalar.cmpi .ne v1012 c0_i32_509
  v1013

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_507 : BitVec 32 := 4#32
  let v1009 : BitVec 32 := Scalar.muli v791 c4_i32_507
  let c1_i32_508 : BitVec 32 := 1#32
  let v1010 : BitVec 32 := Scalar.addi v1009 c1_i32_508
  ![v1010.toNat]
def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_507 : BitVec 32 := 4#32
  let v1009 : BitVec 32 := Scalar.muli v791 c4_i32_507
  let c1_i32_508 : BitVec 32 := 1#32
  let v1010 : BitVec 32 := Scalar.addi v1009 c1_i32_508
  let c64_i32_651 : BitVec 32 := 64#32
  let v1228 : BitVec 32 := Scalar.muli v1010 c64_i32_651
  let c0_i32_656 : BitVec 32 := 0#32
  ![v1228.toNat, 0]
def k0_dev30 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_507 : BitVec 32 := 4#32
  let v1009 : BitVec 32 := Scalar.muli v791 c4_i32_507
  let c1_i32_508 : BitVec 32 := 1#32
  let v1010 : BitVec 32 := Scalar.addi v1009 c1_i32_508
  let c1_i32_652 : BitVec 32 := 1#32
  let v1229 : BitVec 32 := Scalar.muli v1010 c1_i32_652
  let v1230 : BitVec 32 := Scalar.addi c0_i32_653 v1229
  v1230.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_510 : BitVec 32 := 4#32
  let v1014 : BitVec 32 := Scalar.muli v791 c4_i32_510
  let c2_i32_511 : BitVec 32 := 2#32
  let v1015 : BitVec 32 := Scalar.addi v1014 c2_i32_511
  let v1016 : BitVec 1 := Scalar.cmpi .ne v2 v1015
  let v1017 : BitVec 32 := Scalar.extui v1016
  let c0_i32_512 : BitVec 32 := 0#32
  let v1018 : BitVec 1 := Scalar.cmpi .ne v1017 c0_i32_512
  v1018

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_510 : BitVec 32 := 4#32
  let v1014 : BitVec 32 := Scalar.muli v791 c4_i32_510
  let c2_i32_511 : BitVec 32 := 2#32
  let v1015 : BitVec 32 := Scalar.addi v1014 c2_i32_511
  ![v1015.toNat]
def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_510 : BitVec 32 := 4#32
  let v1014 : BitVec 32 := Scalar.muli v791 c4_i32_510
  let c2_i32_511 : BitVec 32 := 2#32
  let v1015 : BitVec 32 := Scalar.addi v1014 c2_i32_511
  let c64_i32_651 : BitVec 32 := 64#32
  let v1228 : BitVec 32 := Scalar.muli v1015 c64_i32_651
  let c0_i32_656 : BitVec 32 := 0#32
  ![v1228.toNat, 0]
def k0_dev31 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_510 : BitVec 32 := 4#32
  let v1014 : BitVec 32 := Scalar.muli v791 c4_i32_510
  let c2_i32_511 : BitVec 32 := 2#32
  let v1015 : BitVec 32 := Scalar.addi v1014 c2_i32_511
  let c1_i32_652 : BitVec 32 := 1#32
  let v1229 : BitVec 32 := Scalar.muli v1015 c1_i32_652
  let v1230 : BitVec 32 := Scalar.addi c0_i32_653 v1229
  v1230.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_513 : BitVec 32 := 4#32
  let v1019 : BitVec 32 := Scalar.muli v791 c4_i32_513
  let c3_i32_514 : BitVec 32 := 3#32
  let v1020 : BitVec 32 := Scalar.addi v1019 c3_i32_514
  let v1021 : BitVec 1 := Scalar.cmpi .ne v2 v1020
  let v1022 : BitVec 32 := Scalar.extui v1021
  let c0_i32_515 : BitVec 32 := 0#32
  let v1023 : BitVec 1 := Scalar.cmpi .ne v1022 c0_i32_515
  v1023

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_513 : BitVec 32 := 4#32
  let v1019 : BitVec 32 := Scalar.muli v791 c4_i32_513
  let c3_i32_514 : BitVec 32 := 3#32
  let v1020 : BitVec 32 := Scalar.addi v1019 c3_i32_514
  ![v1020.toNat]
def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_654 : BitVec 32 := 0#32
  let c0_i32_655 : BitVec 32 := 0#32
  ![v2.toNat, 0, 0]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_513 : BitVec 32 := 4#32
  let v1019 : BitVec 32 := Scalar.muli v791 c4_i32_513
  let c3_i32_514 : BitVec 32 := 3#32
  let v1020 : BitVec 32 := Scalar.addi v1019 c3_i32_514
  let c64_i32_651 : BitVec 32 := 64#32
  let v1228 : BitVec 32 := Scalar.muli v1020 c64_i32_651
  let c0_i32_656 : BitVec 32 := 0#32
  ![v1228.toNat, 0]
def k0_dev32 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_407 : BitVec 32 := 3#32
  let v790 : BitVec 32 := Scalar.addi v2 c3_i32_407
  let c4_i32_408 : BitVec 32 := 4#32
  let v791 : BitVec 32 := Scalar.remsi v790 c4_i32_408
  let c4_i32_513 : BitVec 32 := 4#32
  let v1019 : BitVec 32 := Scalar.muli v791 c4_i32_513
  let c3_i32_514 : BitVec 32 := 3#32
  let v1020 : BitVec 32 := Scalar.addi v1019 c3_i32_514
  let c1_i32_652 : BitVec 32 := 1#32
  let v1229 : BitVec 32 := Scalar.muli v1020 c1_i32_652
  let v1230 : BitVec 32 := Scalar.addi c0_i32_653 v1229
  v1230.toNat
def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v1024 : BitVec 32 := Scalar.muli v2 c64_i32
  let v1025 : Index := Scalar.indexCast v1024
  let c0_516 : Index := 0#32
  ![v1025.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_555 : BitVec 32 := 0#32
  let v1084 : BitVec 1 := Scalar.cmpi .ne v2 c0_i32_555
  let v1085 : BitVec 32 := Scalar.extui v1084
  let c0_i32_556 : BitVec 32 := 0#32
  let v1086 : BitVec 1 := Scalar.cmpi .ne v1085 c0_i32_556
  v1086

def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev33 : Nat :=
  let c0_i32_656 : BitVec 32 := 0#32
  let c0_i32_654 : BitVec 32 := 0#32
  let c1_i32_655 : BitVec 32 := 1#32
  let v1230 : BitVec 32 := Scalar.muli c0_i32_654 c1_i32_655
  let v1231 : BitVec 32 := Scalar.addi c0_i32_656 v1230
  v1231.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_557 : BitVec 32 := 1#32
  let v1087 : BitVec 1 := Scalar.cmpi .ne v2 c1_i32_557
  let v1088 : BitVec 32 := Scalar.extui v1087
  let c0_i32_558 : BitVec 32 := 0#32
  let v1089 : BitVec 1 := Scalar.cmpi .ne v1088 c0_i32_558
  v1089

def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev34 : Nat :=
  let c0_i32_656 : BitVec 32 := 0#32
  let c1_i32_654 : BitVec 32 := 1#32
  let c1_i32_655 : BitVec 32 := 1#32
  let v1230 : BitVec 32 := Scalar.muli c1_i32_654 c1_i32_655
  let v1231 : BitVec 32 := Scalar.addi c0_i32_656 v1230
  v1231.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_559 : BitVec 32 := 2#32
  let v1090 : BitVec 1 := Scalar.cmpi .ne v2 c2_i32_559
  let v1091 : BitVec 32 := Scalar.extui v1090
  let c0_i32_560 : BitVec 32 := 0#32
  let v1092 : BitVec 1 := Scalar.cmpi .ne v1091 c0_i32_560
  v1092

def k0_off81 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev35 : Nat :=
  let c0_i32_656 : BitVec 32 := 0#32
  let c2_i32_654 : BitVec 32 := 2#32
  let c1_i32_655 : BitVec 32 := 1#32
  let v1230 : BitVec 32 := Scalar.muli c2_i32_654 c1_i32_655
  let v1231 : BitVec 32 := Scalar.addi c0_i32_656 v1230
  v1231.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_561 : BitVec 32 := 3#32
  let v1093 : BitVec 1 := Scalar.cmpi .ne v2 c3_i32_561
  let v1094 : BitVec 32 := Scalar.extui v1093
  let c0_i32_562 : BitVec 32 := 0#32
  let v1095 : BitVec 1 := Scalar.cmpi .ne v1094 c0_i32_562
  v1095

def k0_off83 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev36 : Nat :=
  let c0_i32_656 : BitVec 32 := 0#32
  let c3_i32_654 : BitVec 32 := 3#32
  let c1_i32_655 : BitVec 32 := 1#32
  let v1230 : BitVec 32 := Scalar.muli c3_i32_654 c1_i32_655
  let v1231 : BitVec 32 := Scalar.addi c0_i32_656 v1230
  v1231.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_563 : BitVec 32 := 4#32
  let v1096 : BitVec 1 := Scalar.cmpi .ne v2 c4_i32_563
  let v1097 : BitVec 32 := Scalar.extui v1096
  let c0_i32_564 : BitVec 32 := 0#32
  let v1098 : BitVec 1 := Scalar.cmpi .ne v1097 c0_i32_564
  v1098

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev37 : Nat :=
  let c0_i32_656 : BitVec 32 := 0#32
  let c4_i32_654 : BitVec 32 := 4#32
  let c1_i32_655 : BitVec 32 := 1#32
  let v1230 : BitVec 32 := Scalar.muli c4_i32_654 c1_i32_655
  let v1231 : BitVec 32 := Scalar.addi c0_i32_656 v1230
  v1231.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_565 : BitVec 32 := 5#32
  let v1099 : BitVec 1 := Scalar.cmpi .ne v2 c5_i32_565
  let v1100 : BitVec 32 := Scalar.extui v1099
  let c0_i32_566 : BitVec 32 := 0#32
  let v1101 : BitVec 1 := Scalar.cmpi .ne v1100 c0_i32_566
  v1101

def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev38 : Nat :=
  let c0_i32_656 : BitVec 32 := 0#32
  let c5_i32_654 : BitVec 32 := 5#32
  let c1_i32_655 : BitVec 32 := 1#32
  let v1230 : BitVec 32 := Scalar.muli c5_i32_654 c1_i32_655
  let v1231 : BitVec 32 := Scalar.addi c0_i32_656 v1230
  v1231.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_567 : BitVec 32 := 6#32
  let v1102 : BitVec 1 := Scalar.cmpi .ne v2 c6_i32_567
  let v1103 : BitVec 32 := Scalar.extui v1102
  let c0_i32_568 : BitVec 32 := 0#32
  let v1104 : BitVec 1 := Scalar.cmpi .ne v1103 c0_i32_568
  v1104

def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev39 : Nat :=
  let c0_i32_656 : BitVec 32 := 0#32
  let c6_i32_654 : BitVec 32 := 6#32
  let c1_i32_655 : BitVec 32 := 1#32
  let v1230 : BitVec 32 := Scalar.muli c6_i32_654 c1_i32_655
  let v1231 : BitVec 32 := Scalar.addi c0_i32_656 v1230
  v1231.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_569 : BitVec 32 := 7#32
  let v1105 : BitVec 1 := Scalar.cmpi .ne v2 c7_i32_569
  let v1106 : BitVec 32 := Scalar.extui v1105
  let c0_i32_570 : BitVec 32 := 0#32
  let v1107 : BitVec 1 := Scalar.cmpi .ne v1106 c0_i32_570
  v1107

def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev40 : Nat :=
  let c0_i32_656 : BitVec 32 := 0#32
  let c7_i32_654 : BitVec 32 := 7#32
  let c1_i32_655 : BitVec 32 := 1#32
  let v1230 : BitVec 32 := Scalar.muli c7_i32_654 c1_i32_655
  let v1231 : BitVec 32 := Scalar.addi c0_i32_656 v1230
  v1231.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_571 : BitVec 32 := 8#32
  let v1108 : BitVec 1 := Scalar.cmpi .ne v2 c8_i32_571
  let v1109 : BitVec 32 := Scalar.extui v1108
  let c0_i32_572 : BitVec 32 := 0#32
  let v1110 : BitVec 1 := Scalar.cmpi .ne v1109 c0_i32_572
  v1110

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off94 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev41 : Nat :=
  let c0_i32_656 : BitVec 32 := 0#32
  let c8_i32_654 : BitVec 32 := 8#32
  let c1_i32_655 : BitVec 32 := 1#32
  let v1230 : BitVec 32 := Scalar.muli c8_i32_654 c1_i32_655
  let v1231 : BitVec 32 := Scalar.addi c0_i32_656 v1230
  v1231.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_573 : BitVec 32 := 9#32
  let v1111 : BitVec 1 := Scalar.cmpi .ne v2 c9_i32_573
  let v1112 : BitVec 32 := Scalar.extui v1111
  let c0_i32_574 : BitVec 32 := 0#32
  let v1113 : BitVec 1 := Scalar.cmpi .ne v1112 c0_i32_574
  v1113

def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev42 : Nat :=
  let c0_i32_656 : BitVec 32 := 0#32
  let c9_i32_654 : BitVec 32 := 9#32
  let c1_i32_655 : BitVec 32 := 1#32
  let v1230 : BitVec 32 := Scalar.muli c9_i32_654 c1_i32_655
  let v1231 : BitVec 32 := Scalar.addi c0_i32_656 v1230
  v1231.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_575 : BitVec 32 := 10#32
  let v1114 : BitVec 1 := Scalar.cmpi .ne v2 c10_i32_575
  let v1115 : BitVec 32 := Scalar.extui v1114
  let c0_i32_576 : BitVec 32 := 0#32
  let v1116 : BitVec 1 := Scalar.cmpi .ne v1115 c0_i32_576
  v1116

def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev43 : Nat :=
  let c0_i32_656 : BitVec 32 := 0#32
  let c10_i32_654 : BitVec 32 := 10#32
  let c1_i32_655 : BitVec 32 := 1#32
  let v1230 : BitVec 32 := Scalar.muli c10_i32_654 c1_i32_655
  let v1231 : BitVec 32 := Scalar.addi c0_i32_656 v1230
  v1231.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_577 : BitVec 32 := 11#32
  let v1117 : BitVec 1 := Scalar.cmpi .ne v2 c11_i32_577
  let v1118 : BitVec 32 := Scalar.extui v1117
  let c0_i32_578 : BitVec 32 := 0#32
  let v1119 : BitVec 1 := Scalar.cmpi .ne v1118 c0_i32_578
  v1119

def k0_off99 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off100 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev44 : Nat :=
  let c0_i32_656 : BitVec 32 := 0#32
  let c11_i32_654 : BitVec 32 := 11#32
  let c1_i32_655 : BitVec 32 := 1#32
  let v1230 : BitVec 32 := Scalar.muli c11_i32_654 c1_i32_655
  let v1231 : BitVec 32 := Scalar.addi c0_i32_656 v1230
  v1231.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_579 : BitVec 32 := 12#32
  let v1120 : BitVec 1 := Scalar.cmpi .ne v2 c12_i32_579
  let v1121 : BitVec 32 := Scalar.extui v1120
  let c0_i32_580 : BitVec 32 := 0#32
  let v1122 : BitVec 1 := Scalar.cmpi .ne v1121 c0_i32_580
  v1122

def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off102 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev45 : Nat :=
  let c0_i32_656 : BitVec 32 := 0#32
  let c12_i32_654 : BitVec 32 := 12#32
  let c1_i32_655 : BitVec 32 := 1#32
  let v1230 : BitVec 32 := Scalar.muli c12_i32_654 c1_i32_655
  let v1231 : BitVec 32 := Scalar.addi c0_i32_656 v1230
  v1231.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_581 : BitVec 32 := 13#32
  let v1123 : BitVec 1 := Scalar.cmpi .ne v2 c13_i32_581
  let v1124 : BitVec 32 := Scalar.extui v1123
  let c0_i32_582 : BitVec 32 := 0#32
  let v1125 : BitVec 1 := Scalar.cmpi .ne v1124 c0_i32_582
  v1125

def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off104 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev46 : Nat :=
  let c0_i32_656 : BitVec 32 := 0#32
  let c13_i32_654 : BitVec 32 := 13#32
  let c1_i32_655 : BitVec 32 := 1#32
  let v1230 : BitVec 32 := Scalar.muli c13_i32_654 c1_i32_655
  let v1231 : BitVec 32 := Scalar.addi c0_i32_656 v1230
  v1231.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_583 : BitVec 32 := 14#32
  let v1126 : BitVec 1 := Scalar.cmpi .ne v2 c14_i32_583
  let v1127 : BitVec 32 := Scalar.extui v1126
  let c0_i32_584 : BitVec 32 := 0#32
  let v1128 : BitVec 1 := Scalar.cmpi .ne v1127 c0_i32_584
  v1128

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off106 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev47 : Nat :=
  let c0_i32_656 : BitVec 32 := 0#32
  let c14_i32_654 : BitVec 32 := 14#32
  let c1_i32_655 : BitVec 32 := 1#32
  let v1230 : BitVec 32 := Scalar.muli c14_i32_654 c1_i32_655
  let v1231 : BitVec 32 := Scalar.addi c0_i32_656 v1230
  v1231.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_585 : BitVec 32 := 15#32
  let v1129 : BitVec 1 := Scalar.cmpi .ne v2 c15_i32_585
  let v1130 : BitVec 32 := Scalar.extui v1129
  let c0_i32_586 : BitVec 32 := 0#32
  let v1131 : BitVec 1 := Scalar.cmpi .ne v1130 c0_i32_586
  v1131

def k0_off107 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off108 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_652 : BitVec 32 := 64#32
  let v1229 : BitVec 32 := Scalar.muli v2 c64_i32_652
  let c0_i32_657 : BitVec 32 := 0#32
  ![v1229.toNat, 0]
def k0_dev48 : Nat :=
  let c0_i32_656 : BitVec 32 := 0#32
  let c15_i32_654 : BitVec 32 := 15#32
  let c1_i32_655 : BitVec 32 := 1#32
  let v1230 : BitVec 32 := Scalar.muli c15_i32_654 c1_i32_655
  let v1231 : BitVec 32 := Scalar.addi c0_i32_656 v1230
  v1231.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_619 : BitVec 32 := 0#32
  let v1180 : BitVec 1 := Scalar.cmpi .ne v2 c0_i32_619
  let v1181 : BitVec 32 := Scalar.extui v1180
  let c0_i32_620 : BitVec 32 := 0#32
  let v1182 : BitVec 1 := Scalar.cmpi .ne v1181 c0_i32_620
  v1182

def k0_off109 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_660 : BitVec 32 := 64#32
  let v1233 : BitVec 32 := Scalar.muli v2 c64_i32_660
  let c0_i32_666 : BitVec 32 := 0#32
  ![v1233.toNat, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_621 : BitVec 32 := 1#32
  let v1183 : BitVec 1 := Scalar.cmpi .ne v2 c1_i32_621
  let v1184 : BitVec 32 := Scalar.extui v1183
  let c0_i32_622 : BitVec 32 := 0#32
  let v1185 : BitVec 1 := Scalar.cmpi .ne v1184 c0_i32_622
  v1185

def k0_off110 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_660 : BitVec 32 := 64#32
  let v1233 : BitVec 32 := Scalar.muli v2 c64_i32_660
  let c0_i32_666 : BitVec 32 := 0#32
  ![v1233.toNat, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_623 : BitVec 32 := 2#32
  let v1186 : BitVec 1 := Scalar.cmpi .ne v2 c2_i32_623
  let v1187 : BitVec 32 := Scalar.extui v1186
  let c0_i32_624 : BitVec 32 := 0#32
  let v1188 : BitVec 1 := Scalar.cmpi .ne v1187 c0_i32_624
  v1188

def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_660 : BitVec 32 := 64#32
  let v1233 : BitVec 32 := Scalar.muli v2 c64_i32_660
  let c0_i32_666 : BitVec 32 := 0#32
  ![v1233.toNat, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_625 : BitVec 32 := 3#32
  let v1189 : BitVec 1 := Scalar.cmpi .ne v2 c3_i32_625
  let v1190 : BitVec 32 := Scalar.extui v1189
  let c0_i32_626 : BitVec 32 := 0#32
  let v1191 : BitVec 1 := Scalar.cmpi .ne v1190 c0_i32_626
  v1191

def k0_off112 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_627 : BitVec 32 := 4#32
  let v1192 : BitVec 1 := Scalar.cmpi .ne v2 c4_i32_627
  let v1193 : BitVec 32 := Scalar.extui v1192
  let c0_i32_628 : BitVec 32 := 0#32
  let v1194 : BitVec 1 := Scalar.cmpi .ne v1193 c0_i32_628
  v1194

def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_660 : BitVec 32 := 64#32
  let v1233 : BitVec 32 := Scalar.muli v2 c64_i32_660
  let c0_i32_666 : BitVec 32 := 0#32
  ![v1233.toNat, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_629 : BitVec 32 := 5#32
  let v1195 : BitVec 1 := Scalar.cmpi .ne v2 c5_i32_629
  let v1196 : BitVec 32 := Scalar.extui v1195
  let c0_i32_630 : BitVec 32 := 0#32
  let v1197 : BitVec 1 := Scalar.cmpi .ne v1196 c0_i32_630
  v1197

def k0_off114 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_631 : BitVec 32 := 6#32
  let v1198 : BitVec 1 := Scalar.cmpi .ne v2 c6_i32_631
  let v1199 : BitVec 32 := Scalar.extui v1198
  let c0_i32_632 : BitVec 32 := 0#32
  let v1200 : BitVec 1 := Scalar.cmpi .ne v1199 c0_i32_632
  v1200

def k0_off115 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_633 : BitVec 32 := 7#32
  let v1201 : BitVec 1 := Scalar.cmpi .ne v2 c7_i32_633
  let v1202 : BitVec 32 := Scalar.extui v1201
  let c0_i32_634 : BitVec 32 := 0#32
  let v1203 : BitVec 1 := Scalar.cmpi .ne v1202 c0_i32_634
  v1203

def k0_off116 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_635 : BitVec 32 := 8#32
  let v1204 : BitVec 1 := Scalar.cmpi .ne v2 c8_i32_635
  let v1205 : BitVec 32 := Scalar.extui v1204
  let c0_i32_636 : BitVec 32 := 0#32
  let v1206 : BitVec 1 := Scalar.cmpi .ne v1205 c0_i32_636
  v1206

def k0_off117 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_660 : BitVec 32 := 64#32
  let v1233 : BitVec 32 := Scalar.muli v2 c64_i32_660
  let c0_i32_666 : BitVec 32 := 0#32
  ![v1233.toNat, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_637 : BitVec 32 := 9#32
  let v1207 : BitVec 1 := Scalar.cmpi .ne v2 c9_i32_637
  let v1208 : BitVec 32 := Scalar.extui v1207
  let c0_i32_638 : BitVec 32 := 0#32
  let v1209 : BitVec 1 := Scalar.cmpi .ne v1208 c0_i32_638
  v1209

def k0_off118 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_639 : BitVec 32 := 10#32
  let v1210 : BitVec 1 := Scalar.cmpi .ne v2 c10_i32_639
  let v1211 : BitVec 32 := Scalar.extui v1210
  let c0_i32_640 : BitVec 32 := 0#32
  let v1212 : BitVec 1 := Scalar.cmpi .ne v1211 c0_i32_640
  v1212

def k0_off119 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_641 : BitVec 32 := 11#32
  let v1213 : BitVec 1 := Scalar.cmpi .ne v2 c11_i32_641
  let v1214 : BitVec 32 := Scalar.extui v1213
  let c0_i32_642 : BitVec 32 := 0#32
  let v1215 : BitVec 1 := Scalar.cmpi .ne v1214 c0_i32_642
  v1215

def k0_off120 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_643 : BitVec 32 := 12#32
  let v1216 : BitVec 1 := Scalar.cmpi .ne v2 c12_i32_643
  let v1217 : BitVec 32 := Scalar.extui v1216
  let c0_i32_644 : BitVec 32 := 0#32
  let v1218 : BitVec 1 := Scalar.cmpi .ne v1217 c0_i32_644
  v1218

def k0_off121 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_645 : BitVec 32 := 13#32
  let v1219 : BitVec 1 := Scalar.cmpi .ne v2 c13_i32_645
  let v1220 : BitVec 32 := Scalar.extui v1219
  let c0_i32_646 : BitVec 32 := 0#32
  let v1221 : BitVec 1 := Scalar.cmpi .ne v1220 c0_i32_646
  v1221

def k0_off122 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_647 : BitVec 32 := 14#32
  let v1222 : BitVec 1 := Scalar.cmpi .ne v2 c14_i32_647
  let v1223 : BitVec 32 := Scalar.extui v1222
  let c0_i32_648 : BitVec 32 := 0#32
  let v1224 : BitVec 1 := Scalar.cmpi .ne v1223 c0_i32_648
  v1224

def k0_off123 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_649 : BitVec 32 := 15#32
  let v1225 : BitVec 1 := Scalar.cmpi .ne v2 c15_i32_649
  let v1226 : BitVec 32 := Scalar.extui v1225
  let c0_i32_650 : BitVec 32 := 0#32
  let v1227 : BitVec 1 := Scalar.cmpi .ne v1226 c0_i32_650
  v1227

def k0_off124 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_659 : BitVec 32 := 64#32
  let v1233 : BitVec 32 := Scalar.muli v2 c64_i32_659
  let c0_i32_665 : BitVec 32 := 0#32
  ![v1233.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S1024x128x128 : Shape := ⟨3, ![1024, 128, 128]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S128x1024x1024 : Shape := ⟨3, ![128, 1024, 1024]⟩
abbrev S1x1024x1024 : Shape := ⟨3, ![1, 1024, 1024]⟩
abbrev S128x1024 : Shape := ⟨2, ![128, 1024]⟩
abbrev S128x1024x1 : Shape := ⟨3, ![128, 1024, 1]⟩
abbrev S1x1024x1 : Shape := ⟨3, ![1, 1024, 1]⟩
abbrev S128x128x1024 : Shape := ⟨3, ![128, 128, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S1024x16384, .f32⟩
  | .hbm, ⟨6, _⟩ => ⟨S1024x128x128, .f32⟩
  | .hbm, ⟨7, _⟩ => ⟨S1024x128x128, .f32⟩
  | .hbm, ⟨8, _⟩ => ⟨S1024x128x128, .f32⟩
  | .hbm, ⟨9, _⟩ => ⟨S1024, .i32⟩
  | .hbm, ⟨10, _⟩ => ⟨S1024x1, .i32⟩
  | .hbm, ⟨11, _⟩ => ⟨S1024, .i32⟩
  | .hbm, ⟨12, _⟩ => ⟨S1x1024, .i32⟩
  | .hbm, ⟨13, _⟩ => ⟨S1024x1024, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i1⟩
  | .hbm, ⟨20, _⟩ => ⟨S128x1024x1024, .f32⟩
  | .hbm, ⟨21, _⟩ => ⟨S_, .f32⟩
  | .hbm, ⟨22, _⟩ => ⟨S128x1024x1024, .f32⟩
  | .hbm, ⟨23, _⟩ => ⟨S128x1024x1024, .f32⟩
  | .hbm, ⟨24, _⟩ => ⟨S1x1024x1024, .i1⟩
  | .hbm, ⟨25, _⟩ => ⟨S_, .f32⟩
  | .hbm, ⟨26, _⟩ => ⟨S_, .f32⟩
  | .hbm, ⟨27, _⟩ => ⟨S128x1024x1024, .i1⟩
  | .hbm, ⟨28, _⟩ => ⟨S128x1024x1024, .f32⟩
  | .hbm, ⟨29, _⟩ => ⟨S128x1024x1024, .f32⟩
  | .hbm, ⟨30, _⟩ => ⟨S_, .f32⟩
  | .hbm, ⟨31, _⟩ => ⟨S128x1024, .f32⟩
  | .hbm, ⟨32, _⟩ => ⟨S128x1024x1, .f32⟩
  | .hbm, ⟨33, _⟩ => ⟨S128x1024x1024, .f32⟩
  | .hbm, ⟨34, _⟩ => ⟨S128x1024x1024, .f32⟩
  | .hbm, ⟨35, _⟩ => ⟨S128x1024x1024, .f32⟩
  | .hbm, ⟨36, _⟩ => ⟨S_, .i1⟩
  | .hbm, ⟨37, _⟩ => ⟨S1024, .i1⟩
  | .hbm, ⟨38, _⟩ => ⟨S1x1024x1, .i1⟩
  | .hbm, ⟨39, _⟩ => ⟨S_, .f32⟩
  | .hbm, ⟨40, _⟩ => ⟨S128x1024, .f32⟩
  | .hbm, ⟨41, _⟩ => ⟨S128x1024x1, .f32⟩
  | .hbm, ⟨42, _⟩ => ⟨S_, .f32⟩
  | .hbm, ⟨43, _⟩ => ⟨S_, .f32⟩
  | .hbm, ⟨44, _⟩ => ⟨S128x1024x1, .i1⟩
  | .hbm, ⟨45, _⟩ => ⟨S128x1024x1, .f32⟩
  | .hbm, ⟨46, _⟩ => ⟨S128x1024x1, .f32⟩
  | .hbm, ⟨47, _⟩ => ⟨S128x1024x1024, .f32⟩
  | .hbm, ⟨48, _⟩ => ⟨S128x1024x1024, .f32⟩
  | .hbm, ⟨49, _⟩ => ⟨S1x1024x1, .i1⟩
  | .hbm, ⟨50, _⟩ => ⟨S_, .f32⟩
  | .hbm, ⟨51, _⟩ => ⟨S_, .f32⟩
  | .hbm, ⟨52, _⟩ => ⟨S128x1024x1024, .i1⟩
  | .hbm, ⟨53, _⟩ => ⟨S128x1024x1024, .f32⟩
  | .hbm, ⟨54, _⟩ => ⟨S128x1024x1024, .f32⟩
  | .hbm, ⟨55, _⟩ => ⟨S128x128x1024, .f32⟩
  | .hbm, ⟨56, _⟩ => ⟨S1024x128x128, .f32⟩
  | .hbm, ⟨57, _⟩ => ⟨S1024x16384, .f32⟩
  | .hbm, ⟨58, _⟩ => ⟨S1024x1024, .f32⟩
  | .hbm, ⟨59, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.KI.Comm.lean ====
/-
The exchange of the kernel: its cells, their one round, what each device owes and pays, as a schedule of the rounds library.

Every device has 65 cells: the runtime's barrier semaphore and four families of sixteen DMA semaphores (the sends of the
reduce-scatter, its landings, the sends of the all-gather, its landings), the family's entry `j` being about device `j`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's with its duties named by devices, the local copies' counters -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The cells -/

/-- A device's cells: the barrier, or entry `j` of family `k` (0 the reduce-scatter's sends, 1 its landings, 2 the
    all-gather's sends, 3 its landings). -/
abbrev CI : Type := Option (Fin 4 × Fin 16)

/-- The runtime's barrier semaphore. -/
abbrev barS : Sem sig := (SemArray.scalar (sig.barrier 0 rfl) : Sems sig S_).sem

/-- The DMA semaphore of entry `j` of family `k`. -/
def dix (k : Fin 4) (j : Fin 16) : DmaSem sig := (⟨6 + 16 * k.val + j.val, by omega⟩ : Fin 70)

def csem : CI → SemLoc sig
  | none => .reg barS
  | some kj => .dma (dix kj.1 kj.2)

abbrev kcell (ck : Dev nD × CI) : GSem nD τ sig := ((ck.1 : Thread nD τ), csem ck.2)
abbrev barCell (c : Dev nD) : GSem nD τ sig := ((c : Thread nD τ), .reg barS)
abbrev cell (c : Dev nD) (k : Fin 4) (j : Fin 16) : GSem nD τ sig := ((c : Thread nD τ), .dma (dix k j))

theorem dix_val (k : Fin 4) (j : Fin 16) : (dix k j).val = 6 + 16 * k.val + j.val := rfl

theorem dix_inj {k k' : Fin 4} {j j' : Fin 16} (h : dix k j = dix k' j') : k = k' ∧ j = j' := by
  have := congrArg Fin.val h
  rw [dix_val, dix_val] at this
  exact ⟨Fin.ext (by omega), Fin.ext (by omega)⟩

theorem csem_injective : Function.Injective csem := by
  rintro (_ | ⟨k, j⟩) (_ | ⟨k', j'⟩) h
  · rfl
  · cases h
  · cases h
  · have := dix_inj (SemLoc.dma.inj h)
    obtain ⟨h1, h2⟩ := this
    simp only at h1 h2
    rw [h1, h2]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The buffers of the exchange -/

abbrev partM : Memref sig .tc .vmem S1024x1024 .bf16 := Memref.whole cc0_scratch7
abbrev redM : Memref sig .tc .vmem S64x1024 .f32 := Memref.whole cc0_scratch8
abbrev commM : Memref sig .tc .vmem S16x64x1024 .bf16 := Memref.whole cc0_scratch9
abbrev outM : Memref sig .tc .vmem S1024x1024 .bf16 := Memref.whole cc0_stg3_0

theorem inb_rows (j : Fin 16) : ∀ a, (![64 * j.val, 0] : Fin 2 → ℕ) a + S64x1024.size a ≤ S1024x1024.size a := by
  intro a; fin_cases a
  · show 64 * j.val + 64 ≤ 1024; omega
  · show 0 + 1024 ≤ 1024; omega
theorem inb_slab (j : Fin 16) : ∀ a, (![j.val, 0, 0] : Fin 3 → ℕ) a + S1x64x1024.size a ≤ S16x64x1024.size a := by
  intro a; fin_cases a
  · show j.val + 1 ≤ 16; omega
  · show 0 + 64 ≤ 64; omega
  · show 0 + 1024 ≤ 1024; omega

/-- Rows `64 j … 64 j + 63`. -/
abbrev rows (j : Fin 16) : Rect S1024x1024 := Rect.unit (s := S1024x1024) ![64 * j.val, 0] S64x1024.size (inb_rows j)
abbrev slabR (j : Fin 16) : Rect S16x64x1024 := Rect.unit (s := S16x64x1024) ![j.val, 0, 0] S1x64x1024.size (inb_slab j)

/-- The block of rows `j` of the partial product, of the result; the landing slab `j`. -/
abbrev pCh (j : Fin 16) : Memref sig .tc .vmem S64x1024 .bf16 := partM.slice (rows j) (fun _ => rfl)
abbrev oCh (j : Fin 16) : Memref sig .tc .vmem S64x1024 .bf16 := outM.slice (rows j) (fun _ => rfl)
abbrev cSl (j : Fin 16) : Memref sig .tc .vmem S64x1024 .bf16 :=
  (commM.slice (slabR j) (fun _ => rfl)).squeeze S64x1024 squeezes_S1x64x1024_S64x1024

/-- What a transfer of one block credits. -/
def N : ℕ := (cSl 0).view.dmaCredit
theorem N_pos : 0 < N := View.dmaCredit_pos _ (by decide)
theorem credit_slab (j : Fin 16) : (cSl j).view.dmaCredit = N := rfl
theorem credit_out (j : Fin 16) : (oCh j).view.dmaCredit = N := rfl
theorem credit_part (j : Fin 16) : (pCh j).view.dmaCredit = N := rfl

/-! ## The values exchanged

`PF c` is the partial product of device `c`. Device `c` sums row block `c` of all of them: its own first, then the others
in order; the sum, rounded, is row block `c` of the result. -/

abbrev BMat (F : FTy → Type) : Type := Vec F S1024x1024 .bf16
abbrev BRow (F : FTy → Type) : Type := Vec F S64x1024 .bf16
abbrev FRow (F : FTy → Type) : Type := Vec F S64x1024 .f32

variable (PF : Dev nD → BMat F)

/-- Row block `j` of the partial product of device `s`. -/
def pblk (s : Dev nD) (j : Fin 16) : BRow F := (pCh j).view.read (Elt F) (PF s)

/-- The running sum of device `c` after device `j`'s block. -/
def acc (c : Dev nD) (j : Fin 16) (f : FRow F) : FRow F :=
  if j = c then f else addf f (extf .f32 (pblk PF j c) bitsLt_bf16_f32)

/-- The order of the devices in every counted loop of the exchange. -/
def ord : List (Fin 16) := [0, 1, 2, 3, 4, 5, 6, 7, 8, 9, 10, 11, 12, 13, 14, 15]

/-- The sum of row block `c` over the devices. -/
def redV (c : Dev nD) : FRow F := ord.foldl (fun f j => acc PF c j f) (k0_pay77 (pblk PF c c))

/-- Row block `c` of the result. -/
def outV (c : Dev nD) : BRow F := k0_pay94 (redV PF c)

/-- The result: row block `j` is device `j`'s. -/
def OF : BMat F := fun i => outV PF (⟨(i 0).val / 64, Nat.div_lt_of_lt_mul (i 0).isLt⟩ : Fin 16)
  (fun a => match a with
    | ⟨0, _⟩ => (⟨(i 0).val % 64, Nat.mod_lt _ (by decide)⟩ : Fin 64)
    | ⟨1, _⟩ => (i 1 : Fin 1024))

/-! ## The payloads -/

/-- A block's elements at contents `f`, at share `q`. -/
def pPts (c : Dev nD) (j : Fin 16) (f : BMat F) : sProp 𝕄 := (pCh j).view.loc (c : Thread nD τ) ↦[(pCh j).view.set]{fullShare} f
def oPts (q : PosShare TreeShare) (c : Dev nD) (j : Fin 16) (f : BMat F) : sProp 𝕄 :=
  (oCh j).view.loc (c : Thread nD τ) ↦[(oCh j).view.set]{q} f
def cPts (c : Dev nD) (j : Fin 16) (f : Vec F S16x64x1024 .bf16) : sProp 𝕄 :=
  (cSl j).view.loc (c : Thread nD τ) ↦[(cSl j).view.set]{fullShare} f

/-- The share of its own block of the result device `c` lends the copy to device `j`. -/
def oShare (j : Fin 16) : PosShare TreeShare := Transfers.shareTok fullShare 16 j

/-- With its barrier signal device `d` hands device `c` the places of `c`'s blocks in `d`'s buffers. -/
def barPay (c d : Dev nD) : sProp 𝕄 :=
  if d = c then iprop(emp) else iprop((∃ f, cPts (F := F) d c f) ∗ ∃ f, oPts (F := F) fullShare d c f)
/-- A landed block: slab `j` of device `c` reads as row block `c` of device `j`'s partial product. -/
def landed (c : Dev nD) (j : Fin 16) : sProp 𝕄 :=
  iprop(∃ f, ⌜(cSl j).view.read (Elt F) f = pblk PF j c⌝ ∗ cPts c j f)

/-- What entry `j` of family `k` of device `c` pays. -/
def dmaPay (c : Dev nD) (k j : ℕ) : sProp 𝕄 :=
  if h : j < 16 then
    if k = 0 then pPts c ⟨j, h⟩ (PF c)
    else if k = 1 then landed PF c ⟨j, h⟩
    else if k = 2 then oPts (oShare ⟨j, h⟩) c c (OF PF)
    else oPts fullShare c ⟨j, h⟩ (OF PF)
  else iprop(emp)

/-- The devices that owe a cell its round. -/
def dut (g : GSem nD τ sig) (r : ℕ) : Finset (Fin 16) :=
  if r = 0 ∧ g.1.2 = .tc then
    (match g.2 with
      | .reg _ => Finset.univ
      | .dma s => if (s.val - 6) % 16 = g.1.1.val then ∅ else {0})
  else ∅

/-- The schedule: one round. A barrier cell has one duty of one unit per device; entry `j` of a family one duty of the
    block's credit, unless `j` is the device itself. -/
def Rd : Rounds.Schedule (GSem nD τ sig) (Fin 16) 𝕄 where
  duties := dut
  unitless _ := False
  amount g _ _ := match g.2 with
    | .reg _ => 1
    | .dma _ => N
  payload g _ d := match g.2 with
    | .reg _ => barPay g.1.1 d
    | .dma s => dmaPay PF g.1.1 ((s.val - 6) / 16) ((s.val - 6) % 16)
  amount_pos g _ _ _ := by
    rcases g with ⟨_, _ | _⟩
    · exact Nat.one_pos
    · exact N_pos

instance pPts_storable (c : Dev nD) (j : Fin 16) (f : BMat F) : BI.Storable (upEmb : UEmb _ 𝕄) (pPts c j f) := by
  unfold pPts; infer_instance
instance oPts_storable (q : PosShare TreeShare) (c : Dev nD) (j : Fin 16) (f : BMat F) :
    BI.Storable (upEmb : UEmb _ 𝕄) (oPts q c j f) := by
  unfold oPts; infer_instance
instance cPts_storable (c : Dev nD) (j : Fin 16) (f : Vec F S16x64x1024 .bf16) :
    BI.Storable (upEmb : UEmb _ 𝕄) (cPts c j f) := by
  unfold cPts; infer_instance
instance barPay_storable (c d : Dev nD) : BI.Storable (upEmb : UEmb _ 𝕄) (barPay (F := F) c d) := by
  unfold barPay; split <;> infer_instance
instance landed_storable (c : Dev nD) (j : Fin 16) : BI.Storable (upEmb : UEmb _ 𝕄) (landed PF c j) := by
  unfold landed; infer_instance
instance dmaPay_storable (c : Dev nD) (k j : ℕ) : BI.Storable (upEmb : UEmb _ 𝕄) (dmaPay PF c k j) := by
  unfold dmaPay; (repeat' split) <;> infer_instance

instance Rd_payload_storable (g : GSem nD τ sig) (r : ℕ) (d : Fin 16) :
    BI.Storable (upEmb : UEmb _ 𝕄) ((Rd PF).payload g r d) := by
  rcases g with ⟨⟨c, t⟩, s | s⟩
  · exact barPay_storable _ _
  · exact dmaPay_storable PF _ _ _

section Sched
variable (c : Dev nD) (k : Fin 4) (j : Fin 16)

theorem dix_div : ((dix k j).val - 6) / 16 = k.val := by rw [dix_val]; omega
theorem dix_mod : ((dix k j).val - 6) % 16 = j.val := by rw [dix_val]; omega

theorem duties_bar : (Rd PF).duties (barCell c) 0 = Finset.univ := by
  have h : (0 : ℕ) = 0 ∧ (barCell c).1.2 = .tc := ⟨rfl, rfl⟩
  show dut (barCell c) 0 = _
  unfold dut; rw [if_pos h]
theorem duties_cell : (Rd PF).duties (cell c k j) 0 = if j = c then ∅ else {0} := by
  have h : (0 : ℕ) = 0 ∧ (cell c k j).1.2 = .tc := ⟨rfl, rfl⟩
  show dut (cell c k j) 0 = _
  unfold dut; rw [if_pos h]
  show (if ((dix k j).val - 6) % 16 = c.val then _ else _) = _
  rw [dix_mod]
  by_cases h : j = c
  · rw [if_pos h, if_pos (congrArg Fin.val h)]
  · rw [if_neg h, if_neg fun e => h (Fin.ext e)]
theorem duties_self : (Rd PF).duties (cell c k c) 0 = ∅ := by rw [duties_cell, if_pos rfl]
theorem duties_dma (h : j ≠ c) : (Rd PF).duties (cell c k j) 0 = {0} := by rw [duties_cell, if_neg h]
theorem duties_later (g : GSem nD τ sig) : ∀ r, 1 ≤ r → (Rd PF).duties g r = ∅ :=
  fun r hr => if_neg fun h => by omega
theorem amount_bar (d : Fin 16) : (Rd PF).amount (barCell c) 0 d = 1 := rfl
theorem amount_dma (d : Fin 16) : (Rd PF).amount (cell c k j) 0 d = N := rfl
theorem expect_bar : (Rd PF).expect (barCell c) 0 = 16 := by
  unfold Schedule.expect Schedule.amountOf
  rw [duties_bar, Finset.sum_congr rfl fun d _ => amount_bar PF c d, Finset.sum_const, Finset.card_univ, Fintype.card_fin, smul_eq_mul]
theorem expect_dma (h : j ≠ c) : (Rd PF).expect (cell c k j) 0 = N := by
  unfold Schedule.expect Schedule.amountOf; rw [duties_dma PF c k j h, Finset.sum_singleton, amount_dma]
theorem payload_bar (d : Fin 16) : (Rd PF).payload (barCell c) 0 d = barPay c d := rfl
theorem payload_dma (d : Fin 16) : (Rd PF).payload (cell c k j) 0 d = dmaPay PF c k.val j.val := by
  show dmaPay PF c _ _ = _
  rw [dix_div, dix_mod]
theorem payload_0 (d : Fin 16) : (Rd PF).payload (cell c 0 j) 0 d = pPts c j (PF c) := by
  rw [payload_dma]; unfold dmaPay; rw [dif_pos j.isLt]; exact if_pos rfl
theorem payload_1 (d : Fin 16) : (Rd PF).payload (cell c 1 j) 0 d = landed PF c j := by
  rw [payload_dma]; unfold dmaPay; rw [dif_pos j.isLt, if_neg (by decide)]; exact if_pos rfl
theorem payload_2 (d : Fin 16) : (Rd PF).payload (cell c 2 j) 0 d = oPts (oShare j) c c (OF PF) := by
  rw [payload_dma]; unfold dmaPay; rw [dif_pos j.isLt, if_neg (by decide), if_neg (by decide)]; exact if_pos rfl
theorem payload_3 (d : Fin 16) : (Rd PF).payload (cell c 3 j) 0 d = oPts fullShare c j (OF PF) := by
  rw [payload_dma]; unfold dmaPay; rw [dif_pos j.isLt, if_neg (by decide), if_neg (by decide)]; exact if_neg (by decide)

/-- All that a waited cell pays at its round. -/
theorem rest_dma (h : j ≠ c) : bigSep ((Rd PF).duties (cell c k j) 0 \ ∅) (fun d => (Rd PF).payload (cell c k j) 0 d)
    = (Rd PF).payload (cell c k j) 0 0 := by
  rw [Finset.sdiff_empty, duties_dma PF c k j h, bigSep_singleton]
theorem rest_bar : bigSep ((Rd PF).duties (barCell c) 0 \ ∅) (fun d => (Rd PF).payload (barCell c) 0 d)
    = bigSep Finset.univ fun d : Fin 16 => barPay c d := by
  rw [Finset.sdiff_empty, duties_bar]; rfl

end Sched

end Cert.KernelIdeal.Pf

end
-- ==== Proof.KI.Steps.lean ====
/-
The exchange step by step: one lemma per kind of step of the kernel, each from a state to the next.
-/
module

public import proofs.«01_k».proof.Proof.KI.Comm

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Families over a list of devices -/

/-- The conjunction of a family over a list. -/
def sepL (Φ : Fin 16 → sProp 𝕄) : List (Fin 16) → sProp 𝕄
  | [] => iprop(emp)
  | j :: l => iprop(Φ j ∗ sepL Φ l)

omit [FloatOps F] in
theorem sepL_cons (Φ : Fin 16 → sProp 𝕄) (j : Fin 16) (l : List (Fin 16)) : sepL Φ (j :: l) = iprop(Φ j ∗ sepL Φ l) := rfl
omit [FloatOps F] in
theorem sepL_nil (Φ : Fin 16 → sProp 𝕄) : sepL Φ [] = iprop(emp) := rfl

omit [FloatOps F] in
theorem sepL_toFinset (Φ : Fin 16 → sProp 𝕄) : ∀ l : List (Fin 16), l.Nodup → sepL Φ l = bigSep l.toFinset Φ
  | [], _ => by rw [List.toFinset_nil, bigSep_empty]; rfl
  | j :: l, h => by
    rw [List.toFinset_cons, bigSep_insert (fun hm => (List.nodup_cons.mp h).1 (List.mem_toFinset.mp hm)),
      ← sepL_toFinset Φ l (List.nodup_cons.mp h).2]
    rfl

omit [FloatOps F] in
/-- The family over all devices, in the order of a list of them. -/
theorem sepL_univ (Φ : Fin 16 → sProp 𝕄) (l : List (Fin 16)) (h : l.Nodup) (hl : ∀ j, j ∈ l) :
    sepL Φ l = bigSep Finset.univ Φ := by
  rw [sepL_toFinset Φ l h]
  exact congrArg (fun s => bigSep s Φ) (Finset.eq_univ_iff_forall.mpr fun j => List.mem_toFinset.mpr (hl j))

theorem ord_nodup : ord.Nodup := by decide
theorem ord_all : ∀ j, j ∈ ord := by decide
theorem rev_nodup : ord.reverse.Nodup := by decide
theorem rev_all : ∀ j, j ∈ ord.reverse := by decide

/-! ## What a device still owes, over a list of devices -/

/-- A unit to each barrier; a block's credit to entry `c` of each other device's landing families. -/
def owB (c : Dev nD) : List (Fin 16) → CellTallies nD τ sig Unit
  | [] => 0
  | j :: l => owB c l + tallyAt (barCell j) () 1
def owK (k : Fin 4) (c : Dev nD) : List (Fin 16) → CellTallies nD τ sig Unit
  | [] => 0
  | j :: l => owK k c l + if j = c then 0 else tallyAt (cell j k c) () N

/-- Device `u` of the quarter of devices handled at round `t` of device `c`. -/
def od (c : Dev nD) (t u : ℕ) : Fin 16 := ⟨(4 * ((c.val + t) % 4) + u % 4), by omega⟩
/-- The order in which device `c` sends the blocks of its partial product. -/
def ord1 (c : Dev nD) : List (Fin 16) :=
  [od c 0 0, od c 0 1, od c 0 2, od c 0 3, od c 1 0, od c 1 1, od c 1 2, od c 1 3,
    od c 2 0, od c 2 1, od c 2 2, od c 2 3, od c 3 0, od c 3 1, od c 3 2, od c 3 3]
theorem ord1_nodup : ∀ c, (ord1 c).Nodup := by decide +kernel
theorem ord1_all : ∀ c j, j ∈ ord1 c := by decide +kernel
theorem rev1_nodup (c : Dev nD) : (ord1 c).reverse.Nodup := List.nodup_reverse.mpr (ord1_nodup c)
theorem rev1_all (c : Dev nD) (j : Fin 16) : j ∈ (ord1 c).reverse := List.mem_reverse.mpr (ord1_all c j)

/-- What a device owes when it starts. -/
def O₀ (c : Dev nD) : CellTallies nD τ sig Unit := owB c ord + (owK 1 c (ord1 c) + owK 3 c ord)

/-! ## Levels: staging and sends below the barrier, the barrier below the landings, the first landings below the second -/

def L (g : GSem nD τ sig) : Finset Unit := if g.1.2 = .tc then {()} else ∅
def lvS : SemLoc sig → ℕ
  | .reg _ => 1
  | .dma s => if 54 ≤ s.val then 3 else if 22 ≤ s.val ∧ s.val < 38 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_1 (c : Dev nD) (j : Fin 16) : lv (cell c 1 j) () = 2 := by
  show (if 54 ≤ (dix 1 j).val then 3 else if 22 ≤ (dix 1 j).val ∧ (dix 1 j).val < 38 then 2 else 0) = 2
  rw [dix_val, if_neg (by have := j.isLt; show ¬ 54 ≤ 6 + 16 * 1 + j.val; omega), if_pos (by have := j.isLt; show 22 ≤ 6 + 16 * 1 + j.val ∧ 6 + 16 * 1 + j.val < 38; omega)]
theorem lv_3 (c : Dev nD) (j : Fin 16) : lv (cell c 3 j) () = 3 := by
  show (if 54 ≤ (dix 3 j).val then 3 else if 22 ≤ (dix 3 j).val ∧ (dix 3 j).val < 38 then 2 else 0) = 3
  rw [dix_val, if_pos (by show 54 ≤ 6 + 16 * 3 + j.val; omega)]

theorem owB_pos {c : Dev nD} {g : GSem nD τ sig} {u : Unit} : ∀ {l : List (Fin 16)}, 0 < owB c l g u → ∃ j, g = barCell j
  | [], h => absurd h (Nat.lt_irrefl 0)
  | j :: l, h => by
    unfold owB at h
    rw [Pi.add_apply, Finsupp.add_apply, tallyAt_apply] at h
    by_cases hg : g = barCell j ∧ u = ()
    · exact ⟨j, hg.1⟩
    · rw [if_neg hg] at h; exact owB_pos h
theorem owK_pos {k : Fin 4} {c : Dev nD} {g : GSem nD τ sig} {u : Unit} : ∀ {l : List (Fin 16)}, 0 < owK k c l g u → ∃ j, g = cell j k c
  | [], h => absurd h (Nat.lt_irrefl 0)
  | j :: l, h => by
    unfold owK at h
    rw [Pi.add_apply, Finsupp.add_apply] at h
    by_cases hj : j = c
    · rw [if_pos hj] at h; exact owK_pos h
    · rw [if_neg hj, tallyAt_apply] at h
      by_cases hg : g = cell j k c ∧ u = ()
      · exact ⟨j, hg.1⟩
      · rw [if_neg hg] at h; exact owK_pos h

omit [FloatOps F] in
/-- A device may wait on a cell of its own lying below everything it owes. -/
theorem mayWait_cut (c : Dev nD) (sm : SemLoc sig) (b : ℕ) (O : CellTallies nD τ sig Unit) (hb : lvS sm ≤ b)
    (hO : ∀ g u, 0 < O g u → L g = {()} ∧ b < lv g ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [(hO g u hg).1]; exact Finset.mem_singleton_self _)
    (fun p hp => by rw [Finset.mem_singleton.mp hp]; exact hb)
    (fun g u hg => (hO g u hg).2)

omit [FloatOps F] in
theorem mayWait_stage (c : Dev nD) (sm : SemLoc sig) (hs : lvS sm = 0) :
    (levAts L lv : sProp 𝕄) ⊢ MayWait (c : Thread nD τ) sm () (O₀ c) :=
  mayWait_cut c sm 0 _ (le_of_eq hs) fun g u h => by
    unfold O₀ at h
    rw [Pi.add_apply, Finsupp.add_apply, Pi.add_apply, Finsupp.add_apply] at h
    rcases Nat.add_pos_iff_pos_or_pos.mp h with h | h
    · obtain ⟨j, rfl⟩ := owB_pos h; exact ⟨L_tc _ _, by rw [lv_bar]; decide⟩
    · rcases Nat.add_pos_iff_pos_or_pos.mp h with h | h
      · obtain ⟨j, rfl⟩ := owK_pos h; exact ⟨L_tc _ _, by rw [lv_1]; decide⟩
      · obtain ⟨j, rfl⟩ := owK_pos h; exact ⟨L_tc _ _, by rw [lv_3]; decide⟩

omit [FloatOps F] in
theorem mayWait_low (c : Dev nD) (sm : SemLoc sig) (hs : lvS sm ≤ 1) (l l' : List (Fin 16)) :
    (levAts L lv : sProp 𝕄) ⊢ MayWait (c : Thread nD τ) sm () (owK 1 c l + owK 3 c l') :=
  mayWait_cut c sm 1 _ hs fun g u h => by
    rw [Pi.add_apply, Finsupp.add_apply] at h
    rcases Nat.add_pos_iff_pos_or_pos.mp h with h | h
    · obtain ⟨j, rfl⟩ := owK_pos h; exact ⟨L_tc _ _, by rw [lv_1]; decide⟩
    · obtain ⟨j, rfl⟩ := owK_pos h; exact ⟨L_tc _ _, by rw [lv_3]; decide⟩

omit [FloatOps F] in
theorem mayWait_s1 (c : Dev nD) (j : Fin 16) (l : List (Fin 16)) :
    (levAts L lv : sProp 𝕄) ⊢ MayWait (c : Thread nD τ) (.dma (dix 1 j)) () (owK 3 c l) :=
  mayWait_cut c _ 2 _ (le_of_eq (lv_1 c j)) fun g u h => by
    obtain ⟨i, rfl⟩ := owK_pos h; exact ⟨L_tc _ _, by rw [lv_3]; decide⟩

/-! ## The records -/

variable (PF : Dev nD → BMat F) (K : Dev nD × CI → ℕ)

/-- Every cell's invariant, and that it has reached its round. -/
def records : sProp 𝕄 :=
  iprop((bigSep Finset.univ fun ck : Dev nD × CI => cellInv ER (Rd PF) (K ck) (kcell ck))
    ∗ bigSep Finset.univ fun ck : Dev nD × CI => reached ER (kcell ck) 0)

instance records_persistent : BI.Persistent (records PF K) := by unfold records; infer_instance

theorem inv_at (ck : Dev nD × CI) : records PF K ⊢ cellInv ER (Rd PF) (K ck) (kcell ck) := by
  unfold records; iintro ⟨H, -⟩
  iapply (show (bigSep Finset.univ fun ck : Dev nD × CI => (cellInv ER (Rd PF) (K ck) (kcell ck) : sProp 𝕄)) ⊢ cellInv ER (Rd PF) (K ck) (kcell ck)
    from bigSep_elim (Finset.mem_univ ck))
  iexact H
theorem reached_at (ck : Dev nD × CI) : records PF K ⊢ reached ER (kcell ck) 0 := by
  unfold records; iintro ⟨-, H⟩
  iapply (show (bigSep Finset.univ fun ck : Dev nD × CI => (reached ER (kcell ck) 0 : sProp 𝕄)) ⊢ reached ER (kcell ck) 0
    from bigSep_elim (Finset.mem_univ ck))
  iexact H
theorem inv_bar (c : Dev nD) : records PF K ⊢ cellInv ER (Rd PF) (K (c, none)) (barCell c) := inv_at PF K (c, none)
theorem reached_bar (c : Dev nD) : records PF K ⊢ reached ER (barCell c) 0 := reached_at PF K (c, none)
theorem inv_cell (c : Dev nD) (k : Fin 4) (j : Fin 16) : records PF K ⊢ cellInv ER (Rd PF) (K (c, some (k, j))) (cell c k j) :=
  inv_at PF K (c, some (k, j))
theorem reached_cell (c : Dev nD) (k : Fin 4) (j : Fin 16) : records PF K ⊢ reached ER (cell c k j) 0 :=
  reached_at PF K (c, some (k, j))

/-- A device owing `O` on some history of waits. -/
def ow (c : Dev nD) (O : CellTallies nD τ sig Unit) : sProp 𝕄 := iprop(∃ W, owes (c : Thread nD τ) O W)

/-! ## A guarded step -/

/-- A step run under a condition: from `S` to `S'` when it holds, and `S` is `S'` when it does not. -/
theorem guard {α : Type} {c : Dev nD} {C : Prop} [Decidable C] {S S' : sProp 𝕄}
    {a : C → Prog (TpuEff nD τ sig (Elt F) Λ₀ .tc) α} {p : Prog (TpuEff nD τ sig (Elt F) Λ₀ .tc) α} {Q : α → sProp 𝕄}
    (h1 : ∀ h : C, S ⊢ iprop((S' -∗ wp frame (wpE (defs₀ (F := F)) 𝒱₀ (c : Thread nD τ) none) Set.univ p Q) -∗ wp frame (wpE (defs₀ (F := F)) 𝒱₀ (c : Thread nD τ) none) Set.univ (a h) Q)) (h2 : ¬ C → S ⊢ S') :
    S ⊢ iprop((S' -∗ wp frame (wpE (defs₀ (F := F)) 𝒱₀ (c : Thread nD τ) none) Set.univ p Q) -∗ wp frame (wpE (defs₀ (F := F)) 𝒱₀ (c : Thread nD τ) none) Set.univ (dite C a (fun _ => p)) Q) := by
  by_cases h : C
  · rw [dif_pos h]; exact h1 h
  · rw [dif_neg h]
    iintro HS Hk
    iapply Hk
    iapply (h2 h); iexact HS

/-! ## The barrier -/

/-- What the signal to device `j` takes. -/
def todoB (c : Dev nD) (j : Fin 16) : sProp 𝕄 := iprop(barPay j c ∗ dutyTok ER (barCell j) 0 c)

def StB (c : Dev nD) (l : List (Fin 16)) : sProp 𝕄 :=
  iprop(records PF K ∗ sepL (todoB c) l ∗ ow c (owB c l + (owK 1 c (ord1 c) + owK 3 c ord)))

theorem sig_step {α : Type} {Q : α → sProp 𝕄} {k : PUnit → Prog (TpuEff nD τ sig (Elt F) Λ₀ .tc) α}
    (c : Dev nD) (j : Fin 16) (l : List (Fin 16)) (n : Dev nD) (hn : n = j) (a : ℕ) (ha : a = 1) :
    StB PF K c (j :: l) ⊢ iprop((StB PF K c l -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS a) k) Q) := by
  subst hn ha
  unfold StB ow
  rw [sepL_cons]
  iintro ⟨#HR, ⟨Ht, Hts⟩, ⟨%W, HO⟩⟩ Hk
  unfold todoB
  icases Ht with ⟨Hp, Htok⟩
  iapply (Rounds.wp_signal 𝒱₀ ER (Rd PF) (c : Thread nD τ) none (dst := (n : Thread nD τ)) (κ := K (n, none))
      (d := c) (by rw [duties_bar]; exact Finset.mem_univ _) (amount_bar PF n c) ()
      (owB c l + (owK 1 c (ord1 c) + owK 3 c ord)) (W := W) (show owB c (n :: l) + (owK 1 c (ord1 c) + owK 3 c ord) = _ from add_right_comm _ _ _)) $$ [HO Hp Htok]
  · isplitr; · iapply (inv_bar PF K n); iexact HR
    isplitl [HO]; · iexact HO
    isplitl [Htok]; · iexact Htok
    isplitl [Hp]; · rw [payload_bar]; iexact Hp
    iapply (reached_bar PF K n); iexact HR
  iintro HO
  iapply Hk
  isplitr; · iexact HR
  isplitl [Hts]; · iexact Hts
  iexists W; iexact HO

/-- The barrier's wait: every device's places come with it. -/
theorem bar_wait {α : Type} {Q : α → sProp 𝕄} {k : PUnit → Prog (TpuEff nD τ sig (Elt F) Λ₀ .tc) α}
    (c : Dev nD) (a : ℕ) (ha : a = 16) :
    iprop(StB PF K c [] ∗ cred (tallyAt (barCell c) () 16) ∗ atPos ER (barCell c) 0 ∅ 0 ∗ levAts L lv)
      ⊢ iprop(((records PF K ∗ (bigSep Finset.univ fun d : Fin 16 => barPay c d) ∗ atPos ER (barCell c) 1 ∅ 0
            ∗ ow c (owK 1 c (ord1 c) + owK 3 c ord)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold StB ow
  iintro ⟨⟨#HR, -, ⟨%W, HO⟩⟩, Hc, Hat, #Hlev⟩ Hk
  rw [show owB c [] = 0 from rfl, zero_add]
  iapply (Rounds.wp_wait_rest_token 𝒱₀ ER (Rd PF) (c : Thread nD τ) none (κ := K (c, none))
      (wpE_semWait_eq 𝒱₀ (c : Thread nD τ) none Set.univ) (Set.mem_univ _) () (O := owK 1 c (ord1 c) + owK 3 c ord) (W := W) (R := 0) (m := 0) (T := ∅)
      (by rw [expect_bar])) $$ [Hc HO Hat]
  · isplitr; · iapply (inv_bar PF K c); iexact HR
    isplitl [Hc]; · iexact Hc
    isplitl [HO]; · iexact HO
    isplitr; · iapply (mayWait_low c (.reg barS) (le_refl _)); iexact Hlev
    iexact Hat
  iintro ⟨HO, Hat, -, Hpay⟩
  iapply Hk
  isplitr; · iexact HR
  isplitl [Hpay]; · iapply (Entails.of_eq (rest_bar PF c)); iexact Hpay
  isplitl [Hat]; · iexact Hat
  iexists _; iexact HO

end Cert.KernelIdeal.Pf

end
-- ==== Proof.KI.Sends.lean ====
/-
The sends of the exchange and the waits on its entries.
-/
module

public import proofs.«01_k».proof.Proof.KI.Steps

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (PF : Dev nD → BMat F) (K : Dev nD × CI → ℕ)

/-! ## The buffers seen through their blocks -/

omit [FloatOps F] in
/-- Contents agreeing through a view agree on the view's elements. -/
theorem eq_of_read {sh : Shape} {e : EltTy} {κ : Kind} {sp : Space} (v : View sig κ sp sh e) (f g : v.ty.Contents (Elt F))
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact cast_inj _ |>.mp hx

/-! ## The reduce-scatter's sends -/

/-- What the send of block `j` takes: the landing slab at device `j` and the two duties. -/
def todo1 (c : Dev nD) (j : Fin 16) : sProp 𝕄 :=
  if j = c then iprop(emp) else
    iprop((∃ f, cPts (F := F) j c f) ∗ dutyTok ER (cell c 0 j) 0 0 ∗ dutyTok ER (cell j 1 c) 0 0)
omit [FloatOps F] in
theorem todo1_ne (c : Dev nD) (j : Fin 16) (h : j ≠ c) : (todo1 c j : sProp 𝕄) = iprop((∃ f, cPts (F := F) j c f) ∗ dutyTok ER (cell c 0 j) 0 0 ∗ dutyTok ER (cell j 1 c) 0 0) := if_neg h
/-- What stays after it: the block itself if it is the device's own, else the credit of its send. -/
def snt1 (c : Dev nD) (j : Fin 16) : sProp 𝕄 :=
  if j = c then pPts c j (PF c) else cred (tallyAt (cell c 0 j) () N)

def St1 (c : Dev nD) (chs todo done : List (Fin 16)) : sProp 𝕄 :=
  iprop(records PF K ∗ sepL (fun j => pPts c j (PF c)) chs ∗ sepL (todo1 c) todo ∗ sepL (snt1 PF c) done
    ∗ ow c (owK 1 c todo + owK 3 c ord))

/-- What the copy of a block leaves in its landing slab. -/
theorem landed1 (c n : Dev nD) (fd : Vec F S16x64x1024 .bf16) :
    ((cSl c).view.loc (n : Thread nD τ) ↦[(cSl c).view.set]{fullShare}
        (cSl c).view.write (Elt F) fd ((pCh n).view.read (Elt F) (PF c)) Finset.univ : sProp 𝕄)
      ⊢ (Rd PF).payload (cell n 1 c) 0 0 := by
  rw [payload_1]; unfold landed cPts
  iintro H
  iexists _
  isplitr
  rotate_left
  · iexact H
  · ipureintro; exact View.read_write_univ _ _

theorem routes_all (c n : Dev nD) : τ.routes (c : Thread nD τ) (n : Thread nD τ) = true := by routes

theorem send1_wp {α : Type} {Q : α → sProp 𝕄} {k : PUnit → Prog (TpuEff nD τ sig (Elt F) Λ₀ .tc) α}
    (c n : Dev nD) (hj : n ≠ c) (O : CellTallies nD τ sig Unit) (W : Waits sig Unit) (fd : Vec F S16x64x1024 .bf16)
    {hsc : (cSl c : Memref sig (Dev.tc n : Thread nD τ).2.kind .vmem S64x1024 .bf16).view.ref.isScScratch = false}
    {hsrc : (pCh n).view.WordExact} {hdst : (cSl c).view.WordExact}
    {hsem : DmaTarget.Typed .vmem (.dma (dix 1 c)) (.remote (Dev.tc n : Thread nD τ) (cSl c : Memref sig (Dev.tc n : Thread nD τ).2.kind .vmem S64x1024 .bf16) (.dma (dix 0 n)) hsc)} :
    iprop(cellInv ER (Rd PF) (K (c, some (0, n))) (cell c 0 n) ∗ cellInv ER (Rd PF) (K (n, some (1, c))) (cell n 1 c)
        ∗ pPts c n (PF c) ∗ cPts n c fd
        ∗ owes (c : Thread nD τ) (O + tallyAt (cell n 1 c) () N) W
        ∗ dutyTok ER (cell c 0 n) 0 0 ∗ reached ER (cell c 0 n) 0
        ∗ dutyTok ER (cell n 1 c) 0 0 ∗ reached ER (cell n 1 c) 0)
      ⊢ iprop(((cred (tallyAt (cell c 0 n) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (pCh n) (.remote (Dev.tc n : Thread nD τ) (cSl c) (.dma (dix 0 n)) hsc) (.dma (dix 1 c)) hsrc hdst hsem) k) Q) := by
  unfold pPts cPts
  exact Rounds.wp_send_pointsTo 𝒱₀ ER (Rd PF) (c : Thread nD τ) none (κ₁ := K (c, some (0, n))) (κ₂ := K (n, some (1, c)))
    (r₁ := 0) (r₂ := 0) (d₁ := 0) (d₂ := 0) (c' := (n : Thread nD τ)) (src := pCh n) (dst := cSl c) (sS := .dma (dix 0 n)) (sem := .dma (dix 1 c)) (fd := fd) (fs := PF c) (q := fullShare)
    (by rw [duties_dma PF c 0 n hj]; exact Finset.mem_singleton_self _) (by rw [duties_dma PF n 1 c (Ne.symm hj)]; exact Finset.mem_singleton_self _)
    () () N (credit_slab c) (amount_dma PF c 0 n 0) (amount_dma PF n 1 c 0) O rfl (W := W)
    (by rw [payload_0]; exact BI.Entails.refl _)
    (landed1 PF c n fd) (hr := routes_all c n)

theorem send1 {α : Type} {Q : α → sProp 𝕄} {k : PUnit → Prog (TpuEff nD τ sig (Elt F) Λ₀ .tc) α}
    (c : Dev nD) (j : Fin 16) (chs todo done : List (Fin 16)) (hj : j ≠ c) (n : Dev nD) (hn : n = j)
    (src : Memref sig .tc .vmem S64x1024 .bf16) (hsr : src = pCh j)
    (dst : Memref sig (Dev.tc n : Thread nD τ).2.kind .vmem S64x1024 .bf16) (hds : dst = cSl c)
    (sS sR : DmaSem sig) (hS : sS = dix 0 j) (hR : sR = dix 1 c)
    {hsc : dst.view.ref.isScScratch = false} {hsrc : src.view.WordExact} {hdst : dst.view.WordExact}
    {hsem : DmaTarget.Typed .vmem (.dma sR) (.remote (Dev.tc n : Thread nD τ) dst (.dma sS) hsc)} :
    St1 PF K c (j :: chs) (j :: todo) done
      ⊢ iprop((St1 PF K c chs todo (j :: done) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) k) Q) := by
  subst hn hsr hds hS hR
  unfold St1 ow
  rw [sepL_cons, sepL_cons, sepL_cons]
  iintro ⟨#HR, ⟨Hp, Hchs⟩, ⟨Ht, Hts⟩, Hd, ⟨%W, HO⟩⟩ Hk
  ihave Ht := (Entails.of_eq (todo1_ne c n hj)) $$ Ht
  icases Ht with ⟨⟨%fd, Hc⟩, HtS, HtR⟩
  rw [show owK 1 c (n :: todo) + owK 3 c ord = (owK 1 c todo + owK 3 c ord) + tallyAt (cell n 1 c) () N from by rw [owK, if_neg hj]; exact add_right_comm _ _ _]
  iapply (send1_wp PF K c n hj (owK 1 c todo + owK 3 c ord) W fd) $$ [Hp Hc HO HtS HtR]
  · isplitr; · iapply (inv_cell PF K c 0 n); iexact HR
    isplitr; · iapply (inv_cell PF K n 1 c); iexact HR
    isplitl [Hp]; · iexact Hp
    isplitl [Hc]; · iexact Hc
    isplitl [HO]; · iexact HO
    isplitl [HtS]; · iexact HtS
    isplitr; · iapply (reached_cell PF K c 0 n); iexact HR
    isplitl [HtR]; · iexact HtR
    iapply (reached_cell PF K n 1 c); iexact HR
  iintro ⟨HcS, HO⟩
  iapply Hk
  isplitr; · iexact HR
  isplitl [Hchs]; · iexact Hchs
  isplitl [Hts]; · iexact Hts
  isplitl [HcS Hd]
  · isplitl [HcS]; · unfold snt1; rw [if_neg hj]; iexact HcS
    iexact Hd
  iexists W; iexact HO

/-- At the device's own block nothing is sent. -/
theorem skip1 (c : Dev nD) (j : Fin 16) (chs todo done : List (Fin 16)) (hj : j = c) :
    St1 PF K c (j :: chs) (j :: todo) done ⊢ St1 PF K c chs todo (j :: done) := by
  unfold St1
  rw [sepL_cons, sepL_cons, sepL_cons, owK, if_pos hj, add_zero]
  iintro ⟨#HR, ⟨Hp, Hchs⟩, ⟨-, Hts⟩, Hd, HO⟩
  isplitr; · iexact HR
  isplitl [Hchs]; · iexact Hchs
  isplitl [Hts]; · iexact Hts
  isplitl [Hp Hd]
  · isplitl [Hp]; · unfold snt1; rw [if_pos hj]; iexact Hp
    iexact Hd
  iexact HO

/-! ## The all-gather's sends -/

def todo2 (c : Dev nD) (j : Fin 16) : sProp 𝕄 :=
  if j = c then iprop(emp) else
    iprop((∃ f, oPts (F := F) fullShare j c f) ∗ dutyTok ER (cell c 2 j) 0 0 ∗ dutyTok ER (cell j 3 c) 0 0)
omit [FloatOps F] in
theorem todo2_ne (c : Dev nD) (j : Fin 16) (h : j ≠ c) : (todo2 c j : sProp 𝕄) = iprop((∃ f, oPts (F := F) fullShare j c f) ∗ dutyTok ER (cell c 2 j) 0 0 ∗ dutyTok ER (cell j 3 c) 0 0) := if_neg h
def snt2 (c : Dev nD) (j : Fin 16) : sProp 𝕄 :=
  if j = c then oPts (oShare j) c c (OF PF) else cred (tallyAt (cell c 2 j) () N)

def St3 (c : Dev nD) (todo done : List (Fin 16)) : sProp 𝕄 :=
  iprop(records PF K ∗ sepL (fun j => oPts (oShare j) c c (OF PF)) todo ∗ sepL (todo2 c) todo ∗ sepL (snt2 PF c) done
    ∗ ow c (owK 3 c todo))

/-- What a copy of a block leaves in a buffer is, on the block, the contents copied. -/
theorem copied (c : Dev nD) (n : Dev nD) (fd G : BMat F) :
    ((oCh c).view.loc (n : Thread nD τ) ↦[(oCh c).view.set]{fullShare}
        (oCh c).view.write (Elt F) fd ((oCh c).view.read (Elt F) G) Finset.univ : sProp 𝕄)
      ⊢ oPts fullShare n c G := by
  unfold oPts
  exact Entails.of_eq (pointsTo_congr (eq_of_read (oCh c).view _ G (View.read_write_univ _ _)))

theorem copied3 (c n : Dev nD) (fd : BMat F) :
    ((oCh c).view.loc (n : Thread nD τ) ↦[(oCh c).view.set]{fullShare}
        (oCh c).view.write (Elt F) fd ((oCh c).view.read (Elt F) (OF PF)) Finset.univ : sProp 𝕄)
      ⊢ (Rd PF).payload (cell n 3 c) 0 0 := by
  rw [payload_3]; exact copied c n fd (OF PF)

theorem send2_wp {α : Type} {Q : α → sProp 𝕄} {k : PUnit → Prog (TpuEff nD τ sig (Elt F) Λ₀ .tc) α}
    (c n : Dev nD) (hj : n ≠ c) (O : CellTallies nD τ sig Unit) (W : Waits sig Unit) (fd : BMat F)
    {hsc : (oCh c : Memref sig (Dev.tc n : Thread nD τ).2.kind .vmem S64x1024 .bf16).view.ref.isScScratch = false}
    {hsrc : (oCh c).view.WordExact} {hdst : (oCh c).view.WordExact}
    {hsem : DmaTarget.Typed .vmem (.dma (dix 3 c)) (.remote (Dev.tc n : Thread nD τ) (oCh c : Memref sig (Dev.tc n : Thread nD τ).2.kind .vmem S64x1024 .bf16) (.dma (dix 2 n)) hsc)} :
    iprop(cellInv ER (Rd PF) (K (c, some (2, n))) (cell c 2 n) ∗ cellInv ER (Rd PF) (K (n, some (3, c))) (cell n 3 c)
        ∗ oPts (oShare n) c c (OF PF) ∗ oPts fullShare n c fd
        ∗ owes (c : Thread nD τ) (O + tallyAt (cell n 3 c) () N) W
        ∗ dutyTok ER (cell c 2 n) 0 0 ∗ reached ER (cell c 2 n) 0
        ∗ dutyTok ER (cell n 3 c) 0 0 ∗ reached ER (cell n 3 c) 0)
      ⊢ iprop(((cred (tallyAt (cell c 2 n) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (oCh c) (.remote (Dev.tc n : Thread nD τ) (oCh c) (.dma (dix 2 n)) hsc) (.dma (dix 3 c)) hsrc hdst hsem) k) Q) := by
  unfold oPts
  exact Rounds.wp_send_pointsTo 𝒱₀ ER (Rd PF) (c : Thread nD τ) none (κ₁ := K (c, some (2, n))) (κ₂ := K (n, some (3, c)))
    (r₁ := 0) (r₂ := 0) (d₁ := 0) (d₂ := 0) (c' := (n : Thread nD τ)) (src := oCh c) (dst := oCh c) (sS := .dma (dix 2 n)) (sem := .dma (dix 3 c)) (fd := fd) (fs := OF PF) (q := oShare n)
    (by rw [duties_dma PF c 2 n hj]; exact Finset.mem_singleton_self _) (by rw [duties_dma PF n 3 c (Ne.symm hj)]; exact Finset.mem_singleton_self _)
    () () N (credit_out c) (amount_dma PF c 2 n 0) (amount_dma PF n 3 c 0) O rfl (W := W)
    (by rw [payload_2]; exact BI.Entails.refl _)
    (copied3 PF c n fd) (hr := routes_all c n)

theorem send2 {α : Type} {Q : α → sProp 𝕄} {k : PUnit → Prog (TpuEff nD τ sig (Elt F) Λ₀ .tc) α}
    (c : Dev nD) (j : Fin 16) (todo done : List (Fin 16)) (hj : j ≠ c) (n : Dev nD) (hn : n = j)
    (src : Memref sig .tc .vmem S64x1024 .bf16) (hsr : src = oCh c)
    (dst : Memref sig (Dev.tc n : Thread nD τ).2.kind .vmem S64x1024 .bf16) (hds : dst = oCh c)
    (sS sR : DmaSem sig) (hS : sS = dix 2 j) (hR : sR = dix 3 c)
    {hsc : dst.view.ref.isScScratch = false} {hsrc : src.view.WordExact} {hdst : dst.view.WordExact}
    {hsem : DmaTarget.Typed .vmem (.dma sR) (.remote (Dev.tc n : Thread nD τ) dst (.dma sS) hsc)} :
    St3 PF K c (j :: todo) done
      ⊢ iprop((St3 PF K c todo (j :: done) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) k) Q) := by
  subst hn hsr hds hS hR
  unfold St3 ow
  rw [sepL_cons, sepL_cons, sepL_cons]
  iintro ⟨#HR, ⟨Hp, Hchs⟩, ⟨Ht, Hts⟩, Hd, ⟨%W, HO⟩⟩ Hk
  ihave Ht := (Entails.of_eq (todo2_ne c n hj)) $$ Ht
  icases Ht with ⟨⟨%fd, Hc⟩, HtS, HtR⟩
  rw [show owK 3 c (n :: todo) = owK 3 c todo + tallyAt (cell n 3 c) () N from by rw [owK, if_neg hj]]
  iapply (send2_wp PF K c n hj (owK 3 c todo) W fd) $$ [Hp Hc HO HtS HtR]
  · isplitr; · iapply (inv_cell PF K c 2 n); iexact HR
    isplitr; · iapply (inv_cell PF K n 3 c); iexact HR
    isplitl [Hp]; · iexact Hp
    isplitl [Hc]; · iexact Hc
    isplitl [HO]; · iexact HO
    isplitl [HtS]; · iexact HtS
    isplitr; · iapply (reached_cell PF K c 2 n); iexact HR
    isplitl [HtR]; · iexact HtR
    iapply (reached_cell PF K n 3 c); iexact HR
  iintro ⟨HcS, HO⟩
  iapply Hk
  isplitr; · iexact HR
  isplitl [Hchs]; · iexact Hchs
  isplitl [Hts]; · iexact Hts
  isplitl [HcS Hd]
  · isplitl [HcS]; · unfold snt2; rw [if_neg hj]; iexact HcS
    iexact Hd
  iexists W; iexact HO

theorem skip2 (c : Dev nD) (j : Fin 16) (todo done : List (Fin 16)) (hj : j = c) :
    St3 PF K c (j :: todo) done ⊢ St3 PF K c todo (j :: done) := by
  unfold St3
  rw [sepL_cons, sepL_cons, sepL_cons, owK, if_pos hj, add_zero]
  iintro ⟨#HR, ⟨Hp, Hchs⟩, ⟨-, Hts⟩, Hd, HO⟩
  isplitr; · iexact HR
  isplitl [Hchs]; · iexact Hchs
  isplitl [Hts]; · iexact Hts
  isplitl [Hp Hd]
  · isplitl [Hp]; · unfold snt2; rw [if_pos hj]; iexact Hp
    iexact Hd
  iexact HO

/-! ## Waits on a device's own entries -/

/-- The position at entry `j` of family `k` once its round, if it has one, is over. -/
def aft (c : Dev nD) (k : Fin 4) (j : Fin 16) : sProp 𝕄 := atPos ER (cell c k j) (if j = c then 0 else 1) ∅ 0
/-- Before it. -/
def bef (c : Dev nD) (k : Fin 4) (j : Fin 16) : sProp 𝕄 := atPos ER (cell c k j) 0 ∅ 0

theorem aft_self (c : Dev nD) (k : Fin 4) (j : Fin 16) (h : j = c) : (bef c k j : sProp 𝕄) ⊢ aft c k j := by
  unfold bef aft; rw [if_pos h]

/-- The wait on entry `j` of family `k`: the entry's payload comes with it. -/
theorem wait_cell {α : Type} {Q : α → sProp 𝕄} {k : PUnit → Prog (TpuEff nD τ sig (Elt F) Λ₀ .tc) α}
    (c : Dev nD) (f : Fin 4) (j : Fin 16) (hj : j ≠ c) (O : CellTallies nD τ sig Unit) (s : DmaSem sig) (hs : s = dix f j)
    {sp sp' : Space} {sh sh' : Shape} {e e' : EltTy} {src : Memref sig .tc sp sh e} {dst : Memref sig .tc sp' sh' e'} (hN : dst.view.dmaCredit = N)
    {h1} {h2} :
    iprop(records PF K ∗ cred (tallyAt (cell c f j) () N) ∗ MayWait (c : Thread nD τ) (.dma (dix f j)) () O ∗ bef c f j ∗ ow c O)
      ⊢ iprop(((dmaPay PF c f.val j.val ∗ aft c f j ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) k) Q) := by
  subst hs
  unfold bef ow
  iintro ⟨#HR, Hc, Hmw, Hat, ⟨%W, HO⟩⟩ Hk
  iapply (Rounds.wp_wait_rest_token 𝒱₀ ER (Rd PF) (c : Thread nD τ) none (κ := K (c, some (f, j)))
      (wpE_waitDma2_eq 𝒱₀ (c : Thread nD τ) none Set.univ) (Set.mem_univ _) () (O := O) (W := W) (R := 0) (m := 0) (T := ∅)
      (by rw [Nat.zero_add, expect_dma PF c f j hj, hN])) $$ [Hc Hmw HO Hat]
  · isplitr; · iapply (inv_cell PF K c f j); iexact HR
    isplitl [Hc]; · rw [hN]; iexact Hc
    isplitl [HO]; · iexact HO
    isplitl [Hmw]; · iexact Hmw
    iexact Hat
  iintro ⟨HO, Hat, -, Hpay⟩
  iapply Hk
  isplitl [Hpay]
  · iapply (Entails.of_eq ((rest_dma PF c f j hj).trans (payload_dma PF c f j 0))); iexact Hpay
  isplitl [Hat]; · unfold aft; rw [if_neg hj]; iexact Hat
  iexists _; iexact HO

end Cert.KernelIdeal.Pf

end
-- ==== Proof.KI.Vals.lean ====
module

public import proofs.«01_k».proof.Proof.KI.Sends
public import proofs.«01_k».proof.Proof.Gen.KernelIdeal.Points
public import Idealize.ShloMosaic.Lib.VecWindow
public import Idealize.ShloMosaic.Lib.Pointwise.Reshape

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The two slabs of the weight scratch -/

/-- The first slab of the scratch the weights' windows are copied into, as the kernel spells it. -/
abbrev wSl0 : Memref sig .tc .vmem S1024x1024 .f32 :=
  ((Memref.whole cc0_scratch3).slice (Rect.unit (s := S2x1024x1024) ![0, 0, 0] S1x1024x1024.size inb_S2x1024x1024_S1x1024x1024_0_0_0) (fun _ => rfl)).squeeze S1024x1024 squeezes_S1x1024x1024_S1024x1024

/-- The second slab. -/
abbrev wSl1 : Memref sig .tc .vmem S1024x1024 .f32 :=
  ((Memref.whole cc0_scratch3).slice (Rect.unit (s := S2x1024x1024) ![1, 0, 0] S1x1024x1024.size inb_S2x1024x1024_S1x1024x1024_1_0_0) (fun _ => rfl)).squeeze S1024x1024 squeezes_S1x1024x1024_S1024x1024

/-- The window of the query weights that device `c` copies in: its own columns. -/
def wqW (c : Dev nD) (wq : Vec F S1024x16384 .f32) : Vec F S1024x1024 .f32 :=
  ((Memref.whole main_arg3).slice (Rect.unit (s := S1024x16384) (k0_off1 c) S1024x1024.size (k0_off1_inb c)) (fun _ => rfl)).view.read (Elt F) wq

/-- The window of the output weights that device `c` copies in: its own rows. -/
def woW (c : Dev nD) (wo : Vec F S16384x1024 .f32) : Vec F S1024x1024 .f32 :=
  ((Memref.whole main_arg4).slice (Rect.unit (s := S16384x1024) (k0_off2 c) S1024x1024.size (k0_off2_inb c)) (fun _ => rfl)).view.read (Elt F) wo

/-- A square array rounded to the narrow format, as every operand is. -/
def nar (w : Vec F S1024x1024 .f32) : BMat F := truncf .bf16 w bitsLt_bf16_f32

theorem pay1_eq (w : Vec F S1024x1024 .f32) : k0_pay1 w = nar w := by unfold k0_pay1 nar; simp only [shapeCast_id]
theorem pay2_eq (w : Vec F S1024x1024 .f32) : k0_pay2 w = nar w := by unfold k0_pay2 nar; simp only [shapeCast_id]
theorem pay3_eq (w : Vec F S1024x1024 .f32) : k0_pay3 w = nar w := by unfold k0_pay3 nar; simp only [shapeCast_id]

theorem slab0_read (d : Vec F S1024x1024 .f32) :
    k0_pay4 (F := F) (View.readAt (Elt F) (Memref.whole cc0_scratch3).view
      (Rect.unit (s := S2x1024x1024) ![0, 0, 0] S1x1024x1024.size inb_S2x1024x1024_S1x1024x1024_0_0_0).toLoadRect
      (wSl0.view.writes (Elt F) wSl0.view.junk [⟨Rect.whole S1024x1024, d⟩])) = nar d := by
  have h := View.read_writes_whole (Val := Elt F) wSl0.view wSl0.view.junk d
  have h' : shapeCast S1024x1024 (View.readAt (Elt F) (Memref.whole cc0_scratch3).view
      (Rect.unit (s := S2x1024x1024) ![0, 0, 0] S1x1024x1024.size inb_S2x1024x1024_S1x1024x1024_0_0_0).toLoadRect
      (wSl0.view.writes (Elt F) wSl0.view.junk [⟨Rect.whole S1024x1024, d⟩])) shapeCasts_S1x1024x1024_S1024x1024 = d := h
  unfold k0_pay4 nar
  rw [h']; simp only [shapeCast_id]

theorem slab1_read (d : Vec F S1024x1024 .f32) :
    k0_pay5 (F := F) (View.readAt (Elt F) (Memref.whole cc0_scratch3).view
      (Rect.unit (s := S2x1024x1024) ![1, 0, 0] S1x1024x1024.size inb_S2x1024x1024_S1x1024x1024_1_0_0).toLoadRect
      (wSl1.view.writes (Elt F) wSl1.view.junk [⟨Rect.whole S1024x1024, d⟩])) = nar d := by
  have h := View.read_writes_whole (Val := Elt F) wSl1.view wSl1.view.junk d
  have h' : shapeCast S1024x1024 (View.readAt (Elt F) (Memref.whole cc0_scratch3).view
      (Rect.unit (s := S2x1024x1024) ![1, 0, 0] S1x1024x1024.size inb_S2x1024x1024_S1x1024x1024_1_0_0).toLoadRect
      (wSl1.view.writes (Elt F) wSl1.view.junk [⟨Rect.whole S1024x1024, d⟩])) shapeCasts_S1x1024x1024_S1024x1024 = d := h
  unfold k0_pay5 nar
  rw [h']; simp only [shapeCast_id]

/-- A whole buffer stored at its own sizes holds what was stored. -/
theorem writes_whole_full (b : Ref sig .tc) (f : b.ty.Contents (Elt F)) {off : Fin b.ty.shape.rank → ℕ}
    (hi : ∀ a, off a + b.ty.shape.size a ≤ b.ty.shape.size a) (w : b.ty.shape.Idx → Elt F b.ty.elt) :
    (Memref.whole b).view.writes (Elt F) f [⟨Rect.unit off b.ty.shape.size hi, w⟩] = w :=
  View.read_writes_full (Val := Elt F) (Memref.whole b).view f hi w []

theorem store_0 (c : Dev nD) (f w w' : BMat F) (hi) (hw : w = w') :
    ((Memref.whole cc0_scratch0).view.loc (c : Thread nD τ) ↦{fullShare} ((Memref.whole cc0_scratch0).view.writes (Elt F) f
      [⟨Rect.unit (s := S1024x1024) ![0, 0] S1024x1024.size hi, w⟩]) : sProp 𝕄)
      ⊢ (Memref.whole cc0_scratch0).view.loc (c : Thread nD τ) ↦{fullShare} w' := by
  have e : (Memref.whole cc0_scratch0).view.writes (Elt F) f
      [⟨Rect.unit (s := S1024x1024) ![0, 0] S1024x1024.size hi, w⟩] = w := writes_whole_full cc0_scratch0 f hi w
  rw [e, hw]

theorem store_1 (c : Dev nD) (f w w' : BMat F) (hi) (hw : w = w') :
    ((Memref.whole cc0_scratch1).view.loc (c : Thread nD τ) ↦{fullShare} ((Memref.whole cc0_scratch1).view.writes (Elt F) f
      [⟨Rect.unit (s := S1024x1024) ![0, 0] S1024x1024.size hi, w⟩]) : sProp 𝕄)
      ⊢ (Memref.whole cc0_scratch1).view.loc (c : Thread nD τ) ↦{fullShare} w' := by
  have e : (Memref.whole cc0_scratch1).view.writes (Elt F) f
      [⟨Rect.unit (s := S1024x1024) ![0, 0] S1024x1024.size hi, w⟩] = w := writes_whole_full cc0_scratch1 f hi w
  rw [e, hw]

theorem store_2 (c : Dev nD) (f w w' : BMat F) (hi) (hw : w = w') :
    ((Memref.whole cc0_scratch2).view.loc (c : Thread nD τ) ↦{fullShare} ((Memref.whole cc0_scratch2).view.writes (Elt F) f
      [⟨Rect.unit (s := S1024x1024) ![0, 0] S1024x1024.size hi, w⟩]) : sProp 𝕄)
      ⊢ (Memref.whole cc0_scratch2).view.loc (c : Thread nD τ) ↦{fullShare} w' := by
  have e : (Memref.whole cc0_scratch2).view.writes (Elt F) f
      [⟨Rect.unit (s := S1024x1024) ![0, 0] S1024x1024.size hi, w⟩] = w := writes_whole_full cc0_scratch2 f hi w
  rw [e, hw]

theorem store_4 (c : Dev nD) (f w w' : BMat F) (hi) (hw : w = w') :
    ((Memref.whole cc0_scratch4).view.loc (c : Thread nD τ) ↦{fullShare} ((Memref.whole cc0_scratch4).view.writes (Elt F) f
      [⟨Rect.unit (s := S1024x1024) ![0, 0] S1024x1024.size hi, w⟩]) : sProp 𝕄)
      ⊢ (Memref.whole cc0_scratch4).view.loc (c : Thread nD τ) ↦{fullShare} w' := by
  have e : (Memref.whole cc0_scratch4).view.writes (Elt F) f
      [⟨Rect.unit (s := S1024x1024) ![0, 0] S1024x1024.size hi, w⟩] = w := writes_whole_full cc0_scratch4 f hi w
  rw [e, hw]

theorem store_5 (c : Dev nD) (f w w' : BMat F) (hi) (hw : w = w') :
    ((Memref.whole cc0_scratch5).view.loc (c : Thread nD τ) ↦{fullShare} ((Memref.whole cc0_scratch5).view.writes (Elt F) f
      [⟨Rect.unit (s := S1024x1024) ![0, 0] S1024x1024.size hi, w⟩]) : sProp 𝕄)
      ⊢ (Memref.whole cc0_scratch5).view.loc (c : Thread nD τ) ↦{fullShare} w' := by
  have e : (Memref.whole cc0_scratch5).view.writes (Elt F) f
      [⟨Rect.unit (s := S1024x1024) ![0, 0] S1024x1024.size hi, w⟩] = w := writes_whole_full cc0_scratch5 f hi w
  rw [e, hw]

/-- A load of a whole square buffer reads it. -/
theorem load_whole (b : Ref sig .tc) (f : b.ty.Contents (Elt F)) {off : Fin b.ty.shape.rank → ℕ}
    (hi : ∀ a, off a + b.ty.shape.size a ≤ b.ty.shape.size a) :
    View.readAt (Elt F) (Memref.whole b).view (Rect.unit off b.ty.shape.size hi).toLoadRect f = f :=
  View.readAt_full (Memref.whole b).view f hi

end Cert.KernelIdeal.Pf

end
-- ==== Proof.KI.Quarter.lean ====
module

public import proofs.«01_k».proof.Proof.KI.Vals

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer of device `c` at contents `f`. -/
abbrev full (c : Dev nD) (b : Ref sig .tc) (f : b.ty.Contents (Elt F)) : sProp 𝕄 :=
  (Memref.whole b).view.loc (c : Thread nD τ) ↦{fullShare} f

/-! ## What a quarter of the rows holds -/

theorem slc (h : Fin 8) : S256x1024.Slices ![0, 128 * h.val] S256x128 := by
  fin_cases h
  · exact slices_S256x1024_o0_0_S256x128
  · exact slices_S256x1024_o0_128_S256x128
  · exact slices_S256x1024_o0_256_S256x128
  · exact slices_S256x1024_o0_384_S256x128
  · exact slices_S256x1024_o0_512_S256x128
  · exact slices_S256x1024_o0_640_S256x128
  · exact slices_S256x1024_o0_768_S256x128
  · exact slices_S256x1024_o0_896_S256x128

/-- The weights of one head of one quarter, unnormalised: the exponentials of the scaled products, zero outside the window. -/
def wgtV (h : Fin 8) (q : FVec F S256x1024 .bf16) (m : IVec S256x512 1) (kw : Vec F S512x128 .bf16) : FVec F S256x512 .f32 :=
  select m
    (exp (mulf (matmul dot_S256x128_S512x128_S256x512_1_1_0_0_n_n none (extractStridedSlice S256x128 ![0, 128 * h.val] q (slc h)) kw (constant S256x512 .f32 0x00000000#32))
      (broadcast S256x512 (Scalar.ofBits (F := F) .f32 0x3DB504F3#32))))
    (broadcast S256x512 (Scalar.ofBits (F := F) .f32 0x00000000#32))

/-- One head of one quarter: the weighted values over the sum of the weights. -/
def headV (h : Fin 8) (q : FVec F S256x1024 .bf16) (m : IVec S256x512 1) (kw vw : Vec F S512x128 .bf16) : FVec F S256x128 .bf16 :=
  truncf .bf16
    (mulf (matmul dot_S256x512_S512x128_S256x128_1_0_0_1_n_n none (truncf .bf16 (wgtV h q m kw) bitsLt_bf16_f32) vw (constant S256x128 .f32 0x00000000#32))
      (broadcastTo S256x128
        (divf (broadcast S256x1 (Scalar.ofBits (F := F) .f32 0x3F800000#32))
          (shapeCast S256x1 (multiReduction .add [1] S256 (wgtV h q m kw) 0x00000000#32 reduces_S256x512_S256 (.inl rfl) rfl) shapeCasts_S256_S256x1))
        broadcasts_S256x1_S256x128))
    bitsLt_bf16_f32

/-- Where the window of head `h` of quarter `t` starts. -/
def kOff (c : Dev nD) (t : BitVec 32) (h : Fin 8) : Fin 2 → ℕ :=
  match h with
  | 0 => k0_off4 c t
  | 1 => k0_off5 c t
  | 2 => k0_off6 c t
  | 3 => k0_off7 c t
  | 4 => k0_off8 c t
  | 5 => k0_off9 c t
  | 6 => k0_off10 c t
  | 7 => k0_off11 c t

theorem kOff_inb (c : Dev nD) (t : Fin 4) (h : Fin 8) : ∀ a, kOff c (BitVec.ofNat 32 t.val) h a + S512x128.size a ≤ S1024x1024.size a :=
  match h with
  | 0 => k0_off4_inb c t
  | 1 => k0_off5_inb c t
  | 2 => k0_off6_inb c t
  | 3 => k0_off7_inb c t
  | 4 => k0_off8_inb c t
  | 5 => k0_off9_inb c t
  | 6 => k0_off10_inb c t
  | 7 => k0_off11_inb c t

/-- The first row of quarter `t` on device `c`, as a word. -/
def w90 (c : Dev nD) (t : BitVec 32) : BitVec 32 :=
  Scalar.muli (Scalar.remsi (Scalar.addi (Scalar.remsi (Scalar.divsi (Dev.word c) 1#32) 16#32) t) 4#32) 256#32
/-- The first row of its window of keys. -/
def w93 (c : Dev nD) (t : BitVec 32) : BitVec 32 := Scalar.minsi 512#32 (Scalar.maxsi 0#32 (Scalar.subi (w90 c t) 128#32))

/-- The queries of quarter `t`. -/
def qQ (c : Dev nD) (t : Fin 4) (xb wqb : BMat F) : FVec F S256x1024 .bf16 :=
  k0_pay6 (View.readAt (Elt F) (Memref.whole cc0_scratch0).view (Rect.unit (s := S1024x1024) (k0_off3 c (BitVec.ofNat 32 t.val)) S256x1024.size (k0_off3_inb c t)).toLoadRect xb)
    (View.readAt (Elt F) (Memref.whole cc0_scratch4).view (Rect.unit (s := S1024x1024) ![0, 0] S1024x1024.size inb_S1024x1024_S1024x1024_0_0).toLoadRect wqb)

/-- Head `h` of quarter `t`. -/
def headQ (c : Dev nD) (t : Fin 4) (xb kb vb wqb : BMat F) (h : Fin 8) : FVec F S256x128 .bf16 :=
  headV h (qQ c t xb wqb) (k0_pay7 (w90 c (BitVec.ofNat 32 t.val)) (w93 c (BitVec.ofNat 32 t.val)))
    (View.readAt (Elt F) (Memref.whole cc0_scratch1).view (Rect.unit (s := S1024x1024) (kOff c (BitVec.ofNat 32 t.val) h) S512x128.size (kOff_inb c t h)).toLoadRect kb)
    (View.readAt (Elt F) (Memref.whole cc0_scratch2).view (Rect.unit (s := S1024x1024) (kOff c (BitVec.ofNat 32 t.val) h) S512x128.size (kOff_inb c t h)).toLoadRect vb)

/-- The eight heads side by side, as the kernel stores them. -/
def ctxL (hd : Fin 8 → FVec F S256x128 .bf16) : List (View.Piece (Elt F) S256x1024 .bf16) :=
  [⟨Rect.unit ![0, 896] S256x128.size inb_S256x1024_S256x128_0_896, hd 7⟩,
   ⟨Rect.unit ![0, 768] S256x128.size inb_S256x1024_S256x128_0_768, hd 6⟩,
   ⟨Rect.unit ![0, 640] S256x128.size inb_S256x1024_S256x128_0_640, hd 5⟩,
   ⟨Rect.unit ![0, 512] S256x128.size inb_S256x1024_S256x128_0_512, hd 4⟩,
   ⟨Rect.unit ![0, 384] S256x128.size inb_S256x1024_S256x128_0_384, hd 3⟩,
   ⟨Rect.unit ![0, 256] S256x128.size inb_S256x1024_S256x128_0_256, hd 2⟩,
   ⟨Rect.unit ![0, 128] S256x128.size inb_S256x1024_S256x128_0_128, hd 1⟩,
   ⟨Rect.unit ![0, 0] S256x128.size inb_S256x1024_S256x128_0_0, hd 0⟩]

/-- The heads read back. -/
def ctxV (hd : Fin 8 → FVec F S256x128 .bf16) : Vec F S256x1024 .bf16 :=
  (Memref.whole cc0_scratch6).view.readCov (ctxL hd) (Rect.unit (s := S256x1024) ![0, 0] S256x1024.size inb_S256x1024_S256x1024_0_0).toLoadRect

/-- The rows of quarter `t` of what device `c` adds to the result. -/
def PQ (c : Dev nD) (t : Fin 4) (xb kb vb wqb wob : BMat F) : FVec F S256x1024 .bf16 :=
  truncf .bf16
    (matmul dot_S256x1024_S1024x1024_S256x1024_1_0_0_1_n_n none (ctxV (headQ c t xb kb vb wqb))
      (View.readAt (Elt F) (Memref.whole cc0_scratch5).view (Rect.unit (s := S1024x1024) ![0, 0] S1024x1024.size inb_S1024x1024_S1024x1024_0_0).toLoadRect wob)
      (constant S256x1024 .f32 0x00000000#32))
    bitsLt_bf16_f32

/-- Which quarter of device `c`'s order holds the rows `256 * b …`. -/
def tq (c : Dev nD) (b : ℕ) (hb : b < 4) : Fin 4 := ⟨(b + 4 - c.val % 4) % 4, Nat.mod_lt _ (by decide)⟩

/-- What device `c` adds to the result: the product of its heads with its rows of the output weights, quarter by quarter. -/
def PFv (c : Dev nD) (x k v : Vec F S1024x1024 .f32) (wq : Vec F S1024x16384 .f32) (wo : Vec F S16384x1024 .f32) : BMat F := fun i =>
  PQ c (tq c ((i 0).val / 256) (Nat.div_lt_of_lt_mul (i 0).isLt)) (nar x) (nar k) (nar v) (nar (wqW c wq)) (nar (woW c wo))
    (fun a => match a with | 0 => ⟨(i 0).val % 256, Nat.mod_lt _ (by decide)⟩ | 1 => i 1)

end Cert.KernelIdeal.Pf

end
-- ==== Proof.KI.Blocks.lean ====
module

public import proofs.«01_k».proof.Proof.KI.Quarter
public import Idealize.ShloMosaic.Lib.Ring
public import Idealize.ShloMosaic.Lib.Pipeline.ValueKit.Geometry

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers by row blocks, by quarters and by slabs -/

theorem setOn_whole (b : Ref sig .tc) (M : Finset b.ty.shape.Idx) : (Memref.whole b).view.setOn M = M := by
  ext x
  exact View.mem_setOn (v := (Memref.whole b).view) (x := x)

theorem cSl_set (j : Fin 16) : (cSl j).view.set = (slabR j).set :=
  (View.set_reshape _ _).trans (View.set_slice_whole _ _)
theorem pCh_set (j : Fin 16) : (pCh j).view.set = (rows j).set := View.set_slice_whole _ _
theorem oCh_set (j : Fin 16) : (oCh j).view.set = (rows j).set := View.set_slice_whole _ _

/-- A buffer of the row blocks held whole is held block by block. -/
theorem part_blocks (c : Dev nD) (f : BMat F) : (full c cc0_scratch7 f : sProp 𝕄) = bigSep Finset.univ fun j : Fin 16 => pPts c j f :=
  Ring.pointsTo_blocks (ℓ := partM.view.loc (c : Thread nD τ)) (fun j : Fin 16 => (pCh j).view.set)
    (fun j j' h => by
      rw [pCh_set, pCh_set]
      exact Ring.lead_disjoint (s := S1024x1024) 0 64 (fun j : Fin 16 => ![64 * j.val, 0]) S64x1024.size inb_rows (fun _ => rfl) rfl j j' h)
    ((Finset.biUnion_congr rfl (fun j _ => pCh_set j)).trans
      (Ring.lead_cover (s := S1024x1024) 0 64 (fun j : Fin 16 => ![64 * j.val, 0]) S64x1024.size inb_rows (fun _ => rfl)
        (by intro b a ha; fin_cases a; · exact absurd rfl ha
            · rfl) rfl (by intro a ha; fin_cases a; · exact absurd rfl ha
                           · rfl) (by decide))) f

theorem out_blocks (c : Dev nD) (f : BMat F) : (full c cc0_stg3_0 f : sProp 𝕄) = bigSep Finset.univ fun j : Fin 16 => oPts fullShare c j f :=
  Ring.pointsTo_blocks (ℓ := outM.view.loc (c : Thread nD τ)) (fun j : Fin 16 => (oCh j).view.set)
    (fun j j' h => by
      rw [oCh_set, oCh_set]
      exact Ring.lead_disjoint (s := S1024x1024) 0 64 (fun j : Fin 16 => ![64 * j.val, 0]) S64x1024.size inb_rows (fun _ => rfl) rfl j j' h)
    ((Finset.biUnion_congr rfl (fun j _ => oCh_set j)).trans
      (Ring.lead_cover (s := S1024x1024) 0 64 (fun j : Fin 16 => ![64 * j.val, 0]) S64x1024.size inb_rows (fun _ => rfl)
        (by intro b a ha; fin_cases a; · exact absurd rfl ha
            · rfl) rfl (by intro a ha; fin_cases a; · exact absurd rfl ha
                           · rfl) (by decide))) f

theorem slab_disj (j j' : Fin 16) (h : j ≠ j') : Disjoint ((cSl j).view.set : Finset S16x64x1024.Idx) ((cSl j').view.set : Finset S16x64x1024.Idx) := by
  rw [cSl_set, cSl_set]
  exact Ring.lead_disjoint (s := S16x64x1024) 0 1 (fun j : Fin 16 => ![j.val, 0, 0]) S1x64x1024.size inb_slab (fun j => (Nat.one_mul j.val).symm) rfl j j' h
theorem slab_cover : Finset.univ.biUnion (β := S16x64x1024.Idx) (fun j : Fin 16 => (cSl j).view.set) = Finset.univ :=
  (Finset.biUnion_congr rfl (fun j _ => cSl_set j)).trans
    (Ring.lead_cover (s := S16x64x1024) 0 1 (fun j : Fin 16 => ![j.val, 0, 0]) S1x64x1024.size inb_slab (fun j => (Nat.one_mul j.val).symm)
      (by intro b a ha; fin_cases a; · exact absurd rfl ha
          · rfl
          · rfl) rfl (by intro a ha; fin_cases a; · exact absurd rfl ha
                         · rfl
                         · rfl) (by decide))
theorem comm_blocks (c : Dev nD) (f : Vec F S16x64x1024 .bf16) : (full c cc0_scratch9 f : sProp 𝕄) = bigSep Finset.univ fun j : Fin 16 => cPts c j f :=
  Ring.pointsTo_blocks (ℓ := commM.view.loc (c : Thread nD τ)) (fun j : Fin 16 => (cSl j).view.set) slab_disj slab_cover f
/-- Landing slabs held at contents of their own are the buffer held whole. -/
theorem comm_join (c : Dev nD) (f₀ : Vec F S16x64x1024 .bf16) :
    (bigSep Finset.univ fun j : Fin 16 => iprop(∃ f, cPts (F := F) c j f)) ⊢ (iprop(∃ f, full c cc0_scratch9 f) : sProp 𝕄) :=
  Ring.pointsTo_blocks_join_exists (ℓ := commM.view.loc (c : Thread nD τ)) (fun j : Fin 16 => (cSl j).view.set) slab_disj slab_cover f₀

/-! ### Quarters -/

/-- The rectangle of quarter `t`, and its elements held. -/
abbrev qR (c : Dev nD) (t : Fin 4) : Rect S1024x1024 := Rect.unit (s := S1024x1024) (k0_off3 c (BitVec.ofNat 32 t.val)) S256x1024.size (k0_off3_inb c t)
def qPts (c : Dev nD) (t : Fin 4) (f : BMat F) : sProp 𝕄 := partM.view.loc (c : Thread nD τ) ↦[(qR c t).set]{fullShare} f

theorem mem_qR (c : Dev nD) (t : Fin 4) (i : S1024x1024.Idx) : i ∈ (qR c t).set ↔ (i 0).val / 256 = (c.val + t.val) % 4 := by
  have h1 : (i 1).val < 1024 := (i 1).isLt
  constructor
  · intro h
    have h := Rect.mem_set_unit.mp h 0
    rw [k0_off3_eq c t] at h
    have h : 256 * ((c.val + t.val) % 4) ≤ (i 0).val ∧ (i 0).val < 256 * ((c.val + t.val) % 4) + 256 := h
    omega
  · intro h
    refine Rect.mem_set_unit.mpr fun a => ?_
    rw [k0_off3_eq c t]
    fin_cases a
    · show 256 * ((c.val + t.val) % 4) ≤ (i 0).val ∧ (i 0).val < 256 * ((c.val + t.val) % 4) + 256
      omega
    · show 0 ≤ (i 1).val ∧ (i 1).val < 0 + 1024
      omega

theorem mem_rows (j : Fin 16) (i : S1024x1024.Idx) : i ∈ (rows j).set ↔ (i 0).val / 64 = j.val := by
  have h1 : (i 1).val < 1024 := (i 1).isLt
  constructor
  · intro h
    have h : 64 * j.val ≤ (i 0).val ∧ (i 0).val < 64 * j.val + 64 := Rect.mem_set_unit.mp h 0
    omega
  · intro h
    refine Rect.mem_set_unit.mpr fun a => ?_
    fin_cases a
    · show 64 * j.val ≤ (i 0).val ∧ (i 0).val < 64 * j.val + 64
      omega
    · show 0 ≤ (i 1).val ∧ (i 1).val < 0 + 1024
      omega

theorem quarters (c : Dev nD) (f : BMat F) : (full c cc0_scratch7 f : sProp 𝕄) = bigSep Finset.univ fun t : Fin 4 => qPts c t f :=
  Ring.pointsTo_blocks (ℓ := partM.view.loc (c : Thread nD τ)) (fun t : Fin 4 => (qR c t).set)
    (fun t t' h => by
      rw [Finset.disjoint_left]
      intro i hi hi'
      have h1 := (mem_qR c t i).mp hi
      have h2 := (mem_qR c t' i).mp hi'
      exact h (Fin.ext (by have := t.isLt; have := t'.isLt; omega)))
    (by
      ext i
      simp only [Finset.mem_biUnion, Finset.mem_univ, true_and, iff_true]
      have hi : (i 0).val < 1024 := (i 0).isLt
      refine ⟨⟨((i 0).val / 256 + 4 - c.val % 4) % 4, Nat.mod_lt _ (by decide)⟩, (mem_qR c _ i).mpr ?_⟩
      show (i 0).val / 256 = (c.val + ((i 0).val / 256 + 4 - c.val % 4) % 4) % 4
      omega) f

theorem quarter_chunks (c : Dev nD) (t : Fin 4) (f : BMat F) :
    (qPts c t f : sProp 𝕄) = bigSep Finset.univ fun u : Fin 4 => pPts c (od c t.val u.val) f := by
  have hu : (qR c t).set = Finset.univ.biUnion fun u : Fin 4 => (pCh (od c t.val u.val)).view.set := by
    ext i
    have hi : (i 0).val < 1024 := (i 0).isLt
    rw [mem_qR]
    constructor
    · intro h
      refine Finset.mem_biUnion.mpr ⟨⟨((i 0).val / 64) % 4, Nat.mod_lt _ (by decide)⟩, Finset.mem_univ _, ?_⟩
      refine (Finset.ext_iff.mp (pCh_set _) i).mpr ((mem_rows _ i).mpr ?_)
      show (i 0).val / 64 = 4 * ((c.val + t.val) % 4) + (((i 0).val / 64) % 4) % 4
      omega
    · intro h
      obtain ⟨u, -, h⟩ := Finset.mem_biUnion.mp h
      have h := (mem_rows _ i).mp ((Finset.ext_iff.mp (pCh_set _) i).mp h)
      have h : (i 0).val / 64 = 4 * ((c.val + t.val) % 4) + u.val % 4 := h
      omega
  have hq : (qPts c t f : sProp 𝕄) = (partM.view.loc (c : Thread nD τ) ↦[Finset.univ.biUnion fun u : Fin 4 => (pCh (od c t.val u.val)).view.set]{fullShare} f) := by
    unfold qPts; rw [hu]
  refine hq.trans (pointsTo_biUnion (ℓ := partM.view.loc (c : Thread nD τ)) (q := fullShare) (f := f) (Finset.univ : Finset (Fin 4)) (fun u : Fin 4 => (pCh (od c t.val u.val)).view.set) ?_)
  intro u _ u' _ h
  rw [Finset.disjoint_left]
  intro i hi hi'
  have h1 : (i 0).val / 64 = 4 * ((c.val + t.val) % 4) + u.val % 4 := (mem_rows _ i).mp ((Finset.ext_iff.mp (pCh_set _) i).mp hi)
  have h2 : (i 0).val / 64 = 4 * ((c.val + t.val) % 4) + u'.val % 4 := (mem_rows _ i).mp ((Finset.ext_iff.mp (pCh_set _) i).mp hi')
  exact h (Fin.ext (by have := u.isLt; have := u'.isLt; omega))

/-- The partial product at an element of quarter `t` is the quarter's. -/
theorem PFv_at (c : Dev nD) (t : Fin 4) (x k v : Vec F S1024x1024 .f32) (wq : Vec F S1024x16384 .f32) (wo : Vec F S16384x1024 .f32) (y : S256x1024.Idx) :
    PFv c x k v wq wo ((qR c t).emb y) = PQ c t (nar x) (nar k) (nar v) (nar (wqW c wq)) (nar (woW c wo)) y := by
  have hy : (y 0).val < 256 := (y 0).isLt
  have e0 : (((qR c t).emb y) 0).val = 256 * ((c.val + t.val) % 4) + (y 0).val := by
    refine (ValueKit.rect_emb_unit_val (s := S1024x1024) (k0_off3 c (BitVec.ofNat 32 t.val)) S256x1024.size (k0_off3_inb c t) y 0).trans ?_
    rw [show k0_off3 c (BitVec.ofNat 32 t.val) 0 = 256 * ((c.val + t.val) % 4) from congrFun (k0_off3_eq c t) 0]
  have e1 : (((qR c t).emb y) 1).val = (y 1).val := by
    refine (ValueKit.rect_emb_unit_val (s := S1024x1024) (k0_off3 c (BitVec.ofNat 32 t.val)) S256x1024.size (k0_off3_inb c t) y 1).trans ?_
    rw [show k0_off3 c (BitVec.ofNat 32 t.val) 1 = 0 from congrFun (k0_off3_eq c t) 1]; exact Nat.zero_add _
  unfold PFv
  have ht : tq c ((((qR c t).emb y) 0).val / 256) (Nat.div_lt_of_lt_mul (((qR c t).emb y) 0).isLt) = t := by
    refine Fin.ext ?_
    show ((((qR c t).emb y) 0).val / 256 + 4 - c.val % 4) % 4 = t.val
    rw [e0]; have := t.isLt; omega
  rw [ht]
  refine congrArg _ (funext fun a => ?_)
  match a with
  | 0 => exact Fin.ext (by show (((qR c t).emb y) 0).val % 256 = (y 0).val; rw [e0]; omega)
  | 1 => exact Fin.ext e1

/-- A quarter stored holds the partial product. -/
theorem quarter_store (c : Dev nD) (t : Fin 4) (x k v : Vec F S1024x1024 .f32) (wq : Vec F S1024x16384 .f32) (wo : Vec F S16384x1024 .f32) (G f : BMat F)
    (hG : G = PFv c x k v wq wo) (w : FVec F S256x1024 .bf16) (hw : w = PQ c t (nar x) (nar k) (nar v) (nar (wqW c wq)) (nar (woW c wo))) :
    ((partM.access (qR c t)).loc (c : Thread nD τ) ↦[(qR c t).set]{fullShare} ((partM.access (qR c t)).write (Elt F) f w Finset.univ) : sProp 𝕄) ⊢ qPts c t G := by
  subst hG hw
  refine Entails.of_eq (pointsTo_congr fun i hi => ?_)
  obtain ⟨y, -, rfl⟩ := Finset.mem_map.mp ((Finset.ext_iff.mp (Rect.map_emb_univ (qR c t)) i).mpr hi)
  exact (View.write_emb_of_mem (v := partM.access (qR c t)) f _ (Finset.mem_univ y)).trans (PFv_at c t x k v wq wo y).symm

/-! ### The device's own block of the result -/

theorem OF_at (PF : Dev nD → BMat F) (c : Dev nD) (y : S64x1024.Idx) : OF PF ((rows c).emb y) = outV PF c y := by
  have hy : (y 0).val < 64 := (y 0).isLt
  have e0 : (((rows c).emb y) 0).val = 64 * c.val + (y 0).val := ValueKit.rect_emb_unit_val (s := S1024x1024) ![64 * c.val, 0] S64x1024.size (inb_rows c) y 0
  have e1 : (((rows c).emb y) 1).val = (y 1).val := (ValueKit.rect_emb_unit_val (s := S1024x1024) ![64 * c.val, 0] S64x1024.size (inb_rows c) y 1).trans (Nat.zero_add _)
  unfold OF
  have hc : (⟨(((rows c).emb y) 0).val / 64, Nat.div_lt_of_lt_mul (((rows c).emb y) 0).isLt⟩ : Fin 16) = c :=
    Fin.ext (by show (((rows c).emb y) 0).val / 64 = c.val; rw [e0]; omega)
  rw [hc]
  refine congrArg _ (funext fun a => ?_)
  match a with
  | ⟨0, _⟩ => exact Fin.ext (by show (((rows c).emb y) 0).val % 64 = (y 0).val; rw [e0]; omega)
  | ⟨1, _⟩ => exact Fin.ext e1

theorem out_store (PF : Dev nD → BMat F) (c : Dev nD) (f : BMat F) (w : BRow F) (hw : w = outV PF c) :
    ((outM.access (rows c)).loc (c : Thread nD τ) ↦[(oCh c).view.set]{fullShare} ((outM.access (rows c)).write (Elt F) f w Finset.univ) : sProp 𝕄) ⊢ oPts fullShare c c (OF PF) := by
  subst hw
  refine Entails.of_eq (pointsTo_congr fun i hi => ?_)
  obtain ⟨y, -, rfl⟩ := Finset.mem_map.mp ((Finset.ext_iff.mp (Rect.map_emb_univ (rows c)) i).mpr ((Finset.ext_iff.mp (oCh_set c) i).mp hi))
  exact (View.write_emb_of_mem (v := outM.access (rows c)) f _ (Finset.mem_univ y)).trans (OF_at PF c y).symm

end Cert.KernelIdeal.Pf

end
-- ==== Proof.KI.Recv.lean ====
module

public import proofs.«01_k».proof.Proof.KI.Blocks
public import Idealize.ShloMosaic.Lib.VecWindow
public import Idealize.ShloMosaic.Lib.Pointwise.Reshape

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

/-! ## Receiving the blocks and summing them -/

/-- What the wait on entry `j` of family `k` takes. -/
def rtodo (c : Dev nD) (k : Fin 4) (j : Fin 16) : sProp 𝕄 :=
  iprop(bef c k j ∗ if j = c then iprop(emp) else cred (tallyAt (cell c k j) () N))
/-- What a wait on a landing leaves: the slab at some contents. -/
def rdone1 (c : Dev nD) (j : Fin 16) : sProp 𝕄 :=
  iprop(aft c 1 j ∗ if j = c then iprop(emp) else iprop(∃ f, cPts (F := F) c j f))

/-- The buffer of the running sum. -/
def redPts (c : Dev nD) (f : FRow F) : sProp 𝕄 := redM.view.loc (c : Thread nD τ) ↦{fullShare} f

def St2 (c : Dev nD) (todo done : List (Fin 16)) (f : FRow F) : sProp 𝕄 :=
  iprop(records PF K ∗ levAts L lv ∗ sepL (rtodo c 1) todo ∗ redPts c f ∗ sepL (rdone1 c) done ∗ ow c (owK 3 c ord))

theorem red_load (c : Dev nD) (f : FRow F) (hi) :
    redM.view.readAt (Elt F) (Rect.unit (s := S64x1024) ![0, 0] S64x1024.size hi).toLoadRect f = f :=
  View.readAt_full redM.view f hi
theorem red_store (f w : FRow F) (hi) :
    (redM.access (Rect.unit (s := S64x1024) ![0, 0] S64x1024.size hi)).write (Elt F) f w Finset.univ = w :=
  Memref.write_access_unit_zero_univ (Elt F) cc0_scratch8 (by funext a; fin_cases a <;> rfl) hi f w

theorem skip_recv (c : Dev nD) (j : Fin 16) (todo done : List (Fin 16)) (f : FRow F) (hj : j = c) :
    St2 PF K c (j :: todo) done f ⊢ St2 PF K c todo (j :: done) (acc PF c j f) := by
  unfold St2
  rw [sepL_cons, sepL_cons]
  unfold rtodo rdone1 acc
  rw [if_pos hj, if_pos hj, if_pos hj]
  iintro ⟨HR, HL, ⟨⟨Hb, -⟩, Ht⟩, Hr, Hd, HO⟩
  isplitl [HR]; · iexact HR
  isplitl [HL]; · iexact HL
  isplitl [Ht]; · iexact Ht
  isplitl [Hr]; · iexact Hr
  isplitl [Hb Hd]
  · isplitl [Hb]
    · isplitl [Hb]; · iapply (aft_self c 1 j hj); iexact Hb
      iempintro
    iexact Hd
  iexact HO

/-- One landing received: the wait, then the landed block added to the running sum. -/
theorem recv1 {α : Type} {Q : α → sProp 𝕄} {k : PUnit → Prog (TpuEff nD τ sig (Elt F) Λ₀ .tc) α}
    (c : Dev nD) (j : Fin 16) (todo done : List (Fin 16)) (f : FRow F) (hj : j ≠ c) (s : DmaSem sig) (hs : s = dix 1 j)
    {sp sp' : Space} {sh sh' : Shape} {e e' : EltTy} {src : Memref sig .tc sp sh e} {dst : Memref sig .tc sp' sh' e'} (hN : dst.view.dmaCredit = N)
    {h1} {h2} (o : Fin 3 → ℕ) (ho : o = ![j.val, 0, 0]) {hi : ∀ a, o a + S1x64x1024.size a ≤ S16x64x1024.size a}
    {hr} {hl1} {hl2} {hl3} {hs1} {hs2}
    (g : FRow F → Vec F S1x64x1024 .bf16 → FRow F) (hg : ∀ a b, g a b = addf a (extf .f32 (shapeCast S64x1024 b shapeCasts_S1x64x1024_S64x1024) bitsLt_bf16_f32)) :
    St2 PF K c (j :: todo) done f
      ⊢ iprop((St2 PF K c todo (j :: done) (acc PF c j f) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) fun _ =>
            .op (.load redM (Rect.unit (s := S64x1024) ![0, 0] S64x1024.size hr).toLoadRect hl1) fun a =>
            .op (.load commM (Rect.unit (s := S16x64x1024) o S1x64x1024.size hi).toLoadRect hl2) fun b =>
            .op (.load redM (Rect.unit (s := S64x1024) ![0, 0] S64x1024.size hr).toLoadRect hl3) fun _ =>
            .op (.store redM (Rect.unit (s := S64x1024) ![0, 0] S64x1024.size hr) (g a b) Finset.univ hs1 hs2) k) Q) := by
  subst ho
  unfold St2
  rw [sepL_cons, sepL_cons]
  iintro ⟨#HR, #HL, ⟨Hj, Ht⟩, Hr, Hd, HO⟩ Hk
  unfold rtodo
  ihave Hj := (Entails.of_eq (congrArg (fun X => iprop(bef c 1 j ∗ X)) (if_neg hj))) $$ Hj
  icases Hj with ⟨Hb, Hc⟩
  iapply (wait_cell PF K c 1 j hj (owK 3 c ord) s hs hN) $$ [Hb Hc HO]
  · isplitr; · iexact HR
    isplitl [Hc]; · iexact Hc
    isplitr; · iapply (mayWait_s1 c j ord); iexact HL
    isplitl [Hb]; · iexact Hb
    iexact HO
  iintro ⟨Hpay, Hat, HO⟩
  ihave Hpay := (show (dmaPay PF c (1 : Fin 4).val j.val : sProp 𝕄) ⊢ landed PF c j from Entails.of_eq (by unfold dmaPay; rw [dif_pos j.isLt, if_neg (by decide)]; exact if_pos rfl)) $$ Hpay
  unfold landed
  icases Hpay with ⟨%fs, %hf, Hs⟩
  unfold redPts
  iapply (wp_load 𝒱₀ (c : Thread nD τ) none Set.univ (m := redM) (Finset.subset_univ _)) $$ Hr
  iintro Hr
  unfold cPts
  iapply (wp_load 𝒱₀ (c : Thread nD τ) none Set.univ (m := commM) (S := (cSl j).view.set) ((setOn_whole cc0_scratch9 _).trans (cSl_set j).symm).subset) $$ Hs
  iintro Hs
  iapply (wp_load 𝒱₀ (c : Thread nD τ) none Set.univ (m := redM) (Finset.subset_univ _)) $$ Hr
  iintro Hr
  iapply (wp_store 𝒱₀ (c : Thread nD τ) none Set.univ (m := redM) (r := Rect.unit (s := S64x1024) ![0, 0] S64x1024.size hr) (Mk := Finset.univ) (Finset.subset_univ _)) $$ Hr
  iintro Hr
  iapply Hk
  have hv : g (redM.view.readAt (Elt F) (Rect.unit (s := S64x1024) ![0, 0] S64x1024.size hr).toLoadRect f)
      (commM.view.readAt (Elt F) (Rect.unit (s := S16x64x1024) ![j.val, 0, 0] S1x64x1024.size hi).toLoadRect fs) = acc PF c j f := by
    rw [hg, red_load c f hr]
    unfold acc
    rw [if_neg hj, ← hf]
    rfl
  isplitr; · iexact HR
  isplitr; · iexact HL
  isplitl [Ht]; · iexact Ht
  isplitl [Hr]
  · ihave Hr := (Entails.of_eq (congrArg (fun w : FRow F => (redM.view.loc (c : Thread nD τ) ↦{fullShare} w : sProp 𝕄)) ((red_store f _ hr).trans hv))) $$ Hr
    iexact Hr
  isplitl [Hat Hs Hd]
  · isplitl [Hat Hs]
    · unfold rdone1 cPts
      isplitl [Hat]; · iexact Hat
      rw [if_neg hj]
      iexists fs; iexact Hs
    iexact Hd
  iexact HO

/-! ## The blocks of the result -/

def rdone3 (c : Dev nD) (j : Fin 16) : sProp 𝕄 :=
  iprop(aft c 3 j ∗ if j = c then iprop(emp) else oPts fullShare c j (OF PF))

def St4 (c : Dev nD) (todo done : List (Fin 16)) : sProp 𝕄 :=
  iprop(records PF K ∗ sepL (rtodo c 3) todo ∗ sepL (rdone3 PF c) done ∗ ow c 0)

theorem skip_recv2 (c : Dev nD) (j : Fin 16) (todo done : List (Fin 16)) (hj : j = c) :
    St4 PF K c (j :: todo) done ⊢ St4 PF K c todo (j :: done) := by
  unfold St4
  rw [sepL_cons, sepL_cons]
  unfold rtodo rdone3
  rw [if_pos hj, if_pos hj]
  iintro ⟨HR, ⟨⟨Hb, -⟩, Ht⟩, Hd, HO⟩
  isplitl [HR]; · iexact HR
  isplitl [Ht]; · iexact Ht
  isplitl [Hb Hd]
  · isplitl [Hb]
    · isplitl [Hb]; · iapply (aft_self c 3 j hj); iexact Hb
      iempintro
    iexact Hd
  iexact HO

theorem recv2 {α : Type} {Q : α → sProp 𝕄} {k : PUnit → Prog (TpuEff nD τ sig (Elt F) Λ₀ .tc) α}
    (c : Dev nD) (j : Fin 16) (todo done : List (Fin 16)) (hj : j ≠ c) (s : DmaSem sig) (hs : s = dix 3 j)
    {sp sp' : Space} {sh sh' : Shape} {e e' : EltTy} {src : Memref sig .tc sp sh e} {dst : Memref sig .tc sp' sh' e'} (hN : dst.view.dmaCredit = N)
    {h1} {h2} :
    St4 PF K c (j :: todo) done
      ⊢ iprop((St4 PF K c todo (j :: done) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) k) Q) := by
  unfold St4
  rw [sepL_cons, sepL_cons]
  iintro ⟨#HR, ⟨Hj, Ht⟩, Hd, HO⟩ Hk
  unfold rtodo
  ihave Hj := (Entails.of_eq (congrArg (fun X => iprop(bef c 3 j ∗ X)) (if_neg hj))) $$ Hj
  icases Hj with ⟨Hb, Hc⟩
  iapply (wait_cell PF K c 3 j hj 0 s hs hN) $$ [Hb Hc HO]
  · isplitr; · iexact HR
    isplitl [Hc]; · iexact Hc
    isplitr; · rw [MayWait_zero]; iempintro
    isplitl [Hb]; · iexact Hb
    iexact HO
  iintro ⟨Hpay, Hat, HO⟩
  iapply Hk
  isplitr; · iexact HR
  isplitl [Ht]; · iexact Ht
  isplitl [Hpay Hat Hd]
  · isplitl [Hpay Hat]
    · unfold rdone3
      isplitl [Hat]; · iexact Hat
      rw [if_neg hj]
      iapply (show (dmaPay PF c (3 : Fin 4).val j.val : sProp 𝕄) ⊢ oPts fullShare c j (OF PF) from Entails.of_eq (by
        rw [← payload_dma PF c 3 j 0, payload_3])); iexact Hpay
    iexact Hd
  iexact HO

/-! ## The departures -/

/-- What the two waits on the departures of block `j` take and leave. -/
def stodo (c : Dev nD) (j : Fin 16) : sProp 𝕄 := iprop(bef c 0 j ∗ bef c 2 j ∗ snt1 PF c j ∗ snt2 PF c j)
def sdone (c : Dev nD) (j : Fin 16) : sProp 𝕄 :=
  iprop(aft c 0 j ∗ aft c 2 j ∗ pPts c j (PF c) ∗ oPts (oShare j) c c (OF PF))

def St5 (c : Dev nD) (todo done : List (Fin 16)) : sProp 𝕄 :=
  iprop(records PF K ∗ sepL (stodo PF c) todo ∗ sepL (sdone PF c) done ∗ ow c 0)

theorem skip_dep (c : Dev nD) (j : Fin 16) (todo done : List (Fin 16)) (hj : j = c) :
    St5 PF K c (j :: todo) done ⊢ St5 PF K c todo (j :: done) := by
  unfold St5
  rw [sepL_cons, sepL_cons]
  unfold stodo sdone snt1 snt2
  rw [if_pos hj, if_pos hj]
  iintro ⟨HR, ⟨⟨Hb, Hb2, Hp, Ho⟩, Ht⟩, Hd, HO⟩
  isplitl [HR]; · iexact HR
  isplitl [Ht]; · iexact Ht
  isplitl [Hb Hb2 Hp Ho Hd]
  · isplitl [Hb Hb2 Hp Ho]
    · isplitl [Hb]; · iapply (aft_self c 0 j hj); iexact Hb
      isplitl [Hb2]; · iapply (aft_self c 2 j hj); iexact Hb2
      isplitl [Hp]; · iexact Hp
      iexact Ho
    iexact Hd
  iexact HO

theorem dep {α : Type} {Q : α → sProp 𝕄} {k : PUnit → Prog (TpuEff nD τ sig (Elt F) Λ₀ .tc) α}
    (c : Dev nD) (j : Fin 16) (todo done : List (Fin 16)) (hj : j ≠ c) (s s' : DmaSem sig) (hs : s = dix 0 j) (hs' : s' = dix 2 j)
    {sp sp' : Space} {sh sh' : Shape} {e e' : EltTy} {src : Memref sig .tc sp sh e} {dst : Memref sig .tc sp' sh' e'} (hN : dst.view.dmaCredit = N)
    {h1} {h2}
    {tp tp' : Space} {th th' : Shape} {u u' : EltTy} {src' : Memref sig .tc tp th u} {dst' : Memref sig .tc tp' th' u'} (hN' : dst'.view.dmaCredit = N)
    {h1'} {h2'} :
    St5 PF K c (j :: todo) done
      ⊢ iprop((St5 PF K c todo (j :: done) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) fun _ => .op (.waitDma2 s' src' dst' h1' h2') k) Q) := by
  unfold St5
  rw [sepL_cons, sepL_cons]
  iintro ⟨#HR, ⟨Hj, Ht⟩, Hd, HO⟩ Hk
  unfold stodo snt1 snt2
  ihave Hj := (show iprop(bef c 0 j ∗ bef c 2 j ∗ (if j = c then pPts c j (PF c) else cred (tallyAt (cell c 0 j) () N)) ∗ (if j = c then oPts (oShare j) c c (OF PF) else cred (tallyAt (cell c 2 j) () N)))
      ⊢ (iprop(bef c 0 j ∗ bef c 2 j ∗ cred (tallyAt (cell c 0 j) () N) ∗ cred (tallyAt (cell c 2 j) () N)) : sProp 𝕄) from Entails.of_eq (by rw [if_neg hj, if_neg hj])) $$ Hj
  icases Hj with ⟨Hb, Hb2, Hc, Hc2⟩
  iapply (wait_cell PF K c 0 j hj 0 s hs hN) $$ [Hb Hc HO]
  · isplitr; · iexact HR
    isplitl [Hc]; · iexact Hc
    isplitr; · rw [MayWait_zero]; iempintro
    isplitl [Hb]; · iexact Hb
    iexact HO
  iintro ⟨Hpay, Hat, HO⟩
  iapply (wait_cell PF K c 2 j hj 0 s' hs' hN') $$ [Hb2 Hc2 HO]
  · isplitr; · iexact HR
    isplitl [Hc2]; · iexact Hc2
    isplitr; · rw [MayWait_zero]; iempintro
    isplitl [Hb2]; · iexact Hb2
    iexact HO
  iintro ⟨Hpay2, Hat2, HO⟩
  iapply Hk
  isplitr; · iexact HR
  isplitl [Ht]; · iexact Ht
  isplitl [Hpay Hat Hpay2 Hat2 Hd]
  · isplitl [Hpay Hat Hpay2 Hat2]
    · unfold sdone
      isplitl [Hat]; · iexact Hat
      isplitl [Hat2]; · iexact Hat2
      isplitl [Hpay]
      · iapply (show (dmaPay PF c (0 : Fin 4).val j.val : sProp 𝕄) ⊢ pPts c j (PF c) from Entails.of_eq (by
          rw [← payload_dma PF c 0 j 0, payload_0])); iexact Hpay
      iapply (show (dmaPay PF c (2 : Fin 4).val j.val : sProp 𝕄) ⊢ oPts (oShare j) c c (OF PF) from Entails.of_eq (by
        rw [← payload_dma PF c 2 j 0, payload_2])); iexact Hpay2
    iexact Hd
  iexact HO

/-! ## Closing the entries -/

/-- An entry whose round is over is back at zero. -/
theorem close_cell (c : Dev nD) (k : Fin 4) (j : Fin 16) :
    iprop(records PF K ∗ aft c k j) ⊢ (|={Set.univ}=> semVal (cell c k j) 0 : sProp 𝕄) := by
  unfold aft
  iintro ⟨#HR, Hat⟩
  by_cases h : j = c
  · subst h
    ihave Hat := (Entails.of_eq (congrArg (fun n => (atPos ER (cell j k j) n ∅ 0 : sProp 𝕄)) (if_pos rfl))) $$ Hat
    imod (cell_close ER (Rd PF) (κ := K (j, some (k, j))) (Set.mem_univ _) (fun h => h) (R := 0)
      (fun r _ => by
        by_cases hr : r = 0
        · subst hr; exact duties_self PF j k
        · exact duties_later PF _ r (by omega))) $$ [Hat] with Hz
    · isplitr; · iapply (inv_cell PF K j k j); iexact HR
      iexact Hat
    imodintro; iexact Hz
  · ihave Hat := (Entails.of_eq (congrArg (fun n => (atPos ER (cell c k j) n ∅ 0 : sProp 𝕄)) (if_neg h))) $$ Hat
    imod (cell_close ER (Rd PF) (κ := K (c, some (k, j))) (Set.mem_univ _) (fun h => h) (R := 1) (duties_later PF (cell c k j))) $$ [Hat] with Hz
    · isplitr; · iapply (inv_cell PF K c k j); iexact HR
      iexact Hat
    imodintro; iexact Hz

theorem close_bar (c : Dev nD) :
    iprop(records PF K ∗ atPos ER (barCell c) 1 ∅ 0) ⊢ (|={Set.univ}=> semVal (barCell c) 0 : sProp 𝕄) := by
  iintro ⟨#HR, Hat⟩
  imod (cell_close ER (Rd PF) (κ := K (c, none)) (Set.mem_univ _) (fun h => h) (R := 1) (duties_later PF (barCell c))) $$ [Hat] with Hz
  · isplitr; · iapply (inv_bar PF K c); iexact HR
    iexact Hat
  imodintro; iexact Hz

end Cert.KernelIdeal.Pf

end
-- ==== Proof.KI.Guards.lean ====
module

public import proofs.«01_k».proof.Proof.KI.Recv

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

/-! ## The kernel's spellings of semaphores, blocks and conditions -/

theorem sem11 (o : Fin 1 → ℕ) (j : Fin 16) (ho : o = ![j.val]) (hi : ∀ a, o a + S1.size a ≤ S16.size a) :
    ((cc0_scratch11.slice (Rect.unit (s := S16) o S1.size hi)).squeeze S_ squeezes_S1_S_).sem = dix 0 j := by
  subst ho; revert j; decide +kernel
theorem sem12 (o : Fin 1 → ℕ) (j : Fin 16) (ho : o = ![j.val]) (hi : ∀ a, o a + S1.size a ≤ S16.size a) :
    ((cc0_scratch12.slice (Rect.unit (s := S16) o S1.size hi)).squeeze S_ squeezes_S1_S_).sem = dix 1 j := by
  subst ho; revert j; decide +kernel
theorem sem13 (o : Fin 1 → ℕ) (j : Fin 16) (ho : o = ![j.val]) (hi : ∀ a, o a + S1.size a ≤ S16.size a) :
    ((cc0_scratch13.slice (Rect.unit (s := S16) o S1.size hi)).squeeze S_ squeezes_S1_S_).sem = dix 2 j := by
  subst ho; revert j; decide +kernel
theorem sem14 (o : Fin 1 → ℕ) (j : Fin 16) (ho : o = ![j.val]) (hi : ∀ a, o a + S1.size a ≤ S16.size a) :
    ((cc0_scratch14.slice (Rect.unit (s := S16) o S1.size hi)).squeeze S_ squeezes_S1_S_).sem = dix 3 j := by
  subst ho; revert j; decide +kernel

theorem pCh_of (o : Fin 2 → ℕ) (j : Fin 16) (ho : o = ![64 * j.val, 0]) (hi : ∀ a, o a + S64x1024.size a ≤ S1024x1024.size a) (hu) :
    partM.slice (Rect.unit (s := S1024x1024) o S64x1024.size hi) hu = pCh j := by subst ho; rfl
theorem oCh_of (o : Fin 2 → ℕ) (j : Fin 16) (ho : o = ![64 * j.val, 0]) (hi : ∀ a, o a + S64x1024.size a ≤ S1024x1024.size a) (hu) :
    outM.slice (Rect.unit (s := S1024x1024) o S64x1024.size hi) hu = oCh j := by subst ho; rfl
theorem cSl_of (o : Fin 3 → ℕ) (j : Fin 16) (ho : o = ![j.val, 0, 0]) (hi : ∀ a, o a + S1x64x1024.size a ≤ S16x64x1024.size a) (hu) :
    (commM.slice (Rect.unit (s := S16x64x1024) o S1x64x1024.size hi) hu).squeeze S64x1024 squeezes_S1x64x1024_S64x1024 = cSl j := by subst ho; rfl

theorem credit_slab' (j : Fin 16) (m : Memref sig .tc .vmem S64x1024 .bf16) (h : m = cSl j) : m.view.dmaCredit = N := by subst h; exact credit_slab j
theorem credit_out' (j : Fin 16) (m : Memref sig .tc .vmem S64x1024 .bf16) (h : m = oCh j) : m.view.dmaCredit = N := by subst h; exact credit_out j
theorem credit_part' (j : Fin 16) (m : Memref sig .tc .vmem S64x1024 .bf16) (h : m = pCh j) : m.view.dmaCredit = N := by subst h; exact credit_part j

/-- The kernel's test that the device is not `j`. -/
theorem cnd_ne (c : Dev nD) (j : Fin 16) :
    Scalar.cmpi .ne (Scalar.extui (Scalar.cmpi .ne (Scalar.remsi (Scalar.divsi (Dev.word c) 1#32) 16#32) (BitVec.ofNat 32 j.val))) 0#32 = 1#1 ↔ j ≠ c := by
  revert c j; decide +kernel

/-! ## The guarded steps -/

theorem gsend1 {α : Type} {Q : α → sProp 𝕄} {p : Prog (TpuEff nD τ sig (Elt F) Λ₀ .tc) α}
    (c : Dev nD) (t u : ℕ) (chs todo done : List (Fin 16)) (C : Dev nD → BitVec 1) (dv : Dev nD → ℕ)
    (oS oR : Dev nD → Fin 1 → ℕ) (oD : Dev nD → Fin 3 → ℕ) (oP : Dev nD → Fin 2 → ℕ)
    (hT : ∀ c : Dev nD, (C c = 1#1 ↔ od c t u ≠ c) ∧ (C c = 1#1 → dv c = (od c t u).val) ∧ oS c = ![(od c t u).val] ∧ oR c = ![c.val] ∧ oD c = ![c.val, 0, 0] ∧ oP c = ![64 * (od c t u).val, 0])
    {hlt : ∀ h : C c = 1#1, dv c < nD} {iS : ∀ h : C c = 1#1, ∀ a, oS c a + S1.size a ≤ S16.size a} {iR : ∀ h : C c = 1#1, ∀ a, oR c a + S1.size a ≤ S16.size a}
    {iD : ∀ h : C c = 1#1, ∀ a, oD c a + S1x64x1024.size a ≤ S16x64x1024.size a} {iP : ∀ h : C c = 1#1, ∀ a, oP c a + S64x1024.size a ≤ S1024x1024.size a}
    {h4 : ∀ h : C c = 1#1, (partM.slice (Rect.unit (s := S1024x1024) (oP c) S64x1024.size (iP h)) (fun _ => rfl)).view.WordExact}
    {h5 : ∀ h : C c = 1#1, ((commM.slice (Rect.unit (s := S16x64x1024) (oD c) S1x64x1024.size (iD h)) (fun _ => rfl)).squeeze S64x1024 squeezes_S1x64x1024_S64x1024).view.WordExact} :
    St1 PF K c (od c t u :: chs) (od c t u :: todo) done
      ⊢ iprop((St1 PF K c chs todo (od c t u :: done) -∗ wp frame (wpE (defs₀ (F := F)) 𝒱₀ (c : Thread nD τ) none) Set.univ p Q)
          -∗ wp frame (wpE (defs₀ (F := F)) 𝒱₀ (c : Thread nD τ) none) Set.univ
            (dite (C c = 1#1) (fun h => .op (.enqueueDma (partM.slice (Rect.unit (s := S1024x1024) (oP c) S64x1024.size (iP h)) (fun _ => rfl))
              (.remote (Dev.tc (⟨dv c, hlt h⟩ : Dev nD)) ((commM.slice (Rect.unit (s := S16x64x1024) (oD c) S1x64x1024.size (iD h)) (fun _ => rfl)).squeeze S64x1024 squeezes_S1x64x1024_S64x1024)
                (.dma ((cc0_scratch11.slice (Rect.unit (s := S16) (oS c) S1.size (iS h))).squeeze S_ squeezes_S1_S_).sem) rfl)
              (.dma ((cc0_scratch12.slice (Rect.unit (s := S16) (oR c) S1.size (iR h))).squeeze S_ squeezes_S1_S_).sem) (h4 h) (h5 h) ⟨⟨rfl, Or.inl rfl⟩, trivial⟩) (fun _ => p)) (fun _ => p)) Q) := by
  obtain ⟨hC, hdv, hS, hR, hD, hP⟩ := hT c
  refine guard (fun h => ?_) (fun h => skip1 PF K c (od c t u) chs todo done (Decidable.not_not.mp fun hn => h (hC.mpr hn)))
  exact send1 (k := fun _ => p) PF K c (od c t u) chs todo done (hC.mp h) ⟨dv c, hlt h⟩ (Fin.ext (hdv h)) _ (pCh_of _ _ hP _ _) _ (cSl_of _ _ hD _ _) _ _ (sem11 _ _ hS _) (sem12 _ _ hR _)

theorem gsend2 {α : Type} {Q : α → sProp 𝕄} {p : Prog (TpuEff nD τ sig (Elt F) Λ₀ .tc) α}
    (c : Dev nD) (j : Fin 16) (todo done : List (Fin 16)) (C : Dev nD → BitVec 1) (hC : C c = 1#1 ↔ j ≠ c) (dv : ℕ) (hdv : dv = j.val) (oS : Fin 1 → ℕ) (hoS : oS = ![j.val])
    (oR : Dev nD → Fin 1 → ℕ) (oO : Dev nD → Fin 2 → ℕ)
    (hT : ∀ c : Dev nD, oR c = ![c.val] ∧ oO c = ![64 * c.val, 0])
    {hlt : ∀ h : C c = 1#1, dv < nD} {iS : ∀ a, oS a + S1.size a ≤ S16.size a} {iR : ∀ h : C c = 1#1, ∀ a, oR c a + S1.size a ≤ S16.size a}
    {iO iO' : ∀ h : C c = 1#1, ∀ a, oO c a + S64x1024.size a ≤ S1024x1024.size a}
    {h4 : ∀ h : C c = 1#1, (outM.slice (Rect.unit (s := S1024x1024) (oO c) S64x1024.size (iO h)) (fun _ => rfl)).view.WordExact}
    {h5 : ∀ h : C c = 1#1, (outM.slice (Rect.unit (s := S1024x1024) (oO c) S64x1024.size (iO' h)) (fun _ => rfl)).view.WordExact} :
    St3 PF K c (j :: todo) done
      ⊢ iprop((St3 PF K c todo (j :: done) -∗ wp frame (wpE (defs₀ (F := F)) 𝒱₀ (c : Thread nD τ) none) Set.univ p Q)
          -∗ wp frame (wpE (defs₀ (F := F)) 𝒱₀ (c : Thread nD τ) none) Set.univ
            (dite (C c = 1#1) (fun h => .op (.enqueueDma (outM.slice (Rect.unit (s := S1024x1024) (oO c) S64x1024.size (iO h)) (fun _ => rfl))
              (.remote (Dev.tc (⟨dv, hlt h⟩ : Dev nD)) (outM.slice (Rect.unit (s := S1024x1024) (oO c) S64x1024.size (iO' h)) (fun _ => rfl))
                (.dma ((cc0_scratch13.slice (Rect.unit (s := S16) oS S1.size iS)).squeeze S_ squeezes_S1_S_).sem) rfl)
              (.dma ((cc0_scratch14.slice (Rect.unit (s := S16) (oR c) S1.size (iR h))).squeeze S_ squeezes_S1_S_).sem) (h4 h) (h5 h) ⟨⟨rfl, Or.inl rfl⟩, trivial⟩) (fun _ => p)) (fun _ => p)) Q) := by
  obtain ⟨hR, hO⟩ := hT c
  refine guard (fun h => ?_) (fun h => skip2 PF K c j todo done (Decidable.not_not.mp fun hn => h (hC.mpr hn)))
  exact send2 (k := fun _ => p) PF K c j todo done (hC.mp h) ⟨dv, hlt h⟩ (Fin.ext hdv) _ (oCh_of _ _ hO _ _) _ (oCh_of _ _ hO _ _) _ _ (sem13 _ _ hoS _) (sem14 _ _ hR _)

theorem grecv1 {α : Type} {Q : α → sProp 𝕄} {p : Prog (TpuEff nD τ sig (Elt F) Λ₀ .tc) α}
    (c : Dev nD) (j : Fin 16) (todo done : List (Fin 16)) (f : FRow F) (b : BitVec 1) (hb : b = 1#1 ↔ j ≠ c)
    (oS : Fin 1 → ℕ) (hoS : oS = ![j.val]) (o : Fin 3 → ℕ) (ho : o = ![j.val, 0, 0])
    (g : FRow F → Vec F S1x64x1024 .bf16 → FRow F) (hg : ∀ a b, g a b = addf a (extf .f32 (shapeCast S64x1024 b shapeCasts_S1x64x1024_S64x1024) bitsLt_bf16_f32))
    {iS : ∀ a, oS a + S1.size a ≤ S16.size a} {iD iD' iD'' : ∀ a, o a + S1x64x1024.size a ≤ S16x64x1024.size a}
    {h1} {h2} {h3} {h4} {hr} {hl1} {hl2} {hl3} {hs1} {hs2} :
    St2 PF K c (j :: todo) done f
      ⊢ iprop((St2 PF K c todo (j :: done) (acc PF c j f) -∗ wp frame (wpE (defs₀ (F := F)) 𝒱₀ (c : Thread nD τ) none) Set.univ p Q)
          -∗ wp frame (wpE (defs₀ (F := F)) 𝒱₀ (c : Thread nD τ) none) Set.univ
            (dite (b = 1#1) (fun h => .op (.waitDma2 ((cc0_scratch12.slice (Rect.unit (s := S16) oS S1.size iS)).squeeze S_ squeezes_S1_S_).sem
                ((commM.slice (Rect.unit (s := S16x64x1024) o S1x64x1024.size iD) h1).squeeze S64x1024 squeezes_S1x64x1024_S64x1024)
                ((commM.slice (Rect.unit (s := S16x64x1024) o S1x64x1024.size iD') h2).squeeze S64x1024 squeezes_S1x64x1024_S64x1024) h3 h4) fun _ =>
              .op (.load redM (Rect.unit (s := S64x1024) ![0, 0] S64x1024.size hr).toLoadRect hl1) fun x =>
              .op (.load commM (Rect.unit (s := S16x64x1024) o S1x64x1024.size iD'').toLoadRect hl2) fun y =>
              .op (.load redM (Rect.unit (s := S64x1024) ![0, 0] S64x1024.size hr).toLoadRect hl3) fun _ =>
              .op (.store redM (Rect.unit (s := S64x1024) ![0, 0] S64x1024.size hr) (g x y) Finset.univ hs1 hs2) (fun _ => p)) (fun _ => p)) Q) :=
  guard (fun h => recv1 (k := fun _ => p) PF K c j todo done f (hb.mp h) _ (sem12 _ _ hoS _) (credit_slab' j _ (cSl_of _ _ ho _ _)) o ho g hg)
    (fun h => skip_recv PF K c j todo done f (Decidable.not_not.mp fun hn => h (hb.mpr hn)))

theorem grecv2 {α : Type} {Q : α → sProp 𝕄} {p : Prog (TpuEff nD τ sig (Elt F) Λ₀ .tc) α}
    (c : Dev nD) (j : Fin 16) (todo done : List (Fin 16)) (b : BitVec 1) (hb : b = 1#1 ↔ j ≠ c)
    (oS : Fin 1 → ℕ) (hoS : oS = ![j.val]) (o : Fin 2 → ℕ) (ho : o = ![64 * j.val, 0])
    {iS : ∀ a, oS a + S1.size a ≤ S16.size a} {iD iD' : ∀ a, o a + S64x1024.size a ≤ S1024x1024.size a}
    {h1} {h2} {h3} {h4} :
    St4 PF K c (j :: todo) done
      ⊢ iprop((St4 PF K c todo (j :: done) -∗ wp frame (wpE (defs₀ (F := F)) 𝒱₀ (c : Thread nD τ) none) Set.univ p Q)
          -∗ wp frame (wpE (defs₀ (F := F)) 𝒱₀ (c : Thread nD τ) none) Set.univ
            (dite (b = 1#1) (fun h => .op (.waitDma2 ((cc0_scratch14.slice (Rect.unit (s := S16) oS S1.size iS)).squeeze S_ squeezes_S1_S_).sem
                (outM.slice (Rect.unit (s := S1024x1024) o S64x1024.size iD) h1)
                (outM.slice (Rect.unit (s := S1024x1024) o S64x1024.size iD') h2) h3 h4) (fun _ => p)) (fun _ => p)) Q) :=
  guard (fun h => recv2 (k := fun _ => p) PF K c j todo done (hb.mp h) _ (sem14 _ _ hoS _) (credit_out' j _ (oCh_of _ _ ho _ _)))
    (fun h => skip_recv2 PF K c j todo done (Decidable.not_not.mp fun hn => h (hb.mpr hn)))

theorem gdep {α : Type} {Q : α → sProp 𝕄} {p : Prog (TpuEff nD τ sig (Elt F) Λ₀ .tc) α}
    (c : Dev nD) (j : Fin 16) (todo done : List (Fin 16)) (C : Dev nD → BitVec 1) (hC : C c = 1#1 ↔ j ≠ c)
    (oS : Fin 1 → ℕ) (hoS : oS = ![j.val]) (o : Fin 2 → ℕ) (ho : o = ![64 * j.val, 0]) (oO : Dev nD → Fin 2 → ℕ) (hO : ∀ c : Dev nD, oO c = ![64 * c.val, 0])
    {iS iS' : ∀ a, oS a + S1.size a ≤ S16.size a} {iD : ∀ a, o a + S64x1024.size a ≤ S1024x1024.size a}
    {o3 : Fin 3 → ℕ} {i3 : ∀ a, o3 a + S1x64x1024.size a ≤ S16x64x1024.size a}
    {iO iO' : ∀ h : C c = 1#1, ∀ a, oO c a + S64x1024.size a ≤ S1024x1024.size a}
    {h1} {h2} {h3} {h4} {h7 : ∀ h : C c = 1#1, (outM.slice (Rect.unit (s := S1024x1024) (oO c) S64x1024.size (iO h)) (fun _ => rfl)).view.WordExact}
    {h8 : ∀ h : C c = 1#1, (outM.slice (Rect.unit (s := S1024x1024) (oO c) S64x1024.size (iO' h)) (fun _ => rfl)).view.WordExact} :
    St5 PF K c (j :: todo) done
      ⊢ iprop((St5 PF K c todo (j :: done) -∗ wp frame (wpE (defs₀ (F := F)) 𝒱₀ (c : Thread nD τ) none) Set.univ p Q)
          -∗ wp frame (wpE (defs₀ (F := F)) 𝒱₀ (c : Thread nD τ) none) Set.univ
            (dite (C c = 1#1) (fun h => .op (.waitDma2 ((cc0_scratch11.slice (Rect.unit (s := S16) oS S1.size iS)).squeeze S_ squeezes_S1_S_).sem
                ((commM.slice (Rect.unit (s := S16x64x1024) o3 S1x64x1024.size i3) h1).squeeze S64x1024 squeezes_S1x64x1024_S64x1024)
                (partM.slice (Rect.unit (s := S1024x1024) o S64x1024.size iD) h2) h3 h4) fun _ =>
              .op (.waitDma2 ((cc0_scratch13.slice (Rect.unit (s := S16) oS S1.size iS')).squeeze S_ squeezes_S1_S_).sem
                (outM.slice (Rect.unit (s := S1024x1024) (oO c) S64x1024.size (iO h)) (fun _ => rfl))
                (outM.slice (Rect.unit (s := S1024x1024) (oO c) S64x1024.size (iO' h)) (fun _ => rfl)) (h7 h) (h8 h)) (fun _ => p)) (fun _ => p)) Q) :=
  guard (fun h => dep (k := fun _ => p) PF K c j todo done (hC.mp h) _ _ (sem11 _ _ hoS _) (sem13 _ _ hoS _) (credit_part' j _ (pCh_of _ _ ho _ _)) (credit_out' c _ (oCh_of _ _ (hO c) _ _)))
    (fun h => skip_dep PF K c j todo done (Decidable.not_not.mp fun hn => h (hC.mpr hn)))

end Cert.KernelIdeal.Pf

end
-- ==== Proof.KI.Hold.lean ====
module

public import proofs.«01_k».proof.Proof.KI.Guards

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

/-! ## What a device holds for the exchange when its kernel starts -/

/-- The right to pay into the two cells of a first-phase send to device `j`. -/
def tok1 (c : Dev nD) (j : Fin 16) : sProp 𝕄 := if j = c then iprop(emp) else iprop(dutyTok ER (cell c 0 j) 0 0 ∗ dutyTok ER (cell j 1 c) 0 0)
/-- The same for the second phase. -/
def tok2 (c : Dev nD) (j : Fin 16) : sProp 𝕄 := if j = c then iprop(emp) else iprop(dutyTok ER (cell c 2 j) 0 0 ∗ dutyTok ER (cell j 3 c) 0 0)

/-- The device's own slab and its own block of the result. -/
def Own (c : Dev nD) : sProp 𝕄 := iprop((∃ f, cPts (F := F) c c f) ∗ ∃ f, oPts (F := F) fullShare c c f)
/-- The tokens, credits and positions of the exchange. -/
def Ext (c : Dev nD) : sProp 𝕄 :=
  iprop((bigSep Finset.univ (tok1 c)) ∗ (bigSep Finset.univ (tok2 c)) ∗ (bigSep Finset.univ (rtodo c 1)) ∗ (bigSep Finset.univ (rtodo c 3))
    ∗ (bigSep Finset.univ (bef c 0)) ∗ bigSep Finset.univ (bef c 2))

theorem merge_one (c : Dev nD) (j : Fin 16) :
    iprop(barPay c j ∗ tok1 c j ∗ tok2 c j) ⊢ (iprop(todo1 c j ∗ todo2 c j) : sProp 𝕄) := by
  unfold barPay tok1 tok2 todo1 todo2
  by_cases h : j = c
  · simp only [if_pos h]
    iintro ⟨-, -, -⟩
    isplitl []
    · iempintro
    · iempintro
  · simp only [if_neg h]
    iintro ⟨⟨H1, H2⟩, H3, H4⟩
    isplitl [H1 H3]
    · isplitl [H1]; · iexact H1
      iexact H3
    · isplitl [H2]; · iexact H2
      iexact H4

/-- The landing places that came with the barrier and the tokens make up what the sends need. -/
theorem merge (c : Dev nD) :
    iprop((bigSep Finset.univ fun d : Fin 16 => barPay c d) ∗ (bigSep Finset.univ (tok1 c)) ∗ bigSep Finset.univ (tok2 c))
      ⊢ (iprop(sepL (todo1 c) (ord1 c) ∗ sepL (todo2 c) ord) : sProp 𝕄) := by
  rw [sepL_univ _ _ (ord1_nodup c) (ord1_all c), sepL_univ _ _ ord_nodup ord_all]
  iintro H
  ihave H := (Entails.of_eq (show (iprop((bigSep Finset.univ fun d : Fin 16 => barPay c d) ∗ (bigSep Finset.univ (tok1 c)) ∗ bigSep Finset.univ (tok2 c)) : sProp 𝕄)
    = bigSep Finset.univ fun j => iprop(barPay c j ∗ tok1 c j ∗ tok2 c j) from by rw [bigSep_sep', bigSep_sep'])) $$ H
  ihave H := (show (bigSep Finset.univ fun j => iprop(barPay c j ∗ tok1 c j ∗ tok2 c j)) ⊢ (bigSep Finset.univ fun j => iprop(todo1 c j ∗ todo2 c j) : sProp 𝕄) from
    bigSep_mono fun j _ => merge_one c j) $$ H
  ihave H := (Entails.of_eq (show (bigSep Finset.univ fun j => iprop(todo1 c j ∗ todo2 c j) : sProp 𝕄) = iprop((bigSep Finset.univ (todo1 c)) ∗ bigSep Finset.univ (todo2 c)) from by
    rw [bigSep_sep'])) $$ H
  iexact H

/-! ## The partial product's quarters -/

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

theorem quarters4 (c : Dev nD) (f : BMat F) : (full c cc0_scratch7 f : sProp 𝕄) ⊢ iprop(qPts c 0 f ∗ qPts c 1 f ∗ qPts c 2 f ∗ qPts c 3 f) :=
  Entails.of_eq ((quarters c f).trans (four _))

theorem chunks4 (c : Dev nD) (t : Fin 4) (f : BMat F) :
    (qPts c t f : sProp 𝕄) ⊢ sepL (fun j => pPts c j f) [od c t.val 0, od c t.val 1, od c t.val 2, od c t.val 3] := by
  rw [quarter_chunks, four]
  iintro ⟨H0, H1, H2, H3⟩
  rw [sepL_cons, sepL_cons, sepL_cons, sepL_cons]
  isplitl [H0]; · iexact H0
  isplitl [H1]; · iexact H1
  isplitl [H2]; · iexact H2
  isplitl [H3]; · iexact H3
  rw [sepL_nil]; iempintro

/-- A quarter of the partial product, once written, is ready to be sent. -/
theorem refill (c : Dev nD) (t : Fin 4) (n : ℕ) (hn : t.val = n) (todo done : List (Fin 16)) :
    (St1 PF K c [] todo done : sProp 𝕄) ⊢ iprop(qPts c t (PF c) -∗ St1 PF K c [od c n 0, od c n 1, od c n 2, od c n 3] todo done) := by
  subst hn
  unfold St1
  iintro ⟨HR, -, H⟩ Hq
  isplitl [HR]; · iexact HR
  isplitl [Hq]; · iapply (chunks4 c t (PF c)) $$ Hq
  iexact H

theorem to_ow (c : Dev nD) (O : CellTallies nD τ sig Unit) (W : Waits sig Unit) : (owes (c : Thread nD τ) O W : sProp 𝕄) ⊢ ow c O := by
  unfold ow; iintro H; iexists W; iexact H

theorem start1 (c : Dev nD) :
    iprop(records PF K ∗ sepL (todo1 c) (ord1 c) ∗ ow c (owK 1 c (ord1 c) + owK 3 c ord)) ⊢ (St1 PF K c [] (ord1 c) [] : sProp 𝕄) := by
  unfold St1
  iintro ⟨HR, Ht, HO⟩
  isplitl [HR]; · iexact HR
  isplitr; · rw [sepL_nil]; iempintro
  isplitl [Ht]; · iexact Ht
  isplitr; · rw [sepL_nil]; iempintro
  iexact HO

theorem qload {α : Type} {Q : α → sProp 𝕄} (c : Dev nD) (t : Fin 4) (f : BMat F)
    {hi : ∀ a, k0_off3 c (BitVec.ofNat 32 t.val) a + S256x1024.size a ≤ S1024x1024.size a} {hl}
    {k : Vec F S256x1024 .bf16 → Prog (TpuEff nD τ sig (Elt F) Λ₀ .tc) α} :
    (qPts c t f : sProp 𝕄) ⊢ iprop((∀ w, qPts c t f -∗ wp frame (wpE (defs₀ (F := F)) 𝒱₀ (c : Thread nD τ) none) Set.univ (k w) Q)
      -∗ wp frame (wpE (defs₀ (F := F)) 𝒱₀ (c : Thread nD τ) none) Set.univ
        (.op (.load partM (Rect.unit (s := S1024x1024) (k0_off3 c (BitVec.ofNat 32 t.val)) S256x1024.size hi).toLoadRect hl) k) Q) := by
  unfold qPts
  iintro H Hk
  iapply (wp_load 𝒱₀ (c : Thread nD τ) none Set.univ (m := partM) (S := (qR c t).set) (setOn_whole cc0_scratch7 _).subset) $$ H
  iintro H
  ispecialize Hk $$ %_
  iapply Hk $$ H

theorem qstore {α : Type} {Q : α → sProp 𝕄} (c : Dev nD) (t : Fin 4) (x k v : Vec F S1024x1024 .f32) (wq : Vec F S1024x16384 .f32) (wo : Vec F S16384x1024 .f32) (G f : BMat F)
    (hG : G = PFv c x k v wq wo) (w : FVec F S256x1024 .bf16) (hw : w = PQ c t (nar x) (nar k) (nar v) (nar (wqW c wq)) (nar (woW c wo)))
    {hi : ∀ a, k0_off3 c (BitVec.ofNat 32 t.val) a + S256x1024.size a ≤ S1024x1024.size a} {h1} {h2}
    {p : PUnit → Prog (TpuEff nD τ sig (Elt F) Λ₀ .tc) α} :
    (qPts c t f : sProp 𝕄) ⊢ iprop((qPts c t G -∗ wp frame (wpE (defs₀ (F := F)) 𝒱₀ (c : Thread nD τ) none) Set.univ (p ⟨⟩) Q)
      -∗ wp frame (wpE (defs₀ (F := F)) 𝒱₀ (c : Thread nD τ) none) Set.univ
        (.op (.store partM (Rect.unit (s := S1024x1024) (k0_off3 c (BitVec.ofNat 32 t.val)) S256x1024.size hi) w Finset.univ h1 h2) p) Q) := by
  iintro H Hk
  ihave H := (Entails.of_eq (show qPts c t f = (partM.view.loc (c : Thread nD τ) ↦[(qR c t).set]{fullShare} f : sProp 𝕄) from rfl)) $$ H
  iapply (wp_store 𝒱₀ (c : Thread nD τ) none Set.univ (m := partM) (r := qR c t) (Mk := Finset.univ) (S := (qR c t).set)
    (by rw [View.setOn_univ]; exact (View.set_slice_whole _ _).subset)) $$ H
  iintro H
  iapply Hk
  iapply (quarter_store c t x k v wq wo G f hG w hw) $$ H

/-! ## The end of the first phase and the running sum -/

theorem take_own (c : Fin 16) (Φ : Fin 16 → sProp 𝕄) : bigSep Finset.univ Φ = iprop(Φ c ∗ bigSep (Finset.univ.erase c) Φ) :=
  bigSep_erase (Finset.mem_univ c)

theorem end1 (c : Dev nD) : (St1 PF K c [] [] (ord1 c).reverse : sProp 𝕄)
    ⊢ iprop(records PF K ∗ pPts c c (PF c) ∗ (pPts c c (PF c) -∗ bigSep Finset.univ (snt1 PF c)) ∗ ow c (owK 3 c ord)) := by
  unfold St1
  rw [sepL_univ _ _ (rev1_nodup c) (rev1_all c), take_own c (snt1 PF c), show snt1 PF c c = pPts c c (PF c) from if_pos rfl,
    show owK 1 c [] + owK 3 c ord = owK 3 c ord from zero_add _]
  iintro ⟨HR, -, -, ⟨Hp, Hs⟩, HO⟩
  isplitl [HR]; · iexact HR
  isplitl [Hp]; · iexact Hp
  isplitl [Hs]
  · iintro Hp
    isplitl [Hp]; · iexact Hp
    iexact Hs
  iexact HO

theorem own_load {α : Type} {Q : α → sProp 𝕄} (c : Dev nD) (o : Fin 2 → ℕ) (ho : o = ![64 * c.val, 0])
    {hi : ∀ a, o a + S64x1024.size a ≤ S1024x1024.size a} {hl} {k : Vec F S64x1024 .bf16 → Prog (TpuEff nD τ sig (Elt F) Λ₀ .tc) α} :
    (pPts c c (PF c) : sProp 𝕄) ⊢ iprop((pPts c c (PF c) -∗ wp frame (wpE (defs₀ (F := F)) 𝒱₀ (c : Thread nD τ) none) Set.univ (k (pblk PF c c)) Q)
      -∗ wp frame (wpE (defs₀ (F := F)) 𝒱₀ (c : Thread nD τ) none) Set.univ
        (.op (.load partM (Rect.unit (s := S1024x1024) o S64x1024.size hi).toLoadRect hl) k) Q) := by
  subst ho
  unfold pPts
  iintro H Hk
  iapply (wp_load 𝒱₀ (c : Thread nD τ) none Set.univ (m := partM) (S := (pCh c).view.set) ((setOn_whole cc0_scratch7 _).trans (pCh_set c).symm).subset) $$ H
  iintro H
  iapply Hk $$ H

theorem red_ld {α : Type} {Q : α → sProp 𝕄} (c : Dev nD) (f : FRow F) {hi} {hl} {k : Vec F S64x1024 .f32 → Prog (TpuEff nD τ sig (Elt F) Λ₀ .tc) α} :
    (redPts c f : sProp 𝕄) ⊢ iprop((redPts c f -∗ wp frame (wpE (defs₀ (F := F)) 𝒱₀ (c : Thread nD τ) none) Set.univ (k f) Q)
      -∗ wp frame (wpE (defs₀ (F := F)) 𝒱₀ (c : Thread nD τ) none) Set.univ
        (.op (.load redM (Rect.unit (s := S64x1024) ![0, 0] S64x1024.size hi).toLoadRect hl) k) Q) := by
  have h := red_load c f hi
  unfold redPts
  iintro H Hk
  iapply (wp_load 𝒱₀ (c : Thread nD τ) none Set.univ (m := redM) (Finset.subset_univ _)) $$ H
  iintro H
  rw [h]
  iapply Hk $$ H

theorem red_st {α : Type} {Q : α → sProp 𝕄} (c : Dev nD) (f w : FRow F) {hi} {h1} {h2} {p : PUnit → Prog (TpuEff nD τ sig (Elt F) Λ₀ .tc) α} :
    (redPts c f : sProp 𝕄) ⊢ iprop((redPts c w -∗ wp frame (wpE (defs₀ (F := F)) 𝒱₀ (c : Thread nD τ) none) Set.univ (p ⟨⟩) Q)
      -∗ wp frame (wpE (defs₀ (F := F)) 𝒱₀ (c : Thread nD τ) none) Set.univ
        (.op (.store redM (Rect.unit (s := S64x1024) ![0, 0] S64x1024.size hi) w Finset.univ h1 h2) p) Q) := by
  have h := red_store f w hi
  unfold redPts
  iintro H Hk
  iapply (wp_store 𝒱₀ (c : Thread nD τ) none Set.univ (m := redM) (r := Rect.unit (s := S64x1024) ![0, 0] S64x1024.size hi) (Mk := Finset.univ) (Finset.subset_univ _)) $$ H
  iintro H
  iapply Hk
  ihave H := (Entails.of_eq (congrArg (fun X => (redM.view.loc (c : Thread nD τ) ↦{fullShare} X : sProp 𝕄)) h)) $$ H
  iexact H

theorem start2 (c : Dev nD) (f : FRow F) :
    iprop(records PF K ∗ levAts L lv ∗ (bigSep Finset.univ (rtodo c 1)) ∗ redPts c f ∗ ow c (owK 3 c ord)) ⊢ (St2 PF K c ord [] f : sProp 𝕄) := by
  unfold St2
  rw [sepL_univ _ _ ord_nodup ord_all, sepL_nil]
  iintro ⟨HR, HL, Hb, Hr, HO⟩
  isplitl [HR]; · iexact HR
  isplitl [HL]; · iexact HL
  isplitl [Hb]; · iexact Hb
  isplitl [Hr]; · iexact Hr
  isplitr; · iempintro
  iexact HO

/-- After the sixteen landings the running sum is the whole sum of the device's row block. -/
theorem end2 (c : Dev nD) (f : FRow F) (hf : f = redV PF c) : (St2 PF K c [] ord.reverse f : sProp 𝕄)
    ⊢ iprop(redPts c (redV PF c) ∗ (bigSep Finset.univ (rdone1 c)) ∗ ow c (owK 3 c ord)) := by
  subst hf
  unfold St2
  rw [sepL_univ _ _ rev_nodup rev_all]
  iintro ⟨-, -, -, Hr, Hd, HO⟩
  isplitl [Hr]; · iexact Hr
  isplitl [Hd]; · iexact Hd
  iexact HO

/-! ## The second phase -/

theorem out_ld {α : Type} {Q : α → sProp 𝕄} (c : Dev nD) (o : Fin 2 → ℕ) (ho : o = ![64 * c.val, 0]) (f : BMat F)
    {hi : ∀ a, o a + S64x1024.size a ≤ S1024x1024.size a} {hl} {k : Vec F S64x1024 .bf16 → Prog (TpuEff nD τ sig (Elt F) Λ₀ .tc) α} :
    (oPts fullShare c c f : sProp 𝕄) ⊢ iprop((∀ w, oPts fullShare c c f -∗ wp frame (wpE (defs₀ (F := F)) 𝒱₀ (c : Thread nD τ) none) Set.univ (k w) Q)
      -∗ wp frame (wpE (defs₀ (F := F)) 𝒱₀ (c : Thread nD τ) none) Set.univ
        (.op (.load outM (Rect.unit (s := S1024x1024) o S64x1024.size hi).toLoadRect hl) k) Q) := by
  subst ho
  unfold oPts
  iintro H Hk
  iapply (wp_load 𝒱₀ (c : Thread nD τ) none Set.univ (m := outM) (S := (oCh c).view.set) ((setOn_whole cc0_stg3_0 _).trans (oCh_set c).symm).subset) $$ H
  iintro H
  ispecialize Hk $$ %_
  iapply Hk $$ H

theorem out_st {α : Type} {Q : α → sProp 𝕄} (c : Dev nD) (o : Fin 2 → ℕ) (ho : o = ![64 * c.val, 0]) (f : BMat F) (w : BRow F) (hw : w = outV PF c)
    {hi : ∀ a, o a + S64x1024.size a ≤ S1024x1024.size a} {h1} {h2} {p : PUnit → Prog (TpuEff nD τ sig (Elt F) Λ₀ .tc) α} :
    (oPts fullShare c c f : sProp 𝕄) ⊢ iprop((oPts fullShare c c (OF PF) -∗ wp frame (wpE (defs₀ (F := F)) 𝒱₀ (c : Thread nD τ) none) Set.univ (p ⟨⟩) Q)
      -∗ wp frame (wpE (defs₀ (F := F)) 𝒱₀ (c : Thread nD τ) none) Set.univ
        (.op (.store outM (Rect.unit (s := S1024x1024) o S64x1024.size hi) w Finset.univ h1 h2) p) Q) := by
  subst ho
  iintro H Hk
  ihave H := (Entails.of_eq (show oPts fullShare c c f = (outM.view.loc (c : Thread nD τ) ↦[(oCh c).view.set]{fullShare} f : sProp 𝕄) from rfl)) $$ H
  iapply (wp_store 𝒱₀ (c : Thread nD τ) none Set.univ (m := outM) (r := rows c) (Mk := Finset.univ) (S := (oCh c).view.set)
    (by rw [View.setOn_univ])) $$ H
  iintro H
  iapply Hk
  iapply (out_store PF c f w hw) $$ H

theorem start3 (c : Dev nD) :
    iprop(records PF K ∗ sepL (todo2 c) ord ∗ oPts fullShare c c (OF PF) ∗ ow c (owK 3 c ord))
      ⊢ (iprop(St3 PF K c ord [] ∗ oPts (Transfers.shareDrop fullShare 16) c c (OF PF)) : sProp 𝕄) := by
  unfold St3
  rw [sepL_univ (fun j => oPts (oShare j) c c (OF PF)) _ ord_nodup ord_all, sepL_nil]
  iintro ⟨HR, Ht, Ho, HO⟩
  ihave Ho := (show (oPts fullShare c c (OF PF) : sProp 𝕄) ⊢ iprop(oPts (Transfers.shareDrop fullShare 16) c c (OF PF) ∗ bigSep Finset.univ fun j : Fin 16 => oPts (oShare j) c c (OF PF))
    from Transfers.pointsTo_toks_split fullShare 16) $$ Ho
  icases Ho with ⟨Hd, Ho⟩
  isplitr [Hd]
  · isplitl [HR]; · iexact HR
    isplitl [Ho]; · iexact Ho
    isplitl [Ht]; · iexact Ht
    isplitr; · iempintro
    iexact HO
  · iexact Hd

theorem end3 (c : Dev nD) : iprop(St3 PF K c [] ord.reverse ∗ bigSep Finset.univ (rtodo c 3))
    ⊢ (iprop((bigSep Finset.univ (snt2 PF c)) ∗ St4 PF K c ord []) : sProp 𝕄) := by
  unfold St3 St4
  rw [sepL_univ (snt2 PF c) _ rev_nodup rev_all, sepL_univ (rtodo c 3) _ ord_nodup ord_all]
  rw [show sepL (rdone3 PF c) [] = iprop(emp) from rfl, show owK 3 c [] = (0 : CellTallies nD τ sig Unit) from rfl]
  iintro ⟨⟨HR, -, -, Hs, HO⟩, Hb⟩
  isplitl [Hs]; · iexact Hs
  isplitl [HR]; · iexact HR
  isplitl [Hb]; · iexact Hb
  isplitr; · iempintro
  iexact HO

theorem end4 (c : Dev nD) :
    iprop(St4 PF K c [] ord.reverse ∗ (bigSep Finset.univ (bef c 0)) ∗ (bigSep Finset.univ (bef c 2)) ∗ (bigSep Finset.univ (snt1 PF c)) ∗ bigSep Finset.univ (snt2 PF c))
    ⊢ (iprop((bigSep Finset.univ (rdone3 PF c)) ∗ St5 PF K c ord []) : sProp 𝕄) := by
  unfold St4 St5
  rw [sepL_univ (rdone3 PF c) _ rev_nodup rev_all, sepL_univ (stodo PF c) _ ord_nodup ord_all]
  rw [show sepL (sdone PF c) [] = iprop(emp) from rfl]
  rw [show (bigSep Finset.univ (stodo PF c) : sProp 𝕄) = iprop((bigSep Finset.univ (bef c 0)) ∗ (bigSep Finset.univ (bef c 2)) ∗ (bigSep Finset.univ (snt1 PF c)) ∗ bigSep Finset.univ (snt2 PF c)) from by
    rw [← bigSep_sep', ← bigSep_sep', ← bigSep_sep']; rfl]
  iintro ⟨⟨HR, -, Hd, HO⟩, Hb⟩
  isplitl [Hd]; · iexact Hd
  isplitl [HR]; · iexact HR
  isplitl [Hb]; · iexact Hb
  isplitr; · iempintro
  iexact HO

/-! ## What is left at the end -/

theorem own_fill (c : Fin 16) (Φ : Fin 16 → sProp 𝕄) :
    iprop(Φ c ∗ bigSep Finset.univ fun j => if j = c then iprop(emp) else Φ j) ⊢ bigSep Finset.univ Φ := by
  rw [take_own c Φ, take_own c fun j => if j = c then iprop(emp) else Φ j,
    bigSep_congr (s := Finset.univ.erase c) (Ψ := Φ) (fun j hj => if_neg (Finset.ne_of_mem_erase hj))]
  iintro ⟨H, -, Hs⟩
  isplitl [H]; · iexact H
  iexact Hs

/-- The device's buffers and semaphores when its kernel is through: its result is the whole result. -/
def Post (c : Dev nD) : sProp 𝕄 :=
  iprop((∃ f, full c cc0_scratch7 f) ∗ full c cc0_stg3_0 (OF PF) ∗ (∃ f, full c cc0_scratch9 f) ∗ semVal (barCell c) 0
    ∗ bigSep Finset.univ fun k : Fin 4 => bigSep Finset.univ fun j : Fin 16 => semVal (cell c k j) 0)

/-- What holds at all times may be used at each of the entries. -/
theorem spread {I : Type} [Fintype I] [DecidableEq I] (R : sProp 𝕄) [BI.Persistent R] (Φ Ψ : I → sProp 𝕄) (h : ∀ j, iprop(R ∗ Φ j) ⊢ Ψ j) :
    iprop(R ∗ bigSep Finset.univ Φ) ⊢ bigSep Finset.univ Ψ := by
  iintro ⟨HR, H⟩
  ihave HR := (BI.bigSep_of_persistent (Finset.univ : Finset I) R) $$ HR
  ihave H := (Entails.of_eq (bigSep_sep' Finset.univ (fun _ : I => R) Φ).symm) $$ [HR H]
  · isplitl [HR]; · iexact HR
    iexact H
  iapply (show (bigSep Finset.univ fun j => iprop(R ∗ Φ j)) ⊢ bigSep Finset.univ Ψ from bigSep_mono fun j _ => h j) $$ H

theorem close_fam (c : Dev nD) (k : Fin 4) :
    iprop(records PF K ∗ bigSep Finset.univ (aft c k)) ⊢ (|={Set.univ}=> bigSep Finset.univ fun j : Fin 16 => semVal (cell c k j) 0 : sProp 𝕄) :=
  by
  iintro H
  ihave H := (show iprop(records PF K ∗ bigSep Finset.univ (aft c k)) ⊢ (bigSep Finset.univ fun j : Fin 16 => iprop(|={Set.univ}=> semVal (cell c k j) 0) : sProp 𝕄) from
    spread (records PF K) (aft c k) (fun j => iprop(|={Set.univ}=> semVal (cell c k j) 0)) (fun j => close_cell PF K c k j)) $$ H
  imod (BI.bigSep_fupd Finset.univ _) $$ [H] with H
  · iexact H
  imodintro
  iexact H

theorem finish (c : Dev nD) :
    iprop(St5 PF K c [] ord.reverse ∗ (bigSep Finset.univ (rdone1 c)) ∗ (bigSep Finset.univ (rdone3 PF c)) ∗ (∃ f, cPts (F := F) c c f)
        ∗ oPts (Transfers.shareDrop fullShare 16) c c (OF PF) ∗ atPos ER (barCell c) 1 ∅ 0)
      ⊢ (|={Set.univ}=> (iprop(Post PF c ∗ ow c 0)) : sProp 𝕄) := by
  unfold St5 Post
  rw [sepL_univ (sdone PF c) _ rev_nodup rev_all]
  iintro ⟨⟨#HR, -, Hs, HO⟩, H1, H3, Hc, Ho, Hb⟩
  ihave Hs := (Entails.of_eq (show (bigSep Finset.univ (sdone PF c) : sProp 𝕄) = iprop((bigSep Finset.univ (aft c 0)) ∗ (bigSep Finset.univ (aft c 2)) ∗ (bigSep Finset.univ fun j => pPts c j (PF c)) ∗ bigSep Finset.univ fun j => oPts (oShare j) c c (OF PF)) from by
    rw [← bigSep_sep', ← bigSep_sep', ← bigSep_sep']; rfl)) $$ Hs
  icases Hs with ⟨Ha0, Ha2, Hp, Hos⟩
  ihave H1 := (Entails.of_eq (show (bigSep Finset.univ (rdone1 c) : sProp 𝕄) = iprop((bigSep Finset.univ (aft c 1)) ∗ bigSep Finset.univ fun j => if j = c then iprop(emp) else iprop(∃ f, cPts (F := F) c j f)) from by
    rw [← bigSep_sep']; rfl)) $$ H1
  icases H1 with ⟨Ha1, Hcs⟩
  ihave H3 := (Entails.of_eq (show (bigSep Finset.univ (rdone3 PF c) : sProp 𝕄) = iprop((bigSep Finset.univ (aft c 3)) ∗ bigSep Finset.univ fun j => if j = c then iprop(emp) else oPts fullShare c j (OF PF)) from by
    rw [← bigSep_sep']; rfl)) $$ H3
  icases H3 with ⟨Ha3, Hrs⟩
  imod (close_fam PF K c 0) $$ [Ha0] with Hz0
  · isplitr; · iexact HR
    iexact Ha0
  imod (close_fam PF K c 1) $$ [Ha1] with Hz1
  · isplitr; · iexact HR
    iexact Ha1
  imod (close_fam PF K c 2) $$ [Ha2] with Hz2
  · isplitr; · iexact HR
    iexact Ha2
  imod (close_fam PF K c 3) $$ [Ha3] with Hz3
  · isplitr; · iexact HR
    iexact Ha3
  imod (close_bar PF K c) $$ [Hb] with Hzb
  · isplitr; · iexact HR
    iexact Hb
  imodintro
  isplitr [HO]
  · isplitl [Hp]
    · iexists (PF c)
      iapply (Entails.of_eq (part_blocks c (PF c)).symm) $$ Hp
    isplitl [Ho Hos Hrs]
    · iapply (Entails.of_eq (out_blocks c (OF PF)).symm)
      iapply (own_fill c fun j => oPts fullShare c j (OF PF))
      isplitl [Ho Hos]
      · iapply (show iprop(oPts (Transfers.shareDrop fullShare 16) c c (OF PF) ∗ bigSep Finset.univ fun j : Fin 16 => oPts (oShare j) c c (OF PF)) ⊢ (oPts fullShare c c (OF PF) : sProp 𝕄)
          from Transfers.pointsTo_toks_join fullShare 16)
        isplitl [Ho]; · iexact Ho
        iexact Hos
      · iexact Hrs
    isplitl [Hc Hcs]
    · icases Hc with ⟨%f0, Hc⟩
      iapply (comm_join c f0)
      iapply (own_fill c fun j => iprop(∃ f, cPts (F := F) c j f))
      isplitl [Hc]; · iexists f0; iexact Hc
      iexact Hcs
    isplitl [Hzb]; · iexact Hzb
    rw [four]
    isplitl [Hz0]; · iexact Hz0
    isplitl [Hz1]; · iexact Hz1
    isplitl [Hz2]; · iexact Hz2
    iexact Hz3
  · iexact HO

end Cert.KernelIdeal.Pf

end
-- ==== Proof.KI.Walk1.lean ====
module

public import proofs.«01_k».proof.Proof.KI.Hold

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

/-- The body run from what a device holds when its kernel starts, to the continuation `Kt`. -/
def Runs (c : Dev nD) (x k v : Vec F S1024x1024 .f32) (wq : Vec F S1024x16384 .f32) (wo : Vec F S16384x1024 .f32)
    (f6 f7 f8 f10 f11 f13 : BMat F) (f9 : Vec F S2x1024x1024 .f32) (f12 : Vec F S256x1024 .bf16) (f14 : FRow F)
    (B T : sProp 𝕄) (Kt : PUnit → sProp 𝕄) : Prop :=
    iprop(StB PF K c ord ∗ full c cc0_stg0_0 x ∗ full c cc0_stg1_0 k ∗ full c cc0_stg2_0 v ∗ full c main_arg3 wq ∗ full c main_arg4 wo
      ∗ full c cc0_scratch0 f6 ∗ full c cc0_scratch1 f7 ∗ full c cc0_scratch2 f8
      ∗ (wSl0.view.loc (c : Thread nD τ) ↦[wSl0.view.set]{fullShare} f9) ∗ (wSl1.view.loc (c : Thread nD τ) ↦[wSl1.view.set]{fullShare} f9)
      ∗ full c cc0_scratch4 f10 ∗ full c cc0_scratch5 f11 ∗ full c cc0_scratch6 f12 ∗ full c cc0_scratch7 f13 ∗ full c cc0_scratch8 f14
      ∗ semVal ((c : Thread nD τ), .dma (4 : Fin 70)) 0 ∗ semVal ((c : Thread nD τ), .dma (5 : Fin 70)) 0
      ∗ levAts L lv ∗ cred (tallyAt (barCell c) () 16) ∗ atPos ER (barCell c) 0 ∅ 0 ∗ B ∗ T)
      ⊢ wp frame (wpE (defs₀ (F := F)) 𝒱₀ (c : Thread nD τ) none) Set.univ
        (cc0__body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14) Kt

set_option maxHeartbeats 2000000 in
/-- The first stretch: the entry handshake with every device, then the operands rounded into their scratch buffers. -/
def w1 (c : Dev nD) (x k v : Vec F S1024x1024 .f32) (wq : Vec F S1024x16384 .f32) (wo : Vec F S16384x1024 .f32)
    (f6 f7 f8 f10 f11 f13 : BMat F) (f9 : Vec F S2x1024x1024 .f32) (f12 : Vec F S256x1024 .bf16) (f14 : FRow F)
    (B T : sProp 𝕄) (Kt : PUnit → sProp 𝕄) :
    Σ' (G : Prop), G → Runs PF K c x k v wq wo f6 f7 f8 f10 f11 f13 f9 f12 f14 B T Kt := by
  sl_stretch
  unfold Runs
  rw [cc0__body_eq_skeleton]; unfold cc0__body_skel
  iintro ⟨HS, Hx, Hk, Hv, Hwq, Hwo, H6, H7, H8, H90, H91, H10, H11, H12, H13, H14, Hs4, Hs5, #Hlev, HcB, HatB, HB, HT⟩
  unfold ord full
  sl_exec
  iapply (sig_step PF K c 0 _ ⟨k0_dev1, k0_dev1_lt⟩ (Fin.ext k0_dev1_eq) _ (by decide)) $$ HS
  iintro HS; sl_exec
  iapply (sig_step PF K c 1 _ ⟨k0_dev2, k0_dev2_lt⟩ (Fin.ext k0_dev2_eq) _ (by decide)) $$ HS
  iintro HS; sl_exec
  iapply (sig_step PF K c 2 _ ⟨k0_dev3, k0_dev3_lt⟩ (Fin.ext k0_dev3_eq) _ (by decide)) $$ HS
  iintro HS; sl_exec
  iapply (sig_step PF K c 3 _ ⟨k0_dev4, k0_dev4_lt⟩ (Fin.ext k0_dev4_eq) _ (by decide)) $$ HS
  iintro HS; sl_exec
  iapply (sig_step PF K c 4 _ ⟨k0_dev5, k0_dev5_lt⟩ (Fin.ext k0_dev5_eq) _ (by decide)) $$ HS
  iintro HS; sl_exec
  iapply (sig_step PF K c 5 _ ⟨k0_dev6, k0_dev6_lt⟩ (Fin.ext k0_dev6_eq) _ (by decide)) $$ HS
  iintro HS; sl_exec
  iapply (sig_step PF K c 6 _ ⟨k0_dev7, k0_dev7_lt⟩ (Fin.ext k0_dev7_eq) _ (by decide)) $$ HS
  iintro HS; sl_exec
  iapply (sig_step PF K c 7 _ ⟨k0_dev8, k0_dev8_lt⟩ (Fin.ext k0_dev8_eq) _ (by decide)) $$ HS
  iintro HS; sl_exec
  iapply (sig_step PF K c 8 _ ⟨k0_dev9, k0_dev9_lt⟩ (Fin.ext k0_dev9_eq) _ (by decide)) $$ HS
  iintro HS; sl_exec
  iapply (sig_step PF K c 9 _ ⟨k0_dev10, k0_dev10_lt⟩ (Fin.ext k0_dev10_eq) _ (by decide)) $$ HS
  iintro HS; sl_exec
  iapply (sig_step PF K c 10 _ ⟨k0_dev11, k0_dev11_lt⟩ (Fin.ext k0_dev11_eq) _ (by decide)) $$ HS
  iintro HS; sl_exec
  iapply (sig_step PF K c 11 _ ⟨k0_dev12, k0_dev12_lt⟩ (Fin.ext k0_dev12_eq) _ (by decide)) $$ HS
  iintro HS; sl_exec
  iapply (sig_step PF K c 12 _ ⟨k0_dev13, k0_dev13_lt⟩ (Fin.ext k0_dev13_eq) _ (by decide)) $$ HS
  iintro HS; sl_exec
  iapply (sig_step PF K c 13 _ ⟨k0_dev14, k0_dev14_lt⟩ (Fin.ext k0_dev14_eq) _ (by decide)) $$ HS
  iintro HS; sl_exec
  iapply (sig_step PF K c 14 _ ⟨k0_dev15, k0_dev15_lt⟩ (Fin.ext k0_dev15_eq) _ (by decide)) $$ HS
  iintro HS; sl_exec
  iapply (sig_step PF K c 15 _ ⟨k0_dev16, k0_dev16_lt⟩ (Fin.ext k0_dev16_eq) _ (by decide)) $$ HS
  iintro HS; sl_exec
  iapply (bar_wait PF K c _ (by decide)) $$ [HS HcB HatB]
  · isplitl [HS]; · iexact HS
    isplitl [HcB]; · iexact HcB
    isplitl [HatB]; · iexact HatB
    iexact Hlev
  unfold ow
  iintro ⟨#HR, Hbar, HatB, ⟨%W, HO⟩⟩
  have hm4 : (levAts L lv : sProp 𝕄) ⊢ MayWait (c : Thread nD τ) (.dma (⟨4, by decide⟩ : Fin 70)) default (owK 1 c (ord1 c) + owK 3 c ord) :=
    mayWait_low c _ (by decide) (ord1 c) ord
  have hm5 : (levAts L lv : sProp 𝕄) ⊢ MayWait (c : Thread nD τ) (.dma (⟨5, by decide⟩ : Fin 70)) default (owK 1 c (ord1 c) + owK 3 c ord) :=
    mayWait_low c _ (by decide) (ord1 c) ord
  set_option sl_exec.stopBefore "k0_part5" in sl_exec
  ihave H6 := (store_0 c _ _ (nar x) _ ((congrArg k0_pay1 (load_whole cc0_stg0_0 x inb_S1024x1024_S1024x1024_0_0)).trans (pay1_eq x))) $$ H6
  ihave H7 := (store_1 c _ _ (nar k) _ ((congrArg k0_pay2 (load_whole cc0_stg1_0 k inb_S1024x1024_S1024x1024_0_0)).trans (pay2_eq k))) $$ H7
  ihave H8 := (store_2 c _ (w1.sl.r v) (nar v) _ ((congrArg k0_pay3 (load_whole cc0_stg2_0 v inb_S1024x1024_S1024x1024_0_0)).trans (pay3_eq v))) $$ H8
  ihave H10 := (store_4 c _ (k0_pay4 (w1.sl.v71 c wq)) (nar (wqW c wq)) _ (slab0_read (wqW c wq))) $$ H10
  ihave H11 := (store_5 c _ (k0_pay5 (w1.sl.v82 c wo)) (nar (woW c wo)) _ (slab1_read (woW c wo))) $$ H11
  sl_seam

end Cert.KernelIdeal.Pf

end
-- ==== Proof.KI.Walk2.lean ====
module

public import proofs.«01_k».proof.Proof.KI.Walk1

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

set_option maxHeartbeats 2000000 in
/-- The second stretch. -/
def w2 (c : Dev nD) (x k v : Vec F S1024x1024 .f32) (wq : Vec F S1024x16384 .f32) (wo : Vec F S16384x1024 .f32)
    (f6 f7 f8 f10 f11 f13 : BMat F) (f9 : Vec F S2x1024x1024 .f32) (f12 : Vec F S256x1024 .bf16) (f14 : FRow F)
    (B T : sProp 𝕄) (Kt : PUnit → sProp 𝕄) :
    Σ' (G : Prop), G → (w1 PF K c x k v wq wo f6 f7 f8 f10 f11 f13 f9 f12 f14 B T Kt).1 := by
  sl_stretch
  sl_resume
  set_option sl_exec.stopBefore "k0_part10" in sl_exec
  sl_seam

end Cert.KernelIdeal.Pf

end
-- ==== Proof.KI.Walk3.lean ====
module

public import proofs.«01_k».proof.Proof.KI.Walk2

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

theorem val0 (c : Dev nD) (x k v : Vec F S1024x1024 .f32) (wq : Vec F S1024x16384 .f32) (wo : Vec F S16384x1024 .f32) :
    k0_pay24 (w2.sl.r_9 c x k v wq wo) = PQ c 0 (nar x) (nar k) (nar v) (nar (wqW c wq)) (nar (woW c wo)) := by
  unfold k0_pay24 PQ
  simp only [shapeCast_id]
  have h : w2.sl.H12_8 c x k v wq = ctxL (headQ c 0 (nar x) (nar k) (nar v) (nar (wqW c wq))) := by
    unfold w2.sl.H12_8 ctxL headQ headV wgtV k0_pay22 k0_pay21 k0_pay18 k0_pay17 k0_pay13 k0_pay12 k0_pay10 k0_pay8 w2.sl.r_3 k0_pay11 w2.sl.r_2 k0_pay9
    simp only [shapeCast_id]
    rfl
  unfold w2.sl.r_9 k0_pay23 w2.sl.v294 ctxV
  rw [h]

theorem ret_step {α β : Type} {Q : β → sProp 𝕄} (c : Dev nD) (v : α) (k : α → Prog (TpuEff nD τ sig (Elt F) Λ₀ .tc) β) :
    wp frame (wpE (defs₀ (F := F)) 𝒱₀ (c : Thread nD τ) none) Set.univ (k v) Q ⊢ wp frame (wpE (defs₀ (F := F)) 𝒱₀ (c : Thread nD τ) none) Set.univ ((Prog.ret v).bind k) Q :=
  Entails.of_eq rfl

/-- The contents of the window buffer once eight pieces are written over contents `f`. -/
def ctxAfter (c : Dev nD) (f : Vec F S256x1024 .bf16) (x k v : Vec F S1024x1024 .f32) (wq : Vec F S1024x16384 .f32) : Vec F S256x1024 .bf16 :=
  (Memref.whole cc0_scratch6).view.writes (Elt F) f (w2.sl.H12_8 c x k v wq)

set_option maxHeartbeats 2000000 in
/-- The third stretch: the first quarter of the partial product is written and its blocks sent. -/
def w3 (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F)
    (T : sProp 𝕄) (Kt : PUnit → sProp 𝕄) :
    Σ' (G : Prop), G → (w2 PF K c x k v wq wo f6 f7 f8 f10 f11 f13 f9 f12 f14 (Own c) (iprop(Ext c ∗ T)) Kt).1 := by
  sl_stretch
  sl_resume
  ihave HT := (Entails.of_eq (show iprop(Ext c ∗ T) = iprop(((bigSep Finset.univ (tok1 c)) ∗ (bigSep Finset.univ (tok2 c)) ∗ (bigSep Finset.univ (rtodo c 1)) ∗ (bigSep Finset.univ (rtodo c 3))
    ∗ (bigSep Finset.univ (bef c 0)) ∗ bigSep Finset.univ (bef c 2)) ∗ T) from rfl)) $$ HT
  icases HT with ⟨⟨Ht1, Ht2, Hr1, Hr3, Hb0, Hb2⟩, HT⟩
  ihave Hm := (merge (F := F) c) $$ [Hbar Ht1 Ht2]
  · isplitl [Hbar]; · iexact Hbar
    isplitl [Ht1]; · iexact Ht1
    iexact Ht2
  icases Hm with ⟨Ht1, Ht2⟩
  ihave HO := (to_ow c _ _) $$ HO
  ihave HS := (start1 PF K c) $$ [Ht1 HO]
  · isplitr; · iexact HR
    isplitl [Ht1]; · iexact Ht1
    iexact HO
  unfold ord1
  ihave Hq := (quarters4 c f13) $$ H13
  icases Hq with ⟨Hq0, Hq1, Hq2, Hq3⟩
  sl_exec
  iapply (qload c 0 f13) $$ Hq0
  iintro %w0 Hq0
  iapply (qstore c 0 x k v wq wo (PF c) f13 hPF _ (val0 c x k v wq wo)) $$ Hq0
  iintro Hq0
  ihave HS := (refill PF K c 0 0 rfl _ _) $$ HS Hq0
  ihave H12 := (Entails.of_eq (show ((Memref.whole cc0_scratch6).view.loc (c : Thread nD τ) ↦{fullShare} (Memref.whole cc0_scratch6).view.writes (Elt F) f12 (w2.sl.H12_8 c x k v wq) : sProp 𝕄)
    = ((Memref.whole cc0_scratch6).view.loc (c : Thread nD τ) ↦{fullShare} ctxAfter c f12 x k v wq) from rfl)) $$ H12
  iapply (gsend1 PF K c 0 0 _ _ _ k0_cond1 k0_dev17 k0_off12 k0_off13 k0_off14 k0_off15 (by decide +kernel)) $$ HS
  iintro HS
  iapply (gsend1 PF K c 0 1 _ _ _ k0_cond2 k0_dev18 k0_off16 k0_off17 k0_off18 k0_off19 (by decide +kernel)) $$ HS
  iintro HS
  iapply (gsend1 PF K c 0 2 _ _ _ k0_cond3 k0_dev19 k0_off20 k0_off21 k0_off22 k0_off23 (by decide +kernel)) $$ HS
  iintro HS
  iapply (gsend1 PF K c 0 3 _ _ _ k0_cond4 k0_dev20 k0_off24 k0_off25 k0_off26 k0_off27 (by decide +kernel)) $$ HS
  iintro HS
  sl_exec
  iapply (ret_step c _ _)
  sl_exec
  sl_seam

end Cert.KernelIdeal.Pf

end
-- ==== Proof.KI.Walk4.lean ====
module

public import proofs.«01_k».proof.Proof.KI.Walk3

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

set_option maxHeartbeats 2000000 in
/-- The fourth stretch: the second quarter of the partial product is written and its blocks sent. -/
def w4 (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F)
    (T : sProp 𝕄) (Kt : PUnit → sProp 𝕄) :
    Σ' (G : Prop), G → (w3 PF K c x k v wq wo hPF f6 f7 f8 f10 f11 f13 f9 f12 f14 T Kt).1 := by
  sl_stretch
  sl_resume
  iapply (qload c 1 f13) $$ Hq1
  iintro %q1 Hq1
  sl_exec
  sl_seam

end Cert.KernelIdeal.Pf

end
-- ==== Proof.KI.Walk5.lean ====
module

public import proofs.«01_k».proof.Proof.KI.Walk4

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

theorem val1 (c : Dev nD) (x k v : Vec F S1024x1024 .f32) (wq : Vec F S1024x16384 .f32) (wo : Vec F S16384x1024 .f32) :
    k0_pay41 (w4.sl.r c x k v wq wo) = PQ c 1 (nar x) (nar k) (nar v) (nar (wqW c wq)) (nar (woW c wo)) := by
  unfold k0_pay41 w4.sl.r k0_pay40 PQ
  simp only [shapeCast_id]
  have h : w3.sl.H12_8 c x k v wq = ctxL (headQ c 1 (nar x) (nar k) (nar v) (nar (wqW c wq))) := by
    unfold w3.sl.H12_8 ctxL headQ headV wgtV k0_pay39 k0_pay38 k0_pay34 k0_pay33 k0_pay31 k0_pay30 k0_pay29 k0_pay27 w3.sl.r_8 w3.sl.r_9 w3.sl.r_7 w3.sl.r_6 k0_pay37 k0_pay36 k0_pay35 k0_pay32 k0_pay28 w3.sl.r_4 w3.sl.r_5 k0_pay25 k0_pay26
    simp only [shapeCast_id]
    rfl
  unfold w3.sl.v528 ctxV
  rw [h]

/-- The contents of the window buffer after the second quarter. -/
def ctxAfter1 (c : Dev nD) (f : Vec F S256x1024 .bf16) (x k v : Vec F S1024x1024 .f32) (wq : Vec F S1024x16384 .f32) : Vec F S256x1024 .bf16 :=
  (Memref.whole cc0_scratch6).view.writes (Elt F) f (w3.sl.H12_8 c x k v wq)

set_option maxHeartbeats 2000000 in
/-- The fifth stretch: the second quarter's blocks are sent and the third quarter is computed. -/
def w5 (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F)
    (T : sProp 𝕄) (Kt : PUnit → sProp 𝕄) :
    Σ' (G : Prop), G → (w4 PF K c x k v wq wo hPF f6 f7 f8 f10 f11 f13 f9 f12 f14 T Kt).1 := by
  sl_stretch
  sl_resume
  iapply (qstore c 1 x k v wq wo (PF c) f13 hPF _ (val1 c x k v wq wo)) $$ Hq1
  iintro Hq1
  ihave HS := (refill PF K c 1 1 rfl _ _) $$ HS Hq1
  ihave H12 := (Entails.of_eq (show ((Memref.whole cc0_scratch6).view.loc (c : Thread nD τ) ↦{fullShare} (Memref.whole cc0_scratch6).view.writes (Elt F) (ctxAfter c f12 x k v wq) (w3.sl.H12_8 c x k v wq) : sProp 𝕄)
    = ((Memref.whole cc0_scratch6).view.loc (c : Thread nD τ) ↦{fullShare} ctxAfter1 c (ctxAfter c f12 x k v wq) x k v wq) from rfl)) $$ H12
  iapply (gsend1 PF K c 1 0 _ _ _ k0_cond5 k0_dev21 k0_off28 k0_off29 k0_off30 k0_off31 (by decide +kernel)) $$ HS
  iintro HS
  iapply (gsend1 PF K c 1 1 _ _ _ k0_cond6 k0_dev22 k0_off32 k0_off33 k0_off34 k0_off35 (by decide +kernel)) $$ HS
  iintro HS
  iapply (gsend1 PF K c 1 2 _ _ _ k0_cond7 k0_dev23 k0_off36 k0_off37 k0_off38 k0_off39 (by decide +kernel)) $$ HS
  iintro HS
  iapply (gsend1 PF K c 1 3 _ _ _ k0_cond8 k0_dev24 k0_off40 k0_off41 k0_off42 k0_off43 (by decide +kernel)) $$ HS
  iintro HS
  sl_exec
  iapply (qload c 2 f13) $$ Hq2
  iintro %q2 Hq2
  sl_seam

end Cert.KernelIdeal.Pf

end
-- ==== Proof.KI.Walk6.lean ====
module

public import proofs.«01_k».proof.Proof.KI.Walk5

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

theorem val2 (c : Dev nD) (x k v : Vec F S1024x1024 .f32) (wq : Vec F S1024x16384 .f32) (wo : Vec F S16384x1024 .f32) :
    k0_pay59 (w5.sl.v762 c x k v wq) ((Memref.whole cc0_scratch5).view.readAt (Elt F) (Rect.unit (s := S1024x1024) ![0, 0] S1024x1024.size inb_S1024x1024_S1024x1024_0_0).toLoadRect (nar (woW c wo)))
      = PQ c 2 (nar x) (nar k) (nar v) (nar (wqW c wq)) (nar (woW c wo)) := by
  unfold k0_pay59 PQ
  simp only [shapeCast_id]
  have h : w5.sl.H12_8 c x k v wq = ctxL (headQ c 2 (nar x) (nar k) (nar v) (nar (wqW c wq))) := by
    unfold w5.sl.H12_8 ctxL headQ headV wgtV k0_pay58 k0_pay57 k0_pay53 k0_pay52 k0_pay50 k0_pay48 k0_pay47 k0_pay45 w5.sl.r_11 w5.sl.cst_376 w5.sl.r_10 w5.sl.r_9 w5.sl.r_8 w5.sl.r_7 w5.sl.r_6 k0_pay56 k0_pay55 k0_pay54 k0_pay51 k0_pay49 k0_pay46 w5.sl.r_4 w5.sl.r_5 k0_pay43 k0_pay44 w5.sl.r_3 k0_pay42
    simp only [shapeCast_id]
    rfl
  unfold w5.sl.v762 ctxV
  rw [h]

/-- The contents of the window buffer after the third quarter. -/
def ctxAfter2 (c : Dev nD) (f : Vec F S256x1024 .bf16) (x k v : Vec F S1024x1024 .f32) (wq : Vec F S1024x16384 .f32) : Vec F S256x1024 .bf16 :=
  (Memref.whole cc0_scratch6).view.writes (Elt F) f (w5.sl.H12_8 c x k v wq)

set_option maxHeartbeats 2000000 in
/-- The sixth stretch: the third quarter's blocks are sent and the last quarter is computed. -/
def w6 (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F)
    (T : sProp 𝕄) (Kt : PUnit → sProp 𝕄) :
    Σ' (G : Prop), G → (w5 PF K c x k v wq wo hPF f6 f7 f8 f10 f11 f13 f9 f12 f14 T Kt).1 := by
  sl_stretch
  sl_resume
  iapply (qstore c 2 x k v wq wo (PF c) f13 hPF _ (val2 c x k v wq wo)) $$ Hq2
  iintro Hq2
  ihave HS := (refill PF K c 2 2 rfl _ _) $$ HS Hq2
  ihave H12 := (Entails.of_eq (show ((Memref.whole cc0_scratch6).view.loc (c : Thread nD τ) ↦{fullShare} (Memref.whole cc0_scratch6).view.writes (Elt F) (ctxAfter1 c (ctxAfter c f12 x k v wq) x k v wq) (w5.sl.H12_8 c x k v wq) : sProp 𝕄)
    = ((Memref.whole cc0_scratch6).view.loc (c : Thread nD τ) ↦{fullShare} ctxAfter2 c (ctxAfter1 c (ctxAfter c f12 x k v wq) x k v wq) x k v wq) from rfl)) $$ H12
  iapply (ret_step c _ _)
  sl_exec
  iapply (gsend1 PF K c 2 0 _ _ _ k0_cond9 k0_dev25 k0_off44 k0_off45 k0_off46 k0_off47 (by decide +kernel)) $$ HS
  iintro HS
  iapply (gsend1 PF K c 2 1 _ _ _ k0_cond10 k0_dev26 k0_off48 k0_off49 k0_off50 k0_off51 (by decide +kernel)) $$ HS
  iintro HS
  iapply (gsend1 PF K c 2 2 _ _ _ k0_cond11 k0_dev27 k0_off52 k0_off53 k0_off54 k0_off55 (by decide +kernel)) $$ HS
  iintro HS
  iapply (gsend1 PF K c 2 3 _ _ _ k0_cond12 k0_dev28 k0_off56 k0_off57 k0_off58 k0_off59 (by decide +kernel)) $$ HS
  iintro HS
  sl_exec
  iapply (qload c 3 f13) $$ Hq3
  iintro %q3 Hq3
  sl_seam

end Cert.KernelIdeal.Pf

end
-- ==== Proof.KI.Walk7.lean ====
module

public import proofs.«01_k».proof.Proof.KI.Walk6

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

theorem off76_eq : ∀ c, k0_off76 c = ![64 * c.val, 0] := by decide +kernel

theorem val3 (c : Dev nD) (x k v : Vec F S1024x1024 .f32) (wq : Vec F S1024x16384 .f32) (wo : Vec F S16384x1024 .f32) :
    k0_pay76 (w6.sl.v996 c x k v wq) ((Memref.whole cc0_scratch5).view.readAt (Elt F) (Rect.unit (s := S1024x1024) ![0, 0] S1024x1024.size inb_S1024x1024_S1024x1024_0_0).toLoadRect (nar (woW c wo)))
      = PQ c 3 (nar x) (nar k) (nar v) (nar (wqW c wq)) (nar (woW c wo)) := by
  unfold k0_pay76 PQ
  simp only [shapeCast_id]
  have h : w6.sl.H12_8 c x k v wq = ctxL (headQ c 3 (nar x) (nar k) (nar v) (nar (wqW c wq))) := by
    unfold w6.sl.H12_8 ctxL headQ headV wgtV k0_pay75 k0_pay74 k0_pay72 k0_pay71 k0_pay70 k0_pay68 k0_pay67 k0_pay63 w6.sl.r_9 w6.sl.r_8 w6.sl.r_7 w6.sl.r_6 k0_pay73 k0_pay69 k0_pay66 k0_pay65 k0_pay64 w6.sl.r_5 k0_pay62 w6.sl.r_4 k0_pay61 w6.sl.r_3 k0_pay60
    simp only [shapeCast_id]
    rfl
  unfold w6.sl.v996 ctxV
  rw [h]

set_option maxHeartbeats 2000000 in
/-- The seventh stretch: the last blocks are sent and the running sum begins. -/
def w7 (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F)
    (T : sProp 𝕄) (Kt : PUnit → sProp 𝕄) :
    Σ' (G : Prop), G → (w6 PF K c x k v wq wo hPF f6 f7 f8 f10 f11 f13 f9 f12 f14 T Kt).1 := by
  sl_stretch
  sl_resume
  iapply (qstore c 3 x k v wq wo (PF c) f13 hPF _ (val3 c x k v wq wo)) $$ Hq3
  iintro Hq3
  ihave HS := (refill PF K c 3 3 rfl _ _) $$ HS Hq3
  iapply (ret_step c _ _)
  sl_exec
  iapply (gsend1 PF K c 3 0 _ _ _ k0_cond13 k0_dev29 k0_off60 k0_off61 k0_off62 k0_off63 (by decide +kernel)) $$ HS
  iintro HS
  iapply (gsend1 PF K c 3 1 _ _ _ k0_cond14 k0_dev30 k0_off64 k0_off65 k0_off66 k0_off67 (by decide +kernel)) $$ HS
  iintro HS
  iapply (gsend1 PF K c 3 2 _ _ _ k0_cond15 k0_dev31 k0_off68 k0_off69 k0_off70 k0_off71 (by decide +kernel)) $$ HS
  iintro HS
  iapply (gsend1 PF K c 3 3 _ _ _ k0_cond16 k0_dev32 k0_off72 k0_off73 k0_off74 k0_off75 (by decide +kernel)) $$ HS
  iintro HS
  ihave HS := (Entails.of_eq (congrArg (fun l => (St1 PF K c [] [] l : sProp 𝕄)) (show [od c 3 3, od c 3 2, od c 3 1, od c 3 0, od c 2 3, od c 2 2, od c 2 1, od c 2 0, od c 1 3, od c 1 2, od c 1 1, od c 1 0, od c 0 3, od c 0 2, od c 0 1, od c 0 0] = (ord1 c).reverse from rfl))) $$ HS
  ihave HS := (end1 PF K c) $$ HS
  icases HS with ⟨-, Hp, Hsn, HO⟩
  iapply (own_load PF c _ (off76_eq c)) $$ Hp
  iintro Hp
  ihave Hsn := Hsn $$ Hp
  ihave H14 := (Entails.of_eq (show ((Memref.whole cc0_scratch8).view.loc (c : Thread nD τ) ↦{fullShare} f14 : sProp 𝕄) = redPts c f14 from rfl)) $$ H14
  iapply (red_ld c f14) $$ H14
  iintro H14
  iapply (red_st c f14 _) $$ H14
  iintro H14
  ihave HS := (start2 PF K c (k0_pay77 (pblk PF c c))) $$ [Hr1 H14 HO]
  · isplitr; · iexact HR
    isplitr; · iexact Hlev
    isplitl [Hr1]; · iexact Hr1
    isplitl [H14]; · iexact H14
    iexact HO
  ihave HS := (Entails.of_eq (congrArg (fun l => (St2 PF K c l [] (k0_pay77 (pblk PF c c)) : sProp 𝕄)) (show ord = [0, 1, 2, 3, 4, 5, 6, 7, 8, 9, 10, 11, 12, 13, 14, 15] from rfl))) $$ HS
  iapply (grecv1 PF K c 0 _ _ _ _ (cnd_ne c 0) _ rfl _ rfl k0_pay78 (fun a b => by unfold k0_pay78; simp only [shapeCast_id])) $$ HS
  iintro HS
  iapply (grecv1 PF K c 1 _ _ _ _ (cnd_ne c 1) _ rfl _ rfl k0_pay79 (fun a b => by unfold k0_pay79; simp only [shapeCast_id])) $$ HS
  iintro HS
  sl_exec
  sl_seam

end Cert.KernelIdeal.Pf

end
-- ==== Proof.KI.Walk8.lean ====
module

public import proofs.«01_k».proof.Proof.KI.Walk7

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

theorem done2 (c : Dev nD) : (St2 PF K c [] [15, 14, 13, 12, 11, 10, 9, 8, 7, 6, 5, 4, 3, 2, 1, 0]
    (acc PF c 15 (acc PF c 14 (acc PF c 13 (acc PF c 12 (acc PF c 11 (acc PF c 10 (acc PF c 9 (acc PF c 8 (acc PF c 7 (acc PF c 6 (acc PF c 5 (acc PF c 4 (acc PF c 3 (acc PF c 2 (acc PF c 1 (acc PF c 0 (k0_pay77 (pblk PF c c)))))))))))))))))) : sProp 𝕄)
    = St2 PF K c [] ord.reverse (redV PF c) := rfl

set_option maxHeartbeats 2000000 in
/-- The eighth stretch: the sums are finished and the broadcast begins. -/
def w8 (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F)
    (T : sProp 𝕄) (Kt : PUnit → sProp 𝕄) :
    Σ' (G : Prop), G → (w7 PF K c x k v wq wo hPF f6 f7 f8 f10 f11 f13 f9 f12 f14 T Kt).1 := by
  sl_stretch
  sl_resume
  iapply (grecv1 PF K c 2 _ _ _ _ (cnd_ne c 2) _ rfl _ rfl k0_pay80 (fun a b => by unfold k0_pay80; simp only [shapeCast_id])) $$ HS
  iintro HS
  iapply (grecv1 PF K c 3 _ _ _ _ (cnd_ne c 3) _ rfl _ rfl k0_pay81 (fun a b => by unfold k0_pay81; simp only [shapeCast_id])) $$ HS
  iintro HS
  iapply (grecv1 PF K c 4 _ _ _ _ (cnd_ne c 4) _ rfl _ rfl k0_pay82 (fun a b => by unfold k0_pay82; simp only [shapeCast_id])) $$ HS
  iintro HS
  iapply (grecv1 PF K c 5 _ _ _ _ (cnd_ne c 5) _ rfl _ rfl k0_pay83 (fun a b => by unfold k0_pay83; simp only [shapeCast_id])) $$ HS
  iintro HS
  iapply (grecv1 PF K c 6 _ _ _ _ (cnd_ne c 6) _ rfl _ rfl k0_pay84 (fun a b => by unfold k0_pay84; simp only [shapeCast_id])) $$ HS
  iintro HS
  iapply (grecv1 PF K c 7 _ _ _ _ (cnd_ne c 7) _ rfl _ rfl k0_pay85 (fun a b => by unfold k0_pay85; simp only [shapeCast_id])) $$ HS
  iintro HS
  iapply (grecv1 PF K c 8 _ _ _ _ (cnd_ne c 8) _ rfl _ rfl k0_pay86 (fun a b => by unfold k0_pay86; simp only [shapeCast_id])) $$ HS
  iintro HS
  iapply (grecv1 PF K c 9 _ _ _ _ (cnd_ne c 9) _ rfl _ rfl k0_pay87 (fun a b => by unfold k0_pay87; simp only [shapeCast_id])) $$ HS
  iintro HS
  iapply (grecv1 PF K c 10 _ _ _ _ (cnd_ne c 10) _ rfl _ rfl k0_pay88 (fun a b => by unfold k0_pay88; simp only [shapeCast_id])) $$ HS
  iintro HS
  iapply (grecv1 PF K c 11 _ _ _ _ (cnd_ne c 11) _ rfl _ rfl k0_pay89 (fun a b => by unfold k0_pay89; simp only [shapeCast_id])) $$ HS
  iintro HS
  sl_exec
  iapply (grecv1 PF K c 12 _ _ _ _ (cnd_ne c 12) _ rfl _ rfl k0_pay90 (fun a b => by unfold k0_pay90; simp only [shapeCast_id])) $$ HS
  iintro HS
  iapply (grecv1 PF K c 13 _ _ _ _ (cnd_ne c 13) _ rfl _ rfl k0_pay91 (fun a b => by unfold k0_pay91; simp only [shapeCast_id])) $$ HS
  iintro HS
  iapply (grecv1 PF K c 14 _ _ _ _ (cnd_ne c 14) _ rfl _ rfl k0_pay92 (fun a b => by unfold k0_pay92; simp only [shapeCast_id])) $$ HS
  iintro HS
  iapply (grecv1 PF K c 15 _ _ _ _ (cnd_ne c 15) _ rfl _ rfl k0_pay93 (fun a b => by unfold k0_pay93; simp only [shapeCast_id])) $$ HS
  iintro HS
  ihave HS := (Entails.of_eq (done2 PF K c)) $$ HS
  ihave HS := (end2 PF K c _ rfl) $$ HS
  icases HS with ⟨H14, Hr1, HO⟩
  iapply (red_ld c _) $$ H14
  iintro H14
  ihave HB := (Entails.of_eq (show (Own c : sProp 𝕄) = iprop((∃ f, cPts (F := F) c c f) ∗ ∃ f, oPts (F := F) fullShare c c f) from rfl)) $$ HB
  icases HB with ⟨Hcs, ⟨%fo, Ho⟩⟩
  iapply (out_ld c _ (off76_eq c) fo) $$ Ho
  iintro %wx Ho
  iapply (out_st PF c _ (off76_eq c) fo _ rfl) $$ Ho
  iintro Ho
  ihave HS := (start3 PF K c) $$ [Ht2 Ho HO]
  · isplitr; · iexact HR
    isplitl [Ht2]; · iexact Ht2
    isplitl [Ho]; · iexact Ho
    iexact HO
  icases HS with ⟨HS, Hod⟩
  ihave HS := (Entails.of_eq (congrArg (fun l => (St3 PF K c l [] : sProp 𝕄)) (show ord = [0, 1, 2, 3, 4, 5, 6, 7, 8, 9, 10, 11, 12, 13, 14, 15] from rfl))) $$ HS
  iapply (gsend2 PF K c 0 _ _ k0_cond33 (cnd_ne c 0) _ rfl _ rfl k0_off77 k0_off78 (by decide +kernel)) $$ HS
  iintro HS
  iapply (gsend2 PF K c 1 _ _ k0_cond34 (cnd_ne c 1) _ rfl _ rfl k0_off79 k0_off80 (by decide +kernel)) $$ HS
  iintro HS
  iapply (gsend2 PF K c 2 _ _ k0_cond35 (cnd_ne c 2) _ rfl _ rfl k0_off81 k0_off82 (by decide +kernel)) $$ HS
  iintro HS
  iapply (gsend2 PF K c 3 _ _ k0_cond36 (cnd_ne c 3) _ rfl _ rfl k0_off83 k0_off84 (by decide +kernel)) $$ HS
  iintro HS
  iapply (gsend2 PF K c 4 _ _ k0_cond37 (cnd_ne c 4) _ rfl _ rfl k0_off85 k0_off86 (by decide +kernel)) $$ HS
  iintro HS
  sl_exec
  sl_seam

end Cert.KernelIdeal.Pf

end
-- ==== Proof.KI.Walk9.lean ====
module

public import proofs.«01_k».proof.Proof.KI.Walk8

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

set_option maxHeartbeats 2000000 in
/-- The ninth stretch: the broadcast is sent and the first blocks of the result arrive. -/
def w9 (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F)
    (T : sProp 𝕄) (Kt : PUnit → sProp 𝕄) :
    Σ' (G : Prop), G → (w8 PF K c x k v wq wo hPF f6 f7 f8 f10 f11 f13 f9 f12 f14 T Kt).1 := by
  sl_stretch
  sl_resume
  iapply (gsend2 PF K c 5 _ _ k0_cond38 (cnd_ne c 5) _ rfl _ rfl k0_off87 k0_off88 (by decide +kernel)) $$ HS
  iintro HS
  iapply (gsend2 PF K c 6 _ _ k0_cond39 (cnd_ne c 6) _ rfl _ rfl k0_off89 k0_off90 (by decide +kernel)) $$ HS
  iintro HS
  iapply (gsend2 PF K c 7 _ _ k0_cond40 (cnd_ne c 7) _ rfl _ rfl k0_off91 k0_off92 (by decide +kernel)) $$ HS
  iintro HS
  iapply (gsend2 PF K c 8 _ _ k0_cond41 (cnd_ne c 8) _ rfl _ rfl k0_off93 k0_off94 (by decide +kernel)) $$ HS
  iintro HS
  iapply (gsend2 PF K c 9 _ _ k0_cond42 (cnd_ne c 9) _ rfl _ rfl k0_off95 k0_off96 (by decide +kernel)) $$ HS
  iintro HS
  iapply (gsend2 PF K c 10 _ _ k0_cond43 (cnd_ne c 10) _ rfl _ rfl k0_off97 k0_off98 (by decide +kernel)) $$ HS
  iintro HS
  iapply (gsend2 PF K c 11 _ _ k0_cond44 (cnd_ne c 11) _ rfl _ rfl k0_off99 k0_off100 (by decide +kernel)) $$ HS
  iintro HS
  iapply (gsend2 PF K c 12 _ _ k0_cond45 (cnd_ne c 12) _ rfl _ rfl k0_off101 k0_off102 (by decide +kernel)) $$ HS
  iintro HS
  iapply (gsend2 PF K c 13 _ _ k0_cond46 (cnd_ne c 13) _ rfl _ rfl k0_off103 k0_off104 (by decide +kernel)) $$ HS
  iintro HS
  iapply (gsend2 PF K c 14 _ _ k0_cond47 (cnd_ne c 14) _ rfl _ rfl k0_off105 k0_off106 (by decide +kernel)) $$ HS
  iintro HS
  sl_exec
  iapply (gsend2 PF K c 15 _ _ k0_cond48 (cnd_ne c 15) _ rfl _ rfl k0_off107 k0_off108 (by decide +kernel)) $$ HS
  iintro HS
  ihave HS := (Entails.of_eq (congrArg (fun l => (St3 PF K c [] l : sProp 𝕄)) (show [15, 14, 13, 12, 11, 10, 9, 8, 7, 6, 5, 4, 3, 2, 1, 0] = ord.reverse from rfl))) $$ HS
  ihave HS := (end3 PF K c) $$ [HS Hr3]
  · isplitl [HS]; · iexact HS
    iexact Hr3
  icases HS with ⟨Hs2, HS⟩
  ihave HS := (Entails.of_eq (congrArg (fun l => (St4 PF K c l [] : sProp 𝕄)) (show ord = [0, 1, 2, 3, 4, 5, 6, 7, 8, 9, 10, 11, 12, 13, 14, 15] from rfl))) $$ HS
  iapply (grecv2 PF K c 0 _ _ _ (cnd_ne c 0) _ rfl _ rfl) $$ HS
  iintro HS
  iapply (grecv2 PF K c 1 _ _ _ (cnd_ne c 1) _ rfl _ rfl) $$ HS
  iintro HS
  iapply (grecv2 PF K c 2 _ _ _ (cnd_ne c 2) _ rfl _ rfl) $$ HS
  iintro HS
  iapply (grecv2 PF K c 3 _ _ _ (cnd_ne c 3) _ rfl _ rfl) $$ HS
  iintro HS
  iapply (grecv2 PF K c 4 _ _ _ (cnd_ne c 4) _ rfl _ rfl) $$ HS
  iintro HS
  iapply (grecv2 PF K c 5 _ _ _ (cnd_ne c 5) _ rfl _ rfl) $$ HS
  iintro HS
  iapply (grecv2 PF K c 6 _ _ _ (cnd_ne c 6) _ rfl _ rfl) $$ HS
  iintro HS
  iapply (grecv2 PF K c 7 _ _ _ (cnd_ne c 7) _ rfl _ rfl) $$ HS
  iintro HS
  iapply (grecv2 PF K c 8 _ _ _ (cnd_ne c 8) _ rfl _ rfl) $$ HS
  iintro HS
  sl_exec
  sl_seam

end Cert.KernelIdeal.Pf

end
-- ==== Proof.KI.Launch.lean ====
/-
The launch: the exchange's cells and tokens allocated, dealt to the devices that use them, and what each device is owed.
-/
module

public import proofs.«01_k».proof.Proof.KI.Hold

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

/-- The credit two families are waited on with, at launch. -/
def crd (c : Dev nD) (k : Fin 4) (j : Fin 16) : sProp 𝕄 := if j = c then iprop(emp) else cred (tallyAt (cell c k j) () N)

/-- What device `c` starts the exchange from: every cell's record, its positions, and the tokens of what it pays. -/
def ghost (c : Dev nD) : sProp 𝕄 :=
  iprop(records PF K ∗ atPos ER (barCell c) 0 ∅ 0 ∗ (bigSep Finset.univ fun k : Fin 4 => bigSep Finset.univ fun j : Fin 16 => bef c k j)
    ∗ (bigSep Finset.univ fun j : Fin 16 => dutyTok ER (barCell j) 0 c) ∗ (bigSep Finset.univ (tok1 c)) ∗ bigSep Finset.univ (tok2 c))

/-! ## The cells and tokens minted -/

def ringCells : Finset (GSem nD τ sig) := Finset.univ.map ⟨kcell, kcell_injective⟩

/-- The tokens of a device's own cells: one per device at the barrier, one at each entry. -/
abbrev TI : Type := Fin 16 ⊕ (Fin 4 × Fin 16)
def tokOf (cj : Dev nD × TI) : GSem nD τ sig × ℕ × Fin 16 := match cj.2 with
  | .inl d => (barCell cj.1, 0, d)
  | .inr kj => (cell cj.1 kj.1 kj.2, 0, 0)
theorem tokOf_injective : Function.Injective tokOf := by
  rintro ⟨c, d | ⟨k, j⟩⟩ ⟨c', d' | ⟨k', j'⟩⟩ h
  · have h1 : c = c' := congrArg (fun x : GSem nD τ sig × ℕ × Fin 16 => x.1.1.1) h
    have h2 : d = d' := congrArg (fun x : GSem nD τ sig × ℕ × Fin 16 => x.2.2) h
    rw [h1, h2]
  · exact absurd (congrArg (fun x : GSem nD τ sig × ℕ × Fin 16 => x.1.2) h) (fun h' => by cases h')
  · exact absurd (congrArg (fun x : GSem nD τ sig × ℕ × Fin 16 => x.1.2) h) (fun h' => by cases h')
  · have h1 : kcell (c, some (k, j)) = kcell (c', some (k', j')) := congrArg (fun x : GSem nD τ sig × ℕ × Fin 16 => x.1) h
    have h2 := kcell_injective h1
    obtain ⟨rfl, h3⟩ := Prod.mk.inj h2
    rw [Option.some.inj h3]
def ringToks : Finset (GSem nD τ sig × ℕ × Fin 16) := Finset.univ.map ⟨tokOf, tokOf_injective⟩

def u₀ : UU :=
  (initOf (Pipeline.cells cfgs cellOf_inj) (Pipeline.launchToks cfgs cellOf_inj), (initOf ringCells ringToks, 1))

theorem ownU_split (a : UR sig nD τ) (b : UB) :
    (ownU ((a, (b, 1)) : UU) : sProp 𝕄) ⊢ iprop(BI.own (EP a) ∗ BI.own (ER b)) := by
  exact BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def toks (c : Dev nD) : sProp 𝕄 :=
  iprop((bigSep Finset.univ fun d : Fin 16 => dutyTok ER (barCell c) 0 d)
    ∗ bigSep Finset.univ fun k : Fin 4 => bigSep Finset.univ fun j : Fin 16 => dutyTok ER (cell c k j) 0 0)

/-- What the launch gives device `c`. -/
def G (c : Dev nD) : sProp 𝕄 :=
  iprop((bigSep Finset.univ fun k : CI => roundState ER (Rd PF) (kcell (c, k)) 0)
    ∗ (bigSep Finset.univ fun k : CI => iprop(atPos ER (kcell (c, k)) 0 ∅ 0 ∗ reached ER (kcell (c, k)) 0)) ∗ toks c)
def G' (c : Dev nD) : sProp 𝕄 := iprop(∃ K, ghost PF K c)

theorem fund_ring : BI.own (ER (initOf ringCells ringToks)) ⊢ (|==> bigSep Finset.univ (G PF) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_prod]; rfl
  iintro HX
  imod (Rounds.fund ER (Rd PF) ringCells ringToks) $$ HX with ⟨Hst, Hr, Hat, Htok⟩
  imodintro
  ihave Hst' := (Entails.of_eq (hX fun g => roundState ER (Rd PF) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- A family over a device's cells: its barrier's, then the entries'. -/
theorem bigSep_CI (Φ : CI → sProp 𝕄) :
    bigSep Finset.univ Φ = iprop(Φ none ∗ bigSep Finset.univ fun k : Fin 4 => bigSep Finset.univ fun j : Fin 16 => Φ (some (k, j))) := by
  rw [bigSep_univ_equiv ((Equiv.sumComm _ _).trans (Equiv.optionEquivSumPUnit (Fin 4 × Fin 16)).symm : PUnit ⊕ (Fin 4 × Fin 16) ≃ CI) Φ, bigSep_univ_sum,
    bigSep_univ_prod]
  rw [show (Finset.univ : Finset PUnit.{1}) = {PUnit.unit} from rfl, bigSep_singleton]
  rfl

/-- The kernel's own semaphores: the two of its local copies, then the families. -/
abbrev OI : Type := Fin 2 ⊕ (Fin 4 × Fin 16)
def osem : OI → SemLoc sig
  | .inl i => .dma (⟨4 + i.val, by omega⟩ : Fin 70)
  | .inr kj => csem (some kj)

theorem osem_inj : Function.Injective osem := by
  rintro (i | kj) (i' | kj') h
  · have := congrArg Fin.val (SemLoc.dma.inj h)
    exact congrArg Sum.inl (Fin.ext (by simp only at this; omega))
  · have := congrArg Fin.val (SemLoc.dma.inj h)
    rw [dix_val] at this; simp only at this; omega
  · have := congrArg Fin.val (SemLoc.dma.inj h)
    rw [dix_val] at this; simp only at this; omega
  · exact congrArg Sum.inr (Option.some.inj (csem_injective h))

theorem ownSemFacts : Pipeline.OwnSemFacts cfg0.spec osem :=
  ⟨by decide +kernel, osem_inj, by decide +kernel⟩

omit [FloatOps F] in
theorem ownSems0_eq (c : Dev nD) : (Pipeline.ownSems0 (Ix := Unit) (Name := ℕ) (U := UU) (Lvl := ℕ) (Val := Elt F) (τ := τ) osem c : sProp 𝕄)
    = iprop((semVal ((c : Thread nD τ), .dma (4 : Fin 70)) 0 ∗ semVal ((c : Thread nD τ), .dma (5 : Fin 70)) 0)
      ∗ bigSep Finset.univ fun k : Fin 4 => bigSep Finset.univ fun j : Fin 16 => semVal (cell c k j) 0) := by
  unfold Pipeline.ownSems0
  rw [bigSep_univ_sum, bigSep_univ_prod, bigSep_univ_eq_bigSepL [(0 : Fin 2), 1] (by decide) (by decide)]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## The invariants allocated, the tokens dealt -/

/-- The local copies' semaphores stay the device's own. -/
def loc2 (c : Dev nD) : sProp 𝕄 := iprop(semVal ((c : Thread nD τ), .dma (4 : Fin 70)) 0 ∗ semVal ((c : Thread nD τ), .dma (5 : Fin 70)) 0)

theorem core_alloc (c : Dev nD) :
    iprop(Pipeline.ownSems0 (Ix := Unit) (Name := ℕ) (U := UU) (Lvl := ℕ) (Val := Elt F) (τ := τ) osem c ∗ unscopedSems0 c ∗ G PF c)
      ⊢ (|={Set.univ}=> (iprop(loc2 c ∗ (bigSep Finset.univ fun k : CI => iprop(∃ κ : ℕ, cellInv ER (Rd PF) κ (kcell (c, k))))
          ∗ (bigSep Finset.univ fun k : CI => iprop(atPos ER (kcell (c, k)) 0 ∅ 0 ∗ reached ER (kcell (c, k)) 0)) ∗ toks c)) : sProp 𝕄) := by
  unfold G
  rw [ownSems0_eq, unscopedSems0_eq]
  iintro ⟨⟨H2, Hos⟩, Hus, Hst, Hat, Htok⟩
  ihave Hv := (Entails.of_eq (bigSep_CI (fun k : CI => (semVal (kcell (c, k)) 0 : sProp 𝕄))).symm) $$ [Hos Hus]
  · isplitl [Hus]; · iexact Hus
    iexact Hos
  imod (show iprop((bigSep Finset.univ fun k : CI => semVal (kcell (c, k)) 0) ∗ bigSep Finset.univ fun k : CI => roundState ER (Rd PF) (kcell (c, k)) 0)
      ⊢ (|={Set.univ}=> bigSep Finset.univ fun k => iprop(∃ κ : ℕ, cellInv ER (Rd PF) κ (kcell (c, k))) : sProp 𝕄) from by
        rw [← bigSep_sep']
        exact (bigSep_mono fun k _ => (Rounds.body_intro ER (Rd PF) (kcell (c, k))).trans inv_alloc).trans (bigSep_fupd _ _)) $$ [Hv Hst] with Hinv
  · isplitl [Hv] <;> iassumption
  imodintro
  unfold loc2
  isplitl [H2]; · iexact H2
  isplitl [Hinv]; · iexact Hinv
  isplitl [Hat]; · iexact Hat
  iexact Htok

/-- What stays with device `c`: its positions and the tokens of what it pays. -/
def payToks (c : Dev nD) : sProp 𝕄 :=
  iprop((bigSep Finset.univ fun j : Fin 16 => dutyTok ER (barCell j) 0 c) ∗ (bigSep Finset.univ (tok1 c)) ∗ bigSep Finset.univ (tok2 c))

theorem mk_tok1 (c : Dev nD) (j : Fin 16) : iprop(dutyTok ER (cell c 0 j) 0 0 ∗ dutyTok ER (cell j 1 c) 0 0) ⊢ (tok1 c j : sProp 𝕄) := by
  unfold tok1
  by_cases h : j = c
  · rw [if_pos h]; iintro -; iempintro
  · rw [if_neg h]
theorem mk_tok2 (c : Dev nD) (j : Fin 16) : iprop(dutyTok ER (cell c 2 j) 0 0 ∗ dutyTok ER (cell j 3 c) 0 0) ⊢ (tok2 c j : sProp 𝕄) := by
  unfold tok2
  by_cases h : j = c
  · rw [if_pos h]; iintro -; iempintro
  · rw [if_neg h]

theorem around_one (c : Dev nD) : iprop((bigSep Finset.univ fun j : Fin 16 => dutyTok ER (barCell j) 0 c)
        ∗ (bigSep Finset.univ fun j : Fin 16 => iprop(dutyTok ER (cell c 0 j) 0 0 ∗ dutyTok ER (cell j 1 c) 0 0))
        ∗ bigSep Finset.univ fun j : Fin 16 => iprop(dutyTok ER (cell c 2 j) 0 0 ∗ dutyTok ER (cell j 3 c) 0 0)) ⊢ (payToks c : sProp 𝕄) := by
  unfold payToks
  iintro ⟨Hb, H1, H2⟩
  isplitl [Hb]; · iexact Hb
  isplitl [H1]
  · iapply (show (bigSep Finset.univ fun j : Fin 16 => iprop(dutyTok ER (cell c 0 j) 0 0 ∗ dutyTok ER (cell j 1 c) 0 0)) ⊢ (bigSep Finset.univ (tok1 c) : sProp 𝕄) from
      bigSep_mono fun j _ => mk_tok1 c j)
    iexact H1
  · iapply (show (bigSep Finset.univ fun j : Fin 16 => iprop(dutyTok ER (cell c 2 j) 0 0 ∗ dutyTok ER (cell j 3 c) 0 0)) ⊢ (bigSep Finset.univ (tok2 c) : sProp 𝕄) from
      bigSep_mono fun j _ => mk_tok2 c j)
    iexact H2

/-- Every token handed to the device that pays with it. -/
theorem toks_around : (bigSep Finset.univ fun c : Dev nD => (toks c : sProp 𝕄)) ⊢ bigSep Finset.univ fun c : Dev nD => payToks c := by
  have e : (bigSep Finset.univ fun c : Dev nD => (toks c : sProp 𝕄))
      ⊢ bigSep Finset.univ fun c : Dev nD => iprop((bigSep Finset.univ fun j : Fin 16 => dutyTok ER (barCell j) 0 c)
        ∗ (bigSep Finset.univ fun j : Fin 16 => iprop(dutyTok ER (cell c 0 j) 0 0 ∗ dutyTok ER (cell j 1 c) 0 0))
        ∗ bigSep Finset.univ fun j : Fin 16 => iprop(dutyTok ER (cell c 2 j) 0 0 ∗ dutyTok ER (cell j 3 c) 0 0)) := by
    unfold toks
    simp only [four, bigSep_sep']
    rw [bigSep_univ_comm (fun (c : Dev nD) (d : Fin 16) => (dutyTok ER (barCell c) 0 d : sProp 𝕄)),
      bigSep_univ_comm (fun (c : Dev nD) (j : Fin 16) => (dutyTok ER (cell c 1 j) 0 0 : sProp 𝕄)),
      bigSep_univ_comm (fun (c : Dev nD) (j : Fin 16) => (dutyTok ER (cell c 3 j) 0 0 : sProp 𝕄))]
    iintro ⟨Hb, H0, H1, H2, H3⟩
    isplitl [Hb]; · iexact Hb
    isplitl [H0 H1]
    · isplitl [H0]; · iexact H0
      iexact H1
    isplitl [H2]; · iexact H2
    iexact H3
  exact e.trans (bigSep_mono fun c _ => around_one c)

def linear (c : Dev nD) : sProp 𝕄 :=
  iprop(loc2 c ∗ (bigSep Finset.univ fun k : CI => (atPos ER (kcell (c, k)) 0 ∅ 0 : sProp 𝕄)) ∗ payToks c)

theorem ghost_intro (c : Dev nD) : iprop(records PF K ∗ linear c) ⊢ iprop(loc2 c ∗ G' PF c) := by
  unfold linear payToks G' ghost
  rw [bigSep_CI]
  iintro ⟨HR, H2, ⟨HaB, Ha⟩, Hb, Ht1, Ht2⟩
  isplitl [H2]; · iexact H2
  iexists K
  isplitl [HR]; · iexact HR
  isplitl [HaB]; · iexact HaB
  isplitl [Ha]; · iexact Ha
  isplitl [Hb]; · iexact Hb
  isplitl [Ht1]; · iexact Ht1
  iexact Ht2

theorem regroup :
    (bigSep Finset.univ fun c : Dev nD => iprop(loc2 c ∗ (bigSep Finset.univ fun k : CI => iprop(∃ κ : ℕ, cellInv ER (Rd PF) κ (kcell (c, k))))
          ∗ (bigSep Finset.univ fun k : CI => iprop(atPos ER (kcell (c, k)) 0 ∅ 0 ∗ reached ER (kcell (c, k)) 0)) ∗ toks c) : sProp 𝕄)
      ⊢ bigSep Finset.univ fun c => iprop(loc2 c ∗ G' PF c) := by
  rw [bigSep_sep', bigSep_sep', bigSep_sep', ← bigSep_univ_prod (fun ck : Dev nD × CI => iprop(∃ κ : ℕ, cellInv ER (Rd PF) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨H2, HI, ⟨Hat, #HR⟩, Htok⟩
  ihave HK := (BI.bigSep_exists_pi Finset.univ (fun (ck : Dev nD × CI) (κ : ℕ) => (cellInv ER (Rd PF) κ (kcell ck) : sProp 𝕄))) $$ HI
  icases HK with ⟨%K, #HI⟩
  ihave Htk := (toks_around (F := F)) $$ Htok
  iapply (spread (records PF K) (fun c => linear c) (fun c => iprop(loc2 c ∗ G' PF c)) fun c => ghost_intro PF K c)
  isplitr
  · unfold records; isplitl; · iexact HI
    iexact HR
  · ihave H := (Entails.of_eq (bigSep_sep' Finset.univ (fun c : Dev nD => bigSep Finset.univ fun k : CI => (atPos ER (kcell (c, k)) 0 ∅ 0 : sProp 𝕄)) payToks).symm) $$ [Hat Htk]
    · isplitl [Hat]; · iexact Hat
      iexact Htk
    ihave H := (Entails.of_eq (bigSep_sep' Finset.univ (fun c : Dev nD => (loc2 c : sProp 𝕄))
      (fun c : Dev nD => iprop((bigSep Finset.univ fun k : CI => (atPos ER (kcell (c, k)) 0 ∅ 0 : sProp 𝕄)) ∗ payToks c))).symm) $$ [H2 H]
    · isplitl [H2]; · iexact H2
      iexact H
    iexact H

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G PF c) : sProp 𝕄)
    ⊢ |={Set.univ}=> bigSep Finset.univ fun c => iprop(loc2 c ∗ G' PF c) :=
  ((bigSep_mono fun c _ => core_alloc PF c).trans (bigSep_fupd _ _)).trans (BI.fupd_mono (regroup PF))

/-! ## The launch credit -/

theorem owB_at (d c : Dev nD) : ∀ l : List (Fin 16), l.Nodup → owB d l (barCell c) () = if c ∈ l then 1 else 0
  | [], _ => rfl
  | j :: l, h => by
    unfold owB
    rw [Pi.add_apply, Finsupp.add_apply, tallyAt_apply, owB_at d c l (List.nodup_cons.mp h).2]
    by_cases hj : c = j
    · subst hj; rw [if_neg (List.nodup_cons.mp h).1, if_pos ⟨rfl, rfl⟩, if_pos List.mem_cons_self]
    · have hc : ¬ (barCell c = barCell j ∧ () = ()) := fun ⟨h1, _⟩ => hj (congrArg (fun g : GSem nD τ sig => g.1.1) h1)
      rw [if_neg hc, Nat.add_zero]
      by_cases hm : c ∈ l
      · rw [if_pos hm, if_pos (List.mem_cons_of_mem _ hm)]
      · rw [if_neg hm, if_neg fun h' => (List.mem_cons.mp h').elim hj hm]
theorem owK_bar (k : Fin 4) (d c : Dev nD) (l : List (Fin 16)) : owK k d l (barCell c) () = 0 := by
  by_contra h
  obtain ⟨j, hj⟩ := owK_pos (Nat.pos_of_ne_zero h)
  exact absurd (congrArg Prod.snd hj) (fun h' => by cases h')
theorem owB_cell (d c : Dev nD) (k : Fin 4) (j : Fin 16) (l : List (Fin 16)) : owB d l (cell c k j) () = 0 := by
  by_contra h
  obtain ⟨i, hi⟩ := owB_pos (Nat.pos_of_ne_zero h)
  exact absurd (congrArg Prod.snd hi) (fun h' => by cases h')
theorem cell_inj {c c' : Dev nD} {k k' : Fin 4} {j j' : Fin 16} (h : cell c k j = cell c' k' j') : c = c' ∧ k = k' ∧ j = j' := by
  have h1 := kcell_injective (show kcell (c, some (k, j)) = kcell (c', some (k', j')) from h)
  obtain ⟨rfl, h3⟩ := Prod.mk.inj h1
  obtain ⟨rfl, rfl⟩ := Prod.mk.inj (Option.some.inj h3)
  exact ⟨rfl, rfl, rfl⟩
theorem owK_at (k k' : Fin 4) (d c : Dev nD) (j : Fin 16) : ∀ l : List (Fin 16), l.Nodup →
    owK k d l (cell c k' j) () = if k = k' ∧ j = d ∧ j ≠ c ∧ c ∈ l then N else 0
  | [], _ => (if_neg fun h => absurd h.2.2.2 List.not_mem_nil).symm
  | i :: l, h => by
    unfold owK
    rw [Pi.add_apply, Finsupp.add_apply, owK_at k k' d c j l (List.nodup_cons.mp h).2]
    by_cases hi : i = c
    · subst hi
      rw [if_neg fun h' => (List.nodup_cons.mp h).1 h'.2.2.2, Nat.zero_add]
      by_cases hd : i = d
      · rw [if_pos hd, if_neg fun h' => h'.2.2.1 (h'.2.1.trans hd.symm)]; rfl
      · rw [if_neg hd, tallyAt_apply]
        by_cases hk : k = k' ∧ j = d
        · obtain ⟨rfl, rfl⟩ := hk
          rw [if_pos ⟨rfl, rfl⟩, if_pos ⟨rfl, rfl, fun e => hd e.symm, List.mem_cons_self⟩]
        · rw [if_neg fun h' => hk ⟨(cell_inj h'.1).2.1.symm, (cell_inj h'.1).2.2⟩, if_neg fun h' => hk ⟨h'.1, h'.2.1⟩]
    · have e0 : (if i = d then (0 : CellTallies nD τ sig Unit) else tallyAt (cell i k d) () N) (cell c k' j) () = 0 := by
        by_cases hd : i = d
        · rw [if_pos hd]; rfl
        · rw [if_neg hd, tallyAt_apply, if_neg fun h' => hi (cell_inj h'.1).1.symm]
      rw [e0, Nat.add_zero]
      have : (c ∈ i :: l) ↔ c ∈ l := ⟨fun h' => (List.mem_cons.mp h').elim (fun e => absurd e.symm hi) id, List.mem_cons_of_mem _⟩
      simp only [this]

theorem owed_bar (d c : Dev nD) : O₀ d (barCell c) () = 1 := by
  unfold O₀
  rw [Pi.add_apply, Finsupp.add_apply, Pi.add_apply, Finsupp.add_apply, owB_at d c _ ord_nodup, if_pos (ord_all c), owK_bar, owK_bar]
  rfl
theorem owed_1 (d c : Dev nD) (j : Fin 16) (h : j ≠ c) : O₀ d (cell c 1 j) () = if d = j then N else 0 := by
  unfold O₀
  rw [Pi.add_apply, Finsupp.add_apply, Pi.add_apply, Finsupp.add_apply, owB_cell, owK_at 1 1 d c j _ (ord1_nodup d), owK_at 3 1 d c j _ ord_nodup,
    if_neg (show ¬ ((3 : Fin 4) = 1 ∧ _) from fun h' => absurd h'.1 (by decide)), Nat.zero_add, Nat.add_zero]
  by_cases hd : d = j
  · rw [if_pos hd, if_pos ⟨rfl, hd.symm, h, ord1_all d c⟩]
  · rw [if_neg hd, if_neg fun h' => hd h'.2.1.symm]
theorem owed_3 (d c : Dev nD) (j : Fin 16) (h : j ≠ c) : O₀ d (cell c 3 j) () = if d = j then N else 0 := by
  unfold O₀
  rw [Pi.add_apply, Finsupp.add_apply, Pi.add_apply, Finsupp.add_apply, owB_cell, owK_at 1 3 d c j _ (ord1_nodup d), owK_at 3 3 d c j _ ord_nodup,
    if_neg (show ¬ ((1 : Fin 4) = 3 ∧ _) from fun h' => absurd h'.1 (by decide)), Nat.zero_add, Nat.zero_add]
  by_cases hd : d = j
  · rw [if_pos hd, if_pos ⟨rfl, hd.symm, h, ord_all c⟩]
  · rw [if_neg hd, if_neg fun h' => hd h'.2.1.symm]

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]
  rfl
theorem launch_1 (c : Dev nD) (j : Fin 16) (h : j ≠ c) :
    tallyOn (cell c 1 j) (launchCredit (Pipeline.owing O₀) 0 (cell c 1 j)) = (tallyAt (cell c 1 j) () N : CellTallies nD τ sig Unit) := by
  unfold tallyAt; refine congrArg _ (Finsupp.ext fun u => ?_); cases u
  rw [Pipeline.launchCredit_owing, Finsupp.single_eq_same, Finset.sum_congr rfl fun d _ => owed_1 d c j h]
  exact (Finset.sum_ite_eq' Finset.univ (j : Fin 16) fun _ => N).trans (if_pos (Finset.mem_univ _))
theorem launch_3 (c : Dev nD) (j : Fin 16) (h : j ≠ c) :
    tallyOn (cell c 3 j) (launchCredit (Pipeline.owing O₀) 0 (cell c 3 j)) = (tallyAt (cell c 3 j) () N : CellTallies nD τ sig Unit) := by
  unfold tallyAt; refine congrArg _ (Finsupp.ext fun u => ?_); cases u
  rw [Pipeline.launchCredit_owing, Finsupp.single_eq_same, Finset.sum_congr rfl fun d _ => owed_3 d c j h]
  exact (Finset.sum_ite_eq' Finset.univ (j : Fin 16) fun _ => N).trans (if_pos (Finset.mem_univ _))

/-- A device's launch credit holds its barrier's sixteen units and each landing's credit. -/
theorem creds (c : Dev nD) :
    (Pipeline.launchCred O₀ c : sProp 𝕄) ⊢ iprop(cred (tallyAt (barCell c) () 16) ∗ (bigSep Finset.univ (crd c 1)) ∗ bigSep Finset.univ (crd c 3)) := by
  let Φ : SemLoc sig → sProp 𝕄 := fun sm => cred (tallyOn ((c : Thread nD τ), sm) (launchCredit (Pipeline.owing O₀) 0 ((c : Thread nD τ), sm)))
  have hb : Φ (.reg barS) = cred (tallyAt (barCell c) () 16) := congrArg cred (launch_bar c)
  have h1 (j : Fin 16) : Φ (.dma (dix 1 j)) ⊢ crd c 1 j := by
    unfold crd
    by_cases h : j = c
    · rw [if_pos h]; iintro -; iempintro
    · rw [if_neg h]; exact Entails.of_eq (congrArg cred (launch_1 c j h))
  have h3 (j : Fin 16) : Φ (.dma (dix 3 j)) ⊢ crd c 3 j := by
    unfold crd
    by_cases h : j = c
    · rw [if_pos h]; iintro -; iempintro
    · rw [if_neg h]; exact Entails.of_eq (congrArg cred (launch_3 c j h))
  have hs : (bigSep Finset.univ Φ : sProp 𝕄) ⊢ bigSep Finset.univ fun k : CI => Φ (csem k) := by
    exact (bigSep_subset (Finset.subset_univ (Finset.univ.map ⟨csem, csem_injective⟩))).trans (Entails.of_eq (bigSep_map ⟨csem, csem_injective⟩))
  have e : (Pipeline.launchCred O₀ c : sProp 𝕄) = bigSep Finset.univ Φ := rfl
  rw [e]
  iintro H
  ihave H := hs $$ H
  ihave H := (Entails.of_eq (bigSep_CI fun k : CI => Φ (csem k))) $$ H
  icases H with ⟨Hb, H⟩
  ihave H := (Entails.of_eq (four fun k : Fin 4 => bigSep Finset.univ fun j : Fin 16 => Φ (csem (some (k, j))))) $$ H
  icases H with ⟨-, H1, -, H3⟩
  isplitl [Hb]; · iapply (Entails.of_eq hb); iexact Hb
  isplitl [H1]
  · iapply (show (bigSep Finset.univ fun j : Fin 16 => Φ (csem (some (1, j)))) ⊢ bigSep Finset.univ (crd c 1) from bigSep_mono fun j _ => h1 j)
    iexact H1
  · iapply (show (bigSep Finset.univ fun j : Fin 16 => Φ (csem (some (3, j)))) ⊢ bigSep Finset.univ (crd c 3) from bigSep_mono fun j _ => h3 j)
    iexact H3

end Cert.KernelIdeal.Pf

end
-- ==== Proof.KI.Slabs.lean ====
/-
The weight scratch in its two slabs, and what a device hands out with its barrier signals.
-/
module

public import proofs.«01_k».proof.Proof.KI.Hold

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

theorem inb_w (j : Fin 2) : ∀ a, (![j.val, 0, 0] : Fin 3 → ℕ) a + S1x1024x1024.size a ≤ S2x1024x1024.size a := by
  intro a; fin_cases a
  · show j.val + 1 ≤ 2; omega
  · show 0 + 1024 ≤ 1024; omega
  · show 0 + 1024 ≤ 1024; omega
abbrev wR (j : Fin 2) : Rect S2x1024x1024 := Rect.unit (s := S2x1024x1024) ![j.val, 0, 0] S1x1024x1024.size (inb_w j)
theorem wSl0_set : wSl0.view.set = (wR 0).set := (View.set_reshape _ _).trans (View.set_slice_whole _ _)
theorem wSl1_set : wSl1.view.set = (wR 1).set := (View.set_reshape _ _).trans (View.set_slice_whole _ _)
abbrev wM : Memref sig .tc .vmem S2x1024x1024 .f32 := Memref.whole cc0_scratch3
theorem w_disj (j j' : Fin 2) (h : j ≠ j') : Disjoint ((wR j).set : Finset S2x1024x1024.Idx) ((wR j').set : Finset S2x1024x1024.Idx) :=
  Ring.lead_disjoint (s := S2x1024x1024) 0 1 (fun j : Fin 2 => ![j.val, 0, 0]) S1x1024x1024.size inb_w (fun j => (Nat.one_mul j.val).symm) rfl j j' h
theorem w_cover : Finset.univ.biUnion (β := S2x1024x1024.Idx) (fun j : Fin 2 => (wR j).set) = Finset.univ :=
  Ring.lead_cover (s := S2x1024x1024) 0 1 (fun j : Fin 2 => ![j.val, 0, 0]) S1x1024x1024.size inb_w (fun j => (Nat.one_mul j.val).symm)
    (by intro b a ha; fin_cases a; · exact absurd rfl ha
        · rfl
        · rfl) rfl (by intro a ha; fin_cases a; · exact absurd rfl ha
                       · rfl
                       · rfl) (by decide)
/-- One slab at contents `f`. -/
def wPts (c : Dev nD) (j : Fin 2) (f : Vec F S2x1024x1024 .f32) : sProp 𝕄 := wM.view.loc (c : Thread nD τ) ↦[(wR j).set]{fullShare} f
theorem two (Φ : Fin 2 → sProp 𝕄) : bigSep Finset.univ Φ = iprop(Φ 0 ∗ Φ 1) := by
  rw [bigSep_univ_eq_bigSepL [0, 1] (by decide) (by decide)]
  rfl
theorem wPts_0 (c : Dev nD) (f : Vec F S2x1024x1024 .f32) :
    (wSl0.view.loc (c : Thread nD τ) ↦[wSl0.view.set]{fullShare} f : sProp 𝕄) = wPts c 0 f := by rw [wSl0_set]; rfl
theorem wPts_1 (c : Dev nD) (f : Vec F S2x1024x1024 .f32) :
    (wSl1.view.loc (c : Thread nD τ) ↦[wSl1.view.set]{fullShare} f : sProp 𝕄) = wPts c 1 f := by rw [wSl1_set]; rfl
theorem w_split (c : Dev nD) (f : Vec F S2x1024x1024 .f32) : (full c cc0_scratch3 f : sProp 𝕄)
    ⊢ iprop((wSl0.view.loc (c : Thread nD τ) ↦[wSl0.view.set]{fullShare} f) ∗ (wSl1.view.loc (c : Thread nD τ) ↦[wSl1.view.set]{fullShare} f)) := by
  rw [wPts_0, wPts_1]
  exact Entails.of_eq ((Ring.pointsTo_blocks (ℓ := wM.view.loc (c : Thread nD τ)) (fun j : Fin 2 => (wR j).set) w_disj w_cover f).trans (two fun j => wPts c j f))
theorem w_join (c : Dev nD) (f g : Vec F S2x1024x1024 .f32) :
    iprop((wSl0.view.loc (c : Thread nD τ) ↦[wSl0.view.set]{fullShare} f) ∗ (wSl1.view.loc (c : Thread nD τ) ↦[wSl1.view.set]{fullShare} g))
      ⊢ (iprop(∃ h, full c cc0_scratch3 h) : sProp 𝕄) := by
  rw [wPts_0, wPts_1]
  iintro ⟨H0, H1⟩
  iapply (show (bigSep Finset.univ fun j : Fin 2 => iprop(∃ f, wPts (F := F) c j f)) ⊢ (iprop(∃ h, full c cc0_scratch3 h) : sProp 𝕄) from
    Ring.pointsTo_blocks_join_exists (ℓ := wM.view.loc (c : Thread nD τ)) (fun j : Fin 2 => (wR j).set) w_disj w_cover f)
  iapply (Entails.of_eq (two fun j : Fin 2 => iprop(∃ f, wPts (F := F) c j f)).symm)
  isplitl [H0]
  · iexists f; iexact H0
  · iexists g; iexact H1

/-! ## What is handed out -/

/-- The places of device `j`'s blocks in device `c`'s buffers. -/
def plc (c : Dev nD) (j : Fin 16) : sProp 𝕄 := iprop((∃ f, cPts (F := F) c j f) ∗ ∃ f, oPts (F := F) fullShare c j f)

theorem plc_bar (c : Dev nD) (j : Fin 16) : (plc c j : sProp 𝕄) ⊢ barPay j c := by
  unfold plc barPay
  by_cases h : c = j
  · rw [if_pos h]; iintro -; iempintro
  · rw [if_neg h]

theorem plc_intro (c : Dev nD) (j : Fin 16) (f : Vec F S16x64x1024 .bf16) (g : BMat F) :
    iprop(cPts c j f ∗ oPts fullShare c j g) ⊢ (plc c j : sProp 𝕄) := by
  unfold plc
  iintro ⟨H1, H2⟩
  isplitl [H1]
  · iexists f; iexact H1
  · iexists g; iexact H2

theorem spread_plc (c : Dev nD) (f : Vec F S16x64x1024 .bf16) (g : BMat F) :
    iprop(full c cc0_scratch9 f ∗ full c cc0_stg3_0 g) ⊢ (bigSep Finset.univ (plc c) : sProp 𝕄) := by
  rw [comm_blocks, out_blocks, ← bigSep_sep']
  exact bigSep_mono fun j _ => plc_intro c j f g

/-- The landing buffer and the result's buffer, place by place: the device keeps its own and hands out the others. -/
theorem hand (c : Dev nD) (f : Vec F S16x64x1024 .bf16) (g : BMat F) :
    iprop(full c cc0_scratch9 f ∗ full c cc0_stg3_0 g) ⊢ (iprop(Own c ∗ bigSep Finset.univ fun j : Fin 16 => barPay j c) : sProp 𝕄) := by
  iintro H
  ihave H := (spread_plc c f g) $$ H
  ihave H := (Entails.of_eq (bigSep_univ_at (plc (F := F) c) (c : Fin 16))) $$ H
  icases H with ⟨Ho, H⟩
  isplitl [Ho]; · iapply (Entails.of_eq (show (plc c c : sProp 𝕄) = Own c from rfl)); iexact Ho
  iapply (Entails.of_eq (bigSep_univ_at (fun j : Fin 16 => (barPay j c : sProp 𝕄)) (c : Fin 16)).symm)
  isplitl []
  · unfold barPay; rw [if_pos rfl]; iempintro
  · iapply (show (bigSep (Finset.univ.erase (c : Fin 16)) (plc c) : sProp 𝕄) ⊢ bigSep (Finset.univ.erase (c : Fin 16)) fun j => barPay j c from
      bigSep_mono fun j _ => plc_bar c j) $$ H

end Cert.KernelIdeal.Pf

end
-- ==== Proof.KI.Walk10.lean ====
module

public import proofs.«01_k».proof.Proof.KI.Walk9
public import proofs.«01_k».proof.Proof.KI.Launch
public import proofs.«01_k».proof.Proof.KI.Slabs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PF : Dev nD → BMat F) (K : Dev nD × CI → ℕ)

/-- What the kernel leaves on device `c`: the result, the operands as they were, every buffer of its own, every semaphore at zero. -/
def Back (c : Dev nD) (x k v : Vec F S1024x1024 .f32) (wq : Vec F S1024x16384 .f32) (wo : Vec F S16384x1024 .f32) : sProp 𝕄 :=
  iprop((Post PF c ∗ ow c 0) ∗ full c cc0_stg0_0 x ∗ full c cc0_stg1_0 k ∗ full c cc0_stg2_0 v ∗ full c main_arg3 wq ∗ full c main_arg4 wo
    ∗ (∃ f, full c cc0_scratch0 f) ∗ (∃ f, full c cc0_scratch1 f) ∗ (∃ f, full c cc0_scratch2 f) ∗ (∃ f, full c cc0_scratch3 f)
    ∗ (∃ f, full c cc0_scratch4 f) ∗ (∃ f, full c cc0_scratch5 f) ∗ (∃ f, full c cc0_scratch6 f) ∗ (∃ f, full c cc0_scratch8 f)
    ∗ loc2 c)

set_option maxHeartbeats 2000000 in
/-- The whole body: from the operands, the buffers and the exchange's tokens to `Back`. -/
theorem body (c : Dev nD) (x k v : Vec F S1024x1024 .f32) (wq : Vec F S1024x16384 .f32) (wo : Vec F S16384x1024 .f32) (hPF : PF c = PFv c x k v wq wo)
    (f6 f7 f8 f10 f11 f13 : BMat F) (f9 : Vec F S2x1024x1024 .f32) (f12 : Vec F S256x1024 .bf16) (f14 : FRow F) (Kt : PUnit → sProp 𝕄) :
    Runs PF K c x k v wq wo f6 f7 f8 f10 f11 f13 f9 f12 f14 (Own c) (iprop(Ext c ∗ (Back PF c x k v wq wo -∗ Kt ⟨⟩))) Kt := by
  let T : sProp 𝕄 := iprop(Back PF c x k v wq wo -∗ Kt ⟨⟩)
  refine (w1 PF K c x k v wq wo f6 f7 f8 f10 f11 f13 f9 f12 f14 (Own c) (iprop(Ext c ∗ T)) Kt).2 ((w2 PF K c x k v wq wo f6 f7 f8 f10 f11 f13 f9 f12 f14 (Own c) (iprop(Ext c ∗ T)) Kt).2 ((w3 PF K c x k v wq wo hPF f6 f7 f8 f10 f11 f13 f9 f12 f14 T Kt).2 ((w4 PF K c x k v wq wo hPF f6 f7 f8 f10 f11 f13 f9 f12 f14 T Kt).2 ((w5 PF K c x k v wq wo hPF f6 f7 f8 f10 f11 f13 f9 f12 f14 T Kt).2 ((w6 PF K c x k v wq wo hPF f6 f7 f8 f10 f11 f13 f9 f12 f14 T Kt).2 ((w7 PF K c x k v wq wo hPF f6 f7 f8 f10 f11 f13 f9 f12 f14 T Kt).2 ((w8 PF K c x k v wq wo hPF f6 f7 f8 f10 f11 f13 f9 f12 f14 T Kt).2 ((w9 PF K c x k v wq wo hPF f6 f7 f8 f10 f11 f13 f9 f12 f14 T Kt).2 ?_))))))))
  sl_resume
  iapply (grecv2 PF K c 9 _ _ _ (cnd_ne c 9) _ rfl _ rfl) $$ HS
  iintro HS
  iapply (grecv2 PF K c 10 _ _ _ (cnd_ne c 10) _ rfl _ rfl) $$ HS
  iintro HS
  iapply (grecv2 PF K c 11 _ _ _ (cnd_ne c 11) _ rfl _ rfl) $$ HS
  iintro HS
  iapply (grecv2 PF K c 12 _ _ _ (cnd_ne c 12) _ rfl _ rfl) $$ HS
  iintro HS
  iapply (grecv2 PF K c 13 _ _ _ (cnd_ne c 13) _ rfl _ rfl) $$ HS
  iintro HS
  iapply (grecv2 PF K c 14 _ _ _ (cnd_ne c 14) _ rfl _ rfl) $$ HS
  iintro HS
  iapply (grecv2 PF K c 15 _ _ _ (cnd_ne c 15) _ rfl _ rfl) $$ HS
  iintro HS
  ihave HS := (Entails.of_eq (congrArg (fun l => (St4 PF K c [] l : sProp 𝕄)) (show [15, 14, 13, 12, 11, 10, 9, 8, 7, 6, 5, 4, 3, 2, 1, 0] = ord.reverse from rfl))) $$ HS
  ihave HS := (end4 PF K c) $$ [HS Hb0 Hb2 Hsn Hs2]
  · isplitl [HS]; · iexact HS
    isplitl [Hb0]; · iexact Hb0
    isplitl [Hb2]; · iexact Hb2
    isplitl [Hsn]; · iexact Hsn
    iexact Hs2
  icases HS with ⟨Hr3, HS⟩
  ihave HS := (Entails.of_eq (congrArg (fun l => (St5 PF K c l [] : sProp 𝕄)) (show ord = [0, 1, 2, 3, 4, 5, 6, 7, 8, 9, 10, 11, 12, 13, 14, 15] from rfl))) $$ HS
  iapply (gdep PF K c 0 _ _ k0_cond65 (cnd_ne c 0) _ rfl _ rfl k0_off109 (by decide +kernel)) $$ HS
  iintro HS
  iapply (gdep PF K c 1 _ _ k0_cond66 (cnd_ne c 1) _ rfl _ rfl k0_off110 (by decide +kernel)) $$ HS
  iintro HS
  iapply (gdep PF K c 2 _ _ k0_cond67 (cnd_ne c 2) _ rfl _ rfl k0_off111 (by decide +kernel)) $$ HS
  iintro HS
  sl_exec
  iapply (gdep PF K c 3 _ _ k0_cond68 (cnd_ne c 3) _ rfl _ rfl k0_off112 (by decide +kernel)) $$ HS
  iintro HS
  iapply (gdep PF K c 4 _ _ k0_cond69 (cnd_ne c 4) _ rfl _ rfl k0_off113 (by decide +kernel)) $$ HS
  iintro HS
  iapply (gdep PF K c 5 _ _ k0_cond70 (cnd_ne c 5) _ rfl _ rfl k0_off114 (by decide +kernel)) $$ HS
  iintro HS
  iapply (gdep PF K c 6 _ _ k0_cond71 (cnd_ne c 6) _ rfl _ rfl k0_off115 (by decide +kernel)) $$ HS
  iintro HS
  iapply (gdep PF K c 7 _ _ k0_cond72 (cnd_ne c 7) _ rfl _ rfl k0_off116 (by decide +kernel)) $$ HS
  iintro HS
  iapply (gdep PF K c 8 _ _ k0_cond73 (cnd_ne c 8) _ rfl _ rfl k0_off117 (by decide +kernel)) $$ HS
  iintro HS
  iapply (gdep PF K c 9 _ _ k0_cond74 (cnd_ne c 9) _ rfl _ rfl k0_off118 (by decide +kernel)) $$ HS
  iintro HS
  iapply (gdep PF K c 10 _ _ k0_cond75 (cnd_ne c 10) _ rfl _ rfl k0_off119 (by decide +kernel)) $$ HS
  iintro HS
  iapply (gdep PF K c 11 _ _ k0_cond76 (cnd_ne c 11) _ rfl _ rfl k0_off120 (by decide +kernel)) $$ HS
  iintro HS
  iapply (gdep PF K c 12 _ _ k0_cond77 (cnd_ne c 12) _ rfl _ rfl k0_off121 (by decide +kernel)) $$ HS
  iintro HS
  sl_exec
  iapply (gdep PF K c 13 _ _ k0_cond78 (cnd_ne c 13) _ rfl _ rfl k0_off122 (by decide +kernel)) $$ HS
  iintro HS
  iapply (gdep PF K c 14 _ _ k0_cond79 (cnd_ne c 14) _ rfl _ rfl k0_off123 (by decide +kernel)) $$ HS
  iintro HS
  iapply (gdep PF K c 15 _ _ k0_cond80 (cnd_ne c 15) _ rfl _ rfl k0_off124 (by decide +kernel)) $$ HS
  iintro HS
  ihave HS := (Entails.of_eq (congrArg (fun l => (St5 PF K c [] l : sProp 𝕄)) (show [15, 14, 13, 12, 11, 10, 9, 8, 7, 6, 5, 4, 3, 2, 1, 0] = ord.reverse from rfl))) $$ HS
  imod (finish PF K c) $$ [HS Hr1 Hr3 Hcs Hod HatB] with HS
  · isplitl [HS]; · iexact HS
    isplitl [Hr1]; · iexact Hr1
    isplitl [Hr3]; · iexact Hr3
    isplitl [Hcs]; · iexact Hcs
    isplitl [Hod]; · iexact Hod
    iexact HatB
  icases HS with ⟨HP, HO⟩
  ihave H3 := (w_join c _ _) $$ [H90 H91]
  · isplitl [H90] <;> iassumption
  ihave HT := (Entails.of_eq (show T = iprop(Back PF c x k v wq wo -∗ Kt ⟨⟩) from rfl)) $$ HT
  rw [wp_ret]; imodintro
  iapply HT
  unfold Back loc2
  unfold full
  isplitl [HP HO]
  · isplitl [HP]; · iexact HP
    iexact HO
  isplitl [Hx]; · iexact Hx
  isplitl [Hk]; · iexact Hk
  isplitl [Hv]; · iexact Hv
  isplitl [Hwq]; · iexact Hwq
  isplitl [Hwo]; · iexact Hwo
  isplitl [H6]; · (iexists _; iexact H6)
  isplitl [H7]; · (iexists _; iexact H7)
  isplitl [H8]; · (iexists _; iexact H8)
  isplitl [H3]; · iexact H3
  isplitl [H10]; · (iexists _; iexact H10)
  isplitl [H11]; · (iexists _; iexact H11)
  isplitl [H12]; · (iexists _; iexact H12)
  isplitl [H14]; · (iexists (redV PF c); iapply (Entails.of_eq (show redPts c (redV PF c) = (full c cc0_scratch8 (redV PF c) : sProp 𝕄) from rfl)) $$ H14)
  isplitl [Hs4]; · iexact Hs4
  iexact Hs5

end Cert.KernelIdeal.Pf

end
-- ==== Proof.KI.Run.lean ====
module

public import proofs.«01_k».proof.Proof.KI.Walk10
public import Idealize.ShloMosaic.Lib.Pipeline.Launch
public import Idealize.ShloMosaic.Lib.Pipeline.Kit
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device computes from its arguments -/

/-- The memory at launch. -/
def s₀ : MemSt nD τ sig (Elt F) := ⟨m, fun _ => 0, ρ⟩

def xstg (c : Dev nD) : Vec F S1024x1024 .f32 := (win0_0.blk (0 : Fin 1)).view.read (Elt F) ((s₀ m ρ).mem ((c : Thread nD τ).loc main_arg0))
def kstg (c : Dev nD) : Vec F S1024x1024 .f32 := (win0_1.blk (0 : Fin 1)).view.read (Elt F) ((s₀ m ρ).mem ((c : Thread nD τ).loc main_arg1))
def vstg (c : Dev nD) : Vec F S1024x1024 .f32 := (win0_2.blk (0 : Fin 1)).view.read (Elt F) ((s₀ m ρ).mem ((c : Thread nD τ).loc main_arg2))
def wqA (c : Dev nD) : Vec F S1024x16384 .f32 := m ((c : Thread nD τ).loc main_arg3)
def woA (c : Dev nD) : Vec F S16384x1024 .f32 := m ((c : Thread nD τ).loc main_arg4)

/-- Device `c`'s partial product. -/
def PFm (c : Dev nD) : BMat F := PFv c (xstg m ρ c) (kstg m ρ c) (vstg m ρ c) (wqA m c) (woA m c)

/-! ## The region's data -/

/-- What a device starts from besides the buffers of the region. -/
def start (c : Dev nD) : sProp 𝕄 :=
  iprop(G' (PFm m ρ) c ∗ cred (tallyAt (barCell c) () 16) ∗ (bigSep Finset.univ (crd c 1)) ∗ (bigSep Finset.univ (crd c 3)) ∗ levAts L lv ∗ loc2 c
    ∗ full c main_arg3 (wqA m c) ∗ full c main_arg4 (woA m c))
/-- The region's own buffers at some contents. -/
def Bufs (c : Dev nD) : sProp 𝕄 :=
  iprop((∃ f, full c cc0_scratch0 f) ∗ (∃ f, full c cc0_scratch1 f) ∗ (∃ f, full c cc0_scratch2 f) ∗ (∃ f, full c cc0_scratch3 f) ∗ (∃ f, full c cc0_scratch4 f) ∗ (∃ f, full c cc0_scratch5 f) ∗ (∃ f, full c cc0_scratch6 f) ∗ (∃ f, full c cc0_scratch7 f) ∗ (∃ f, full c cc0_scratch8 f) ∗ (∃ f, full c cc0_scratch9 f))
def Φ₀ (c : Dev nD) : sProp 𝕄 := iprop(start m ρ c ∗ Bufs c)
def Φ₁ (c : Dev nD) : sProp 𝕄 :=
  iprop(Bufs c ∗ semVal (barCell c) 0 ∗ (bigSep Finset.univ fun k : Fin 4 => bigSep Finset.univ fun j : Fin 16 => semVal (cell c k j) 0) ∗ loc2 c
    ∗ full c main_arg3 (wqA m c) ∗ full c main_arg4 (woA m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => vstg m ρ c
    | ⟨3, _⟩ => OF (PFm m ρ)
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_full (c : Dev nD) (b : Ref sig .tc) (X : b.ty.Contents (Elt F)) : (stg c b X : sProp 𝕄) ⊢ full c b X := by
  unfold full
  iintro ⟨%f, %h, H⟩
  subst h
  iexact H
theorem full_stg (c : Dev nD) (b : Ref sig .tc) (X : b.ty.Contents (Elt F)) : (full c b X : sProp 𝕄) ⊢ stg c b X := by
  unfold full
  iintro H
  iexists X
  isplitr; · (ipureintro; rfl)
  iexact H

/-! ## The body's start, from the region's -/

/-- A position and a credit at each entry. -/
theorem rtodo_intro (c : Dev nD) (k : Fin 4) :
    iprop((bigSep Finset.univ (bef c k)) ∗ bigSep Finset.univ (crd c k)) ⊢ (bigSep Finset.univ (rtodo c k) : sProp 𝕄) := by
  rw [← bigSep_sep']
  exact Entails.of_eq rfl

/-- From the ghost state and the places of others' blocks: the state the body starts in, and the tokens of its exchange. -/
theorem begin (PF : Dev nD → BMat F) (K : Dev nD × CI → ℕ) (c : Dev nD) :
    iprop(ghost PF K c ∗ (bigSep Finset.univ fun j : Fin 16 => barPay j c) ∗ ow c (O₀ c) ∗ (bigSep Finset.univ (crd c 1)) ∗ bigSep Finset.univ (crd c 3))
      ⊢ (iprop(StB PF K c ord ∗ Ext c ∗ atPos ER (barCell c) 0 ∅ 0) : sProp 𝕄) := by
  unfold ghost StB Ext
  rw [sepL_univ _ _ ord_nodup ord_all, four]
  iintro ⟨⟨HR, HatB, ⟨H0, H1, H2, H3⟩, Hd, Ht1, Ht2⟩, Hp, HO, Hc1, Hc3⟩
  isplitl [HR Hd Hp HO]
  · isplitl [HR]; · iexact HR
    isplitl [Hd Hp]
    · iapply (Entails.of_eq (bigSep_sep' Finset.univ (fun j : Fin 16 => (barPay j c : sProp 𝕄)) (fun j : Fin 16 => dutyTok ER (barCell j) 0 c)).symm) $$ [Hd Hp]
      isplitl [Hp] <;> iassumption
    iexact HO
  isplitr [HatB]
  · isplitl [Ht1]; · iexact Ht1
    isplitl [Ht2]; · iexact Ht2
    isplitl [H1 Hc1]
    · iapply (rtodo_intro c 1) $$ [H1 Hc1]
      isplitl [H1] <;> iassumption
    isplitl [H3 Hc3]
    · iapply (rtodo_intro c 3) $$ [H3 Hc3]
      isplitl [H3] <;> iassumption
    isplitl [H0]; · iexact H0
    iexact H2
  iexact HatB

theorem hlater (c : Dev nD) (O : CellTallies nD τ sig Unit) : (ow c O : sProp 𝕄) ⊢ iprop(∃ W, owes (c : Thread nD τ) O W) := Entails.of_eq rfl

theorem back_bufs (PF : Dev nD → BMat F) (c : Dev nD) (x k v : Vec F S1024x1024 .f32) (wq : Vec F S1024x16384 .f32) (wo : Vec F S16384x1024 .f32) :
    Back PF c x k v wq wo ⊢ (iprop((Bufs c ∗ semVal (barCell c) 0 ∗ (bigSep Finset.univ fun k : Fin 4 => bigSep Finset.univ fun j : Fin 16 => semVal (cell c k j) 0) ∗ loc2 c
      ∗ full c main_arg3 wq ∗ full c main_arg4 wo) ∗ ow c 0 ∗ full c cc0_stg0_0 x ∗ full c cc0_stg1_0 k ∗ full c cc0_stg2_0 v ∗ full c cc0_stg3_0 (OF PF)) : sProp 𝕄) := by
  unfold Back Post Bufs
  iintro ⟨⟨⟨H7, Ho, H9, Hb, Hf⟩, HO⟩, Hx, Hk, Hv, Hq, Hw, H0, H1, H2, H3, H4, H5, H6, H8, Hl⟩
  isplitr [HO Hx Hk Hv Ho]
  · isplitr [Hb Hf Hl Hq Hw]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [Hb]; · iexact Hb
    isplitl [Hf]; · iexact Hf
    isplitl [Hl]; · iexact Hl
    isplitl [Hq]; · iexact Hq
    iexact Hw
  isplitl [HO]; · iexact HO
  isplitl [Hx]; · iexact Hx
  isplitl [Hk]; · iexact Hk
  isplitl [Hv]; · iexact Hv
  iexact Ho

/-- The body from the region's start to the region's end, the staging buffers in hand. -/
theorem run_body (c : Dev nD) (g3 : BMat F) (Kt : PUnit → sProp 𝕄) :
    iprop(Φ₀ m ρ c ∗ ow c (O₀ c) ∗ full c cc0_stg0_0 (xstg m ρ c) ∗ full c cc0_stg1_0 (kstg m ρ c) ∗ full c cc0_stg2_0 (vstg m ρ c) ∗ full c cc0_stg3_0 g3
        ∗ (iprop(Φ₁ m c ∗ ow c 0 ∗ full c cc0_stg0_0 (xstg m ρ c) ∗ full c cc0_stg1_0 (kstg m ρ c) ∗ full c cc0_stg2_0 (vstg m ρ c) ∗ full c cc0_stg3_0 (OF (PFm m ρ))) -∗ Kt ⟨⟩))
      ⊢ wp frame (wpE (defs₀ (F := F)) 𝒱₀ (c : Thread nD τ) none) Set.univ
        (cc0__body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14) Kt := by
  unfold Φ₀ start G' Bufs loc2
  iintro ⟨⟨⟨⟨%K, Hg⟩, HcB, Hc1, Hc3, Hlev, ⟨Hs4, Hs5⟩, Hwq, Hwo⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩,
    HO, Hx, Hk, Hv, Ho, HK⟩
  ihave Hh := (hand c f15 g3) $$ [H15 Ho]
  · isplitl [H15] <;> iassumption
  icases Hh with ⟨Hown, Hp⟩
  ihave Hst := (begin (PFm m ρ) K c) $$ [Hg Hp HO Hc1 Hc3]
  · isplitl [Hg]; · iexact Hg
    isplitl [Hp]; · iexact Hp
    isplitl [HO]; · iexact HO
    isplitl [Hc1] <;> iassumption
  icases Hst with ⟨HS, HE, HatB⟩
  ihave H9 := (w_split c f9) $$ H9
  icases H9 with ⟨H90, H91⟩
  have hb := body (PFm m ρ) K c (xstg m ρ c) (kstg m ρ c) (vstg m ρ c) (wqA m c) (woA m c) rfl f6 f7 f8 f10 f11 f13 f9 f12 f14 Kt
  unfold Runs at hb
  iapply hb
  isplitl [HS]; · iexact HS
  isplitl [Hx]; · iexact Hx
  isplitl [Hk]; · iexact Hk
  isplitl [Hv]; · iexact Hv
  isplitl [Hwq]; · iexact Hwq
  isplitl [Hwo]; · iexact Hwo
  isplitl [H6]; · iexact H6
  isplitl [H7]; · iexact H7
  isplitl [H8]; · iexact H8
  isplitl [H90]; · iexact H90
  isplitl [H91]; · iexact H91
  isplitl [H10]; · iexact H10
  isplitl [H11]; · iexact H11
  isplitl [H12]; · iexact H12
  isplitl [H13]; · iexact H13
  isplitl [H14]; · iexact H14
  isplitl [Hs4]; · iexact Hs4
  isplitl [Hs5]; · iexact Hs5
  isplitl [Hlev]; · iexact Hlev
  isplitl [HcB]; · iexact HcB
  isplitl [HatB]; · iexact HatB
  isplitl [Hown]; · iexact Hown
  isplitl [HE]; · iexact HE
  iintro HB
  iapply HK
  iapply (back_bufs (PFm m ρ) c (xstg m ρ c) (kstg m ρ c) (vstg m ρ c) (wqA m c) (woA m c)) $$ HB

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem before_x (c : Dev nD) (d) : (dats m ρ 0 c).before (0 : Fin 4) t₀ d = xstg m ρ c := by unfold Dat.before; rw [if_pos (fetch_0 t₀)]; rfl
theorem before_k (c : Dev nD) (d) : (dats m ρ 0 c).before (1 : Fin 4) t₀ d = kstg m ρ c := by unfold Dat.before; rw [if_pos (fetch_1 t₀)]; rfl
theorem before_v (c : Dev nD) (d) : (dats m ρ 0 c).before (2 : Fin 4) t₀ d = vstg m ρ c := by unfold Dat.before; rw [if_pos (fetch_2 t₀)]; rfl

theorem owes_in (c : Dev nD) : ((dats m ρ 0 c).owesAt () t₀.castSucc : sProp 𝕄) ⊢ ow c (O₀ c) := by
  unfold Dat.owesAt Pipeline.owesWithin ow
  iintro ⟨%W, -, H⟩
  iexists W
  iexact H
theorem owes_out (c : Dev nD) : (ow c 0 : sProp 𝕄) ⊢ (dats m ρ 0 c).owesAt () t₀.succ := by
  unfold Dat.owesAt Pipeline.owesWithin ow
  iintro ⟨%W, H⟩
  iexists W
  isplitr; · ipureintro; exact fun _ _ => Or.inl trivial
  iexact H

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m c ∗ (dats m ρ 0 c).owesAt () t₀.succ ∗ stg c cc0_stg0_0 (xstg m ρ c) ∗ stg c cc0_stg1_0 (kstg m ρ c) ∗ stg c cc0_stg2_0 (vstg m ρ c)
    ∗ stg c cc0_stg3_0 (OF (PFm m ρ)))

theorem sound_body (c : Dev nD) : bodyPre m ρ c
      ⊢ wp frame (wpE (defs₀ (F := F)) 𝒱₀ (c : Thread nD τ) none) Set.univ
        (cc0__body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14) (fun _ => bodyPost m ρ c) := by
  unfold bodyPre
  iintro ⟨HΦ, HO, ⟨%d0, Hx⟩, ⟨%d1, Hk⟩, ⟨%d2, Hv⟩, ⟨%d3, Ho⟩⟩
  rw [before_x, before_k, before_v]
  ihave Hx := (stg_full c cc0_stg0_0 (xstg m ρ c)) $$ Hx
  ihave Hk := (stg_full c cc0_stg1_0 (kstg m ρ c)) $$ Hk
  ihave Hv := (stg_full c cc0_stg2_0 (vstg m ρ c)) $$ Hv
  ihave Ho := (stg_full c cc0_stg3_0 ((dats m ρ 0 c).before (3 : Fin 4) t₀ d3)) $$ Ho
  ihave HO := (owes_in m ρ c) $$ HO
  iapply (run_body m ρ c ((dats m ρ 0 c).before (3 : Fin 4) t₀ d3) fun _ => bodyPost m ρ c)
  isplitl [HΦ]; · iexact HΦ
  isplitl [HO]; · iexact HO
  isplitl [Hx]; · iexact Hx
  isplitl [Hk]; · iexact Hk
  isplitl [Hv]; · iexact Hv
  isplitl [Ho]; · iexact Ho
  iintro ⟨HΦ, HO, Hx, Hk, Hv, Ho⟩
  unfold bodyPost
  isplitl [HΦ]; · iexact HΦ
  isplitl [HO]; · iapply (owes_out m ρ c) $$ HO
  isplitl [Hx]; · iapply (full_stg c cc0_stg0_0 (xstg m ρ c)) $$ Hx
  isplitl [Hk]; · iapply (full_stg c cc0_stg1_0 (kstg m ρ c)) $$ Hk
  isplitl [Hv]; · iapply (full_stg c cc0_stg2_0 (vstg m ρ c)) $$ Hv
  iapply (full_stg c cc0_stg3_0 (OF (PFm m ρ))) $$ Ho

set_option maxRecDepth 4000 in
/-- The library's obligation on the body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (loc2 c ∗ G' (PFm m ρ) c))
      ⊢ |={Set.univ}=> (iprop(start m ρ c ∗ emp) : sProp 𝕄) := by
  rw [Pipeline.unscopedRestP_none, unscopedRest0_eq]
  iintro ⟨⟨H3, H4⟩, Hlev, Hcr, -, Hl, HG⟩
  ihave Hc := (creds (F := F) c) $$ Hcr
  icases Hc with ⟨HB, H1, HN⟩
  imodintro
  unfold start full
  isplitl
  · isplitl [HG]; · iexact HG
    isplitl [HB]; · iexact HB
    isplitl [H1]; · iexact H1
    isplitl [HN]; · iexact HN
    isplitl [Hlev]; · iexact Hlev
    isplitl [Hl]; · iexact Hl
    isplitl [H3]; · iexact H3
    iexact H4
  · iempintro

theorem rest_bufs (c : Dev nD) : (Pipeline.scopedRest cfg0.spec c : sProp 𝕄) = Bufs c := (scopedRest0_eq c).trans rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, rest_bufs]
  unfold Φ₀
  iintro ⟨Hs, -, Hr⟩
  isplitl [Hs]; · iexact Hs
  iexact Hr

/-- What is left at the end that the launch reads: the barrier's counter and the two weight matrices. -/
def Yend (c : Dev nD) : sProp 𝕄 := iprop(unscopedSems0 c ∗ full c main_arg3 (wqA m c) ∗ full c main_arg4 (woA m c))

theorem phi1_exit (c : Dev nD) :
    (dats m ρ 0 c).Φ (Fin.last cfg0.N) ⊢ iprop(Yend m c ∗ Pipeline.ownSems0 osem c ∗ Pipeline.scopedRest cfg0.spec c) := by
  rw [show (dats m ρ 0 c).Φ (Fin.last cfg0.N) = Φ₁ m c from rfl, rest_bufs, ownSems0_eq]
  unfold Φ₁ Yend
  rw [unscopedSems0_eq]
  iintro ⟨Hr, HB, Hf, Hl, H3, H4⟩
  isplitl [HB H3 H4]
  · isplitl [HB]; · iexact HB
    isplitl [H3]; · iexact H3
    iexact H4
  isplitl [Hf Hl]
  · isplitl [Hl]
    · iapply (Entails.of_eq (show (loc2 c : sProp 𝕄) = iprop(semVal ((c : Thread nD τ), SemLoc.dma 4) 0 ∗ semVal ((c : Thread nD τ), SemLoc.dma 5) 0) from rfl)) $$ Hl
    iexact Hf
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · refine BIBase.Entails.trans (?_ : _ ⊢ (emp : sProp 𝕄)) (Entails.of_eq (MayWait_zero ..).symm)
      iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg3) = m ((c : Thread nD τ).loc main_arg3) ∧ r.2.mem ((c : Thread nD τ).loc main_arg4) = m ((c : Thread nD τ).loc main_arg4)

/-- A buffer held whole is what the memory holds. -/
theorem full_read (c : Dev nD) (b : Ref sig .tc) (X : b.ty.Contents (Elt F)) (s' : Phys nD τ sig (Elt F)) :
    iprop(full c b X ∗ SI s') ⊢ (iprop(⌜s'.mem.mem ((c : Thread nD τ).loc b) = X⌝ ∗ SI s') : sProp 𝕄) := by
  iintro ⟨H, HSI⟩
  icombine HSI H gives %h
  isplitr
  · ipureintro; exact Buf.eq_of_forall_mem_univ h
  iexact HSI

theorem end_read (c : Dev nD) (s' : Phys nD τ sig (Elt F)) :
    iprop(Yend m c ∗ emp ∗ SI s') ⊢ (|={Set.univ}=> (iprop(⌜(∀ sm : SemLoc sig, sm.isScoped .tc = false → s'.mem.sem ((c.tc : Thread nD τ), sm) = 0)
      ∧ s'.mem.mem ((c : Thread nD τ).loc main_arg3) = m ((c : Thread nD τ).loc main_arg3) ∧ s'.mem.mem ((c : Thread nD τ).loc main_arg4) = m ((c : Thread nD τ).loc main_arg4)⌝ ∗ SI s')) : sProp 𝕄) := by
  unfold Yend
  iintro ⟨⟨Hu, H3, H4⟩, -, HSI⟩
  ihave H := (full_read c main_arg3 (wqA m c) s') $$ [H3 HSI]
  · isplitl [H3] <;> iassumption
  icases H with ⟨%h3, HSI⟩
  ihave H := (full_read c main_arg4 (woA m c) s') $$ [H4 HSI]
  · isplitl [H4] <;> iassumption
  icases H with ⟨%h4, HSI⟩
  imod (Pipeline.unscopedSems0_read (X := unscopedSems0 c) (c := c) fupd_intro s') $$ [Hu HSI] with H
  · isplitl [Hu] <;> iassumption
  icases H with ⟨%hs, HSI⟩
  imodintro
  isplitr
  · ipureintro; exact ⟨hs, h3, h4⟩
  iexact HSI

set_option maxRecDepth 8000 in
/-- Every weakly fair execution of the kernel on its 16 devices ends, from any memory with its counters at zero: the result array holds
    what the partial products sum to, the arguments are unchanged and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (PFm m ρ)) (G' := fun c => iprop(loc2 c ∗ G' (PFm m ρ) c)) (u₀ := u₀)
    (hu₀ := by
      unfold u₀
      iintro Hu
      ihave H := (ownU_split _ _) $$ Hu
      icases H with ⟨HP, HX⟩
      imod (fund_ring (PFm m ρ)) $$ HX with HG
      imodintro
      isplitl [HP] <;> iassumption)
    (hglob := glob (PFm m ρ))
    (hA := fun _ _ => rfl) (hpf := fun _ k => k.elim0)
    (X := start m ρ) (Y := Yend m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg3) = m ((c : Thread nD τ).loc main_arg3) ∧ s.mem ((c : Thread nD τ).loc main_arg4) = m ((c : Thread nD τ).loc main_arg4))
    (hY := end_read m)
    (hQ := fun _ h hs => ⟨fun c => ⟨(h c).1, (h c).2.2.2⟩, sem_eq_zero hs fun c => (h c).2.2.1⟩)

theorem finalA_in0 (c : Dev nD) : finalA m ρ c (0 : Fin 4) = m ((c : Thread nD τ).loc main_arg0) := (dats (F := F) m ρ 0 c).arrAt_in (0 : Fin 4) rfl _
theorem finalA_in1 (c : Dev nD) : finalA m ρ c (1 : Fin 4) = m ((c : Thread nD τ).loc main_arg1) := (dats (F := F) m ρ 0 c).arrAt_in (1 : Fin 4) rfl _
theorem finalA_in2 (c : Dev nD) : finalA m ρ c (2 : Fin 4) = m ((c : Thread nD τ).loc main_arg2) := (dats (F := F) m ρ 0 c).arrAt_in (2 : Fin 4) rfl _

end Cert.KernelIdeal.Pf

end
-- ==== Proof.KI.Same.lean ====
module

public import proofs.«01_k».proof.Kernel
public import proofs.«01_k».proof.KernelIdeal
public import proofs.«01_k».proof.Proof.Gen.Kernel
public import proofs.«01_k».proof.Proof.Gen.KernelIdeal
@[expose] public section
noncomputable section
namespace Cert.Same
open Idealize.ShloMosaic
variable {F : FTy → Type} [FloatOps F]
/-- The kernel's function is the same term in both prints. -/
theorem body_eq : Cert.Kernel.cc0__body (F := F) = Cert.KernelIdeal.cc0__body (F := F) := rfl

/-- So are the body tables. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) defs₀_eq

/-- And the calls. -/
theorem main_eq : Cert.Kernel.main (F := F) = Cert.KernelIdeal.main (F := F) := rfl

end Cert.Same
-- ==== Proof.KI.Words.lean ====
module

public import proofs.«01_k».proof.Proof.KI.Quarter
public import Idealize.ShloMosaic.Lib.Pointwise

@[expose] public section

noncomputable section

namespace Cert.KernelIdeal.Pf

open Cert.KernelIdeal Cert.KernelIdeal.Gen

open Idealize.ShloMosaic
open Idealize.ShloMosaic.Pointwise

/-! ## Where a quarter's rows and its window of keys lie -/

/-- The first row of quarter `t` on device `c`. -/
def row0 (c : Dev nD) (t : Fin 4) : ℕ := 256 * ((c.val + t.val) % 4)
/-- The first key of its window. -/
def key0 (c : Dev nD) (t : Fin 4) : ℕ := min 512 (row0 c t - 128)

theorem row0_le (c : Dev nD) (t : Fin 4) : row0 c t ≤ 768 := by unfold row0; omega
theorem key0_le (c : Dev nD) (t : Fin 4) : key0 c t ≤ 512 := by unfold key0; omega

theorem off3_eq : ∀ (c : Dev nD) (t : Fin 4), k0_off3 c (BitVec.ofNat 32 t.val) = ![row0 c t, 0] := by decide +kernel
theorem kOff_eq : ∀ (c : Dev nD) (t : Fin 4) (h : Fin 8), kOff c (BitVec.ofNat 32 t.val) h = ![key0 c t, 128 * h.val] := by decide +kernel
theorem w90_eq : ∀ (c : Dev nD) (t : Fin 4), w90 c (BitVec.ofNat 32 t.val) = BitVec.ofNat 32 (row0 c t) := by decide +kernel
theorem w93_eq : ∀ (c : Dev nD) (t : Fin 4), w93 c (BitVec.ofNat 32 t.val) = BitVec.ofNat 32 (key0 c t) := by decide +kernel
theorem off1_eq : ∀ c : Dev nD, k0_off1 c = ![0, 1024 * c.val] := by decide +kernel
theorem off2_eq : ∀ c : Dev nD, k0_off2 c = ![1024 * c.val, 0] := by decide +kernel
/-- The quarter that holds the rows `256 * b …` starts there. -/
theorem row0_tq (c : Dev nD) (b : ℕ) (hb : b < 4) : row0 c (tq c b hb) = 256 * b := by
  unfold row0 tq
  have : (c.val + (b + 4 - c.val % 4) % 4) % 4 = b := by omega
  exact congrArg (256 * ·) this

/-! ## The window's mask -/

/-- Rows `i` and `j` lie within 128 of each other. -/
def Near (i j : ℕ) : Prop := i ≤ j + 128 ∧ j ≤ i + 128
instance (i j : ℕ) : Decidable (Near i j) := by unfold Near; infer_instance

/-- The comparison that makes the mask, at the words of two rows: one exactly if the rows lie within 128 of each other. -/
theorem mask_word (n m : ℕ) (hn : n < 1024) (hm : m < 1024) :
    IntOp.cmpi .sle (IntOp.absi (IntOp.subi (BitVec.ofNat 32 n) (BitVec.ofNat 32 m))) 128#32 = if Near n m then 1#1 else 0#1 := by
  have pos : ∀ d : Fin 1024, IntOp.cmpi .sle (IntOp.absi (BitVec.ofNat 32 d.val)) 128#32 = if d.val ≤ 128 then 1#1 else 0#1 := by decide +kernel
  have neg : ∀ d : Fin 1024, IntOp.cmpi .sle (IntOp.absi (-(BitVec.ofNat 32 d.val))) 128#32 = if d.val ≤ 128 then 1#1 else 0#1 := by decide +kernel
  rcases le_total m n with h | h
  · have e : IntOp.subi (BitVec.ofNat 32 n) (BitVec.ofNat 32 m) = BitVec.ofNat 32 (n - m) := by
      apply BitVec.eq_of_toNat_eq
      simp only [IntOp.subi, BitVec.toNat_sub, BitVec.toNat_ofNat]
      omega
    rw [e, pos ⟨n - m, by omega⟩]
    have : (n - m ≤ 128) ↔ Near n m := by unfold Near; omega
    simp only [this]
  · have e : IntOp.subi (BitVec.ofNat 32 n) (BitVec.ofNat 32 m) = -(BitVec.ofNat 32 (m - n)) := by
      apply BitVec.eq_of_toNat_eq
      simp only [IntOp.subi, BitVec.toNat_sub, BitVec.toNat_neg, BitVec.toNat_ofNat]
      omega
    rw [e, neg ⟨m - n, by omega⟩]
    have : (m - n ≤ 128) ↔ Near n m := by unfold Near; omega
    simp only [this]

/-- The mask of a quarter at a row and a key of its window. -/
theorem mask_at (a b : ℕ) (ha : a ≤ 768) (hb : b ≤ 512) (r : Fin 256) (k : Fin 512) :
    k0_pay7 (BitVec.ofNat 32 a) (BitVec.ofNat 32 b) (ix2 r k) = if Near (a + r.val) (b + k.val) then 1#1 else 0#1 := by
  rw [← mask_word (a + r.val) (b + k.val) (by omega) (by omega)]
  pointwise [k0_pay7]
  simp only [BitVec.ofNat_add]
  rfl

/-! ## What one quarter computes, at an index -/

variable (c : Dev nD) (t : Fin 4) (x k v wq wo : BMat Ideal)

/-- A query. -/
def qAt (i a : Fin 1024) : EReal := ∑ m : Fin 1024, x (ix2 i m) * wq (ix2 m a)

/-- A scaled score of local head `h`. -/
def scAt (h : Fin 8) (i j : Fin 1024) : EReal :=
  (∑ e : Fin 128, qAt x wq i ⟨128 * h.val + e.val, by omega⟩ * k (ix2 j ⟨128 * h.val + e.val, by omega⟩)) * Ideal.ofBits .f32 0x3DB504F3#32

/-- A weight of local head `h`. -/
def wtAt (h : Fin 8) (i j : Fin 1024) : EReal := if Near i.val j.val then Ideal.exp (scAt x k wq h i j) else 0

theorem readRow (off : Fin 2 → ℕ) (o0 o1 : ℕ) {n0 n1 : ℕ}
    (h : ∀ a, off a + (![n0, n1] : Fin 2 → ℕ) a ≤ S1024x1024.size a) (e : off = ![o0, o1]) (h0 : o0 + n0 ≤ 1024) (h1 : o1 + n1 ≤ 1024)
    (f : BMat Ideal) (r : Fin n0) (l : Fin n1) :
    f ((Rect.unit (s := S1024x1024) off ![n0, n1] h).toLoadRect.idx (ix2 r l)) = f (ix2 ⟨o0 + r.val, by omega⟩ ⟨o1 + l.val, by omega⟩) := by
  subst e
  congr 1
  funext a
  match a with
  | 0 => exact Fin.ext (by show o0 + 1 * r.val = o0 + r.val; omega)
  | 1 => exact Fin.ext (by show o1 + 1 * l.val = o1 + l.val; omega)

theorem qQ_at (r : Fin 256) (a : Fin 1024) :
    qQ c t x wq (ix2 r a) = qAt x wq ⟨row0 c t + r.val, by have := row0_le c t; omega⟩ a := by
  unfold qQ
  pointwise [k0_pay6]
  unfold qAt
  refine Finset.sum_congr rfl fun m _ => ?_
  refine congrArg₂ (· * ·) ((readRow _ (row0 c t) 0 _ (off3_eq c t) (by have := row0_le c t; omega) (by omega) x r m).trans ?_)
    ((readRow _ 0 0 _ rfl (by omega) (by omega) wq m a).trans ?_)
  · exact congrArg x (congrArg (ix2 _) (Fin.ext (Nat.zero_add _)))
  · exact congrArg wq (congrArg₂ ix2 (Fin.ext (Nat.zero_add _)) (Fin.ext (Nat.zero_add _)))

/-- The unnormalised weight at row `r` and key `kk` of a quarter's window. -/
theorem wgt_at (h : Fin 8) (q : FVec Ideal S256x1024 .bf16) (m : IVec S256x512 1) (kw : Vec Ideal S512x128 .bf16) (r : Fin 256) (kk : Fin 512) :
    wgtV h q m kw (ix2 r kk) = Scalar.select (m (ix2 r kk)) (Ideal.exp ((∑ e : Fin 128, q (ix2 r ⟨128 * h.val + e.val, by omega⟩) * kw (ix2 kk e)) * Ideal.ofBits .f32 0x3DB504F3#32)) (0 : EReal) := by
  fin_cases h <;> pointwise [wgtV]

/-- One head of a quarter, at row `r` and lane `e`. -/
theorem head_at (h : Fin 8) (q : FVec Ideal S256x1024 .bf16) (m : IVec S256x512 1) (kw vw : Vec Ideal S512x128 .bf16) (r : Fin 256) (e : Fin 128) :
    headV h q m kw vw (ix2 r e) = (∑ kk : Fin 512, wgtV h q m kw (ix2 r kk) * vw (ix2 kk e)) * Ideal.div 1 (∑ kk : Fin 512, wgtV h q m kw (ix2 r kk)) := by
  unfold headV
  generalize wgtV h q m kw = w
  pointwise []

end Cert.KernelIdeal.Pf

end
-- ==== Proof.KI.Soft.lean ====
module

public import Idealize.ShloMosaic.PureOps.Ideal.Laws

@[expose] public section

noncomputable section

namespace Cert.KernelIdeal.Pf

open Idealize.ShloMosaic

/-- A sum times a nonnegative real is the sum of the products, whatever infinities it holds. -/
theorem sum_mul_real {n : ℕ} (f : Fin n → EReal) (a : ℝ) (ha : 0 ≤ a) : (∑ j, f j) * (a : EReal) = ∑ j, f j * (a : EReal) := by
  have h : ∀ S : Finset (Fin n), (∑ j ∈ S, f j) * (a : EReal) = ∑ j ∈ S, f j * (a : EReal) := by
    intro S
    induction S using Finset.induction_on with
    | empty => simp
    | insert b S hb ih =>
      rw [Finset.sum_insert hb, Finset.sum_insert hb, ← ih]
      exact EReal.right_distrib_of_nonneg_of_ne_top (by exact_mod_cast ha) (EReal.coe_ne_top a) _ _
  exact h Finset.univ

/-- A sum of reals. -/
theorem sum_real {n : ℕ} (f : Fin n → ℝ) : (∑ j, ((f j : ℝ) : EReal)) = ((∑ j, f j : ℝ) : EReal) := by
  have h : ∀ S : Finset (Fin n), (∑ j ∈ S, ((f j : ℝ) : EReal)) = ((∑ j ∈ S, f j : ℝ) : EReal) := by
    intro S
    induction S using Finset.induction_on with
    | empty => simp
    | insert b S hb ih => rw [Finset.sum_insert hb, Finset.sum_insert hb, ih, EReal.coe_add]
  exact h Finset.univ

/-- A sum of products of reals is a real. -/
theorem sum_mul_fin {n : ℕ} (f g : Fin n → EReal) (hf : ∀ j, ∃ r : ℝ, f j = r) (hg : ∀ j, ∃ r : ℝ, g j = r) :
    ∃ r : ℝ, (∑ j, f j * g j) = (r : EReal) := by
  choose a ha using hf
  choose b hb using hg
  refine ⟨∑ j, a j * b j, ?_⟩
  rw [← sum_real]
  exact Finset.sum_congr rfl fun j _ => by rw [ha j, hb j, EReal.coe_mul]

/-- The greatest of real scores, those outside the window left out, is a real. -/
theorem max_real {n : ℕ} (s : Fin n → EReal) (near : Fin n → Prop) [DecidablePred near] (i : Fin n) (hi : near i)
    (hs : ∀ j, ∃ r : ℝ, s j = r) :
    ∃ m : ℝ, Finset.univ.fold max (⊥ : EReal) (fun j => if near j then s j else ⊥) = (m : EReal) := by
  have hlo : Finset.univ.fold max (⊥ : EReal) (fun j => if near j then s j else ⊥) ≠ ⊥ := by
    have : s i ≤ Finset.univ.fold max (⊥ : EReal) (fun j => if near j then s j else ⊥) :=
      (Finset.le_fold_max (s i)).2 (.inr ⟨i, Finset.mem_univ i, by rw [if_pos hi]⟩)
    obtain ⟨r, hr⟩ := hs i
    rw [hr] at this
    exact fun h => absurd (h ▸ this) (by simp)
  have hhi : Finset.univ.fold max (⊥ : EReal) (fun j => if near j then s j else ⊥) ≠ ⊤ := by
    have : Finset.univ.fold max (⊥ : EReal) (fun j => if near j then s j else ⊥) < ⊤ :=
      (Finset.fold_max_lt ⊤).2 ⟨by simp, fun j _ => by
        obtain ⟨r, hr⟩ := hs j
        split
        · rw [hr]; exact EReal.coe_lt_top r
        · simp⟩
    exact this.ne
  exact ⟨_, (EReal.coe_toReal hhi hlo).symm⟩

/-- Weighted values over the sum of the weights, the exponentials taken as they are, are the values weighted by the
    exponentials less their greatest, each over the sum: real scores, and at least one inside the window. -/
theorem soft_eq {n : ℕ} (s : Fin n → EReal) (near : Fin n → Prop) [DecidablePred near] (i : Fin n) (hi : near i)
    (hs : ∀ j, ∃ r : ℝ, s j = r) (v : Fin n → EReal) :
    (∑ j, (if near j then Ideal.exp (s j) else 0) * v j) * Ideal.div 1 (∑ j, if near j then Ideal.exp (s j) else 0)
      = ∑ j, v j * Ideal.div
          (Ideal.exp ((if near j then s j else ⊥) - Finset.univ.fold max (⊥ : EReal) (fun j => if near j then s j else ⊥)))
          (∑ j, Ideal.exp ((if near j then s j else ⊥) - Finset.univ.fold max (⊥ : EReal) (fun j => if near j then s j else ⊥))) := by
  obtain ⟨m, hm⟩ := max_real s near i hi hs
  rw [hm]
  choose r hr using hs
  have hw : ∀ j, (if near j then Ideal.exp (s j) else 0) = (((if near j then Real.exp (r j) else 0 : ℝ)) : EReal) := fun j => by
    split
    · rw [hr j, Ideal.exp_coe]
    · simp
  have he : ∀ j, Ideal.exp ((if near j then s j else ⊥) - (m : EReal))
      = (((if near j then Real.exp (r j) else 0) * Real.exp (-m) : ℝ) : EReal) := fun j => by
    split
    · rw [hr j, ← EReal.coe_sub, Ideal.exp_coe, sub_eq_add_neg, Real.exp_add]
    · rw [EReal.bot_sub, Ideal.exp_bot]; simp
  have hpos : 0 < ∑ j, (if near j then Real.exp (r j) else 0 : ℝ) :=
    Finset.sum_pos' (fun j _ => by split <;> positivity) ⟨i, Finset.mem_univ i, by rw [if_pos hi]; positivity⟩
  have hE : (0 : ℝ) < Real.exp (-m) := Real.exp_pos _
  simp only [hw, he, sum_real, ← Finset.sum_mul]
  rw [Ideal.div_coe hpos.ne', one_mul, sum_mul_real _ _ (by positivity)]
  refine Finset.sum_congr rfl fun j _ => ?_
  rw [Ideal.div_coe (by positivity), ← EReal.coe_mul, mul_comm _ (v j), mul_assoc, ← EReal.coe_mul]
  congr 2
  field_simp

end Cert.KernelIdeal.Pf

end
-- ==== Proof.KI.RefVal.lean ====
module

public import proofs.«01_k».proof.Proof.Gen.ReferenceIdeal.Run
public import proofs.«01_k».proof.Proof.Gen.ReferenceIdeal.Read
public import proofs.«01_k».proof.Proof.KI.Words
public import proofs.«01_k».proof.Proof.KI.Soft

@[expose] public section

noncomputable section

namespace Cert.RefVal

open Cert.ReferenceIdeal Cert.ReferenceIdeal.Gen Cert.ReferenceIdeal.Read
open Idealize.ShloMosaic
open Cert.KernelIdeal.Pf (Near mask_word)

variable (X : Vec Ideal S1024x1024 .f32) (K V Wq : Vec Ideal S1024x16384 .f32) (Wo : Vec Ideal S16384x1024 .f32)

/-- The literal of minus infinity. -/
theorem lit_bot : Ideal.ofBits .f32 0xFF800000#32 = (⊥ : EReal) := by simp [Ideal.ofBits, Ideal.ieee]
/-- The literal zero. -/
theorem lit_zero : Ideal.ofBits .f32 0x00000000#32 = (0 : EReal) := by simp [Ideal.ofBits, Ideal.ieee]
/-- The literal of plus infinity. -/
theorem lit_top : Ideal.ofBits .f32 0x7F800000#32 = (⊤ : EReal) := by simp [Ideal.ofBits, Ideal.ieee]
/-- The scale is a real number. -/
theorem lit_scale : ∃ r : ℝ, Ideal.ofBits .f32 0x3DB504F3#32 = (r : EReal) := by
  simp only [Ideal.ofBits, Ideal.ieee]
  exact ⟨_, rfl⟩

/-- Lane `e` of head `H`, among the columns of all heads. -/
def gcol (H e : Fin 128) : Fin 16384 := ⟨128 * H.val + e.val, by omega⟩

/-- A query. -/
def QR (i : Fin 1024) (A : Fin 16384) : EReal := ∑ m : Fin 1024, X (ix2 i m) * Wq (ix2 m A)
/-- A scaled score. -/
def scR (H : Fin 128) (i j : Fin 1024) : EReal :=
  (∑ e : Fin 128, QR X Wq i (gcol H e) * K (ix2 j (gcol H e))) * Ideal.ofBits .f32 0x3DB504F3#32
/-- A score under the mask. -/
def msR (H : Fin 128) (i j : Fin 1024) : EReal := if Near i.val j.val then scR X K Wq H i j else ⊥
/-- The largest score of a row. -/
def mxR (H : Fin 128) (i : Fin 1024) : EReal := Finset.univ.fold max (⊥ : EReal) (fun j => msR X K Wq H i j)
/-- An exponential. -/
def exR (H : Fin 128) (i j : Fin 1024) : EReal := Ideal.exp (msR X K Wq H i j - mxR X K Wq H i)

theorem v0_at (i : Fin 1024) (A : Fin 16384) : val_main_v0 (F := Ideal) X Wq (ix2 i A) = QR X Wq i A := by
  refine (val_main_v0_apply X Wq (ix2 i A)).trans (Finset.sum_congr rfl fun m _ => congrArg₂ (· * ·) (congrArg X ?_) (congrArg Wq ?_))
  · funext a
    match a with
    | ⟨0, _⟩ => rfl
    | ⟨1, _⟩ => rfl
  · funext a
    match a with
    | ⟨0, _⟩ => rfl
    | ⟨1, _⟩ => rfl

/-- The position of a head's lane in a row of all heads. -/
theorem pos_head (i : Fin 1024) (H e : Fin 128) (f : S1024x16384.Idx)
    (h0 : (f 0).val = ((i.val * 128 + H.val) * 128 + e.val) / 16384) (h1 : (f 1).val = ((i.val * 128 + H.val) * 128 + e.val) % 16384) :
    f = ix2 i (gcol H e) := by
  funext a
  match a with
  | ⟨0, _⟩ => exact Fin.ext (h0.trans (by show _ = i.val; omega))
  | ⟨1, _⟩ => exact Fin.ext (h1.trans (by show _ = 128 * H.val + e.val; omega))

theorem v1_at (i : Fin 1024) (H e : Fin 128) : val_main_v1 (F := Ideal) X Wq (ix3 i H e) = QR X Wq i (gcol H e) := by
  rw [val_main_v1_apply, pos_head i H e (idx_main_v1 (ix3 i H e)) rfl rfl, v0_at]
theorem v2_at (i : Fin 1024) (H e : Fin 128) : val_main_v2 (F := Ideal) K (ix3 i H e) = K (ix2 i (gcol H e)) := by
  rw [val_main_v2_apply, pos_head i H e (idx_main_v2 (ix3 i H e)) rfl rfl]
theorem v3_at (i : Fin 1024) (H e : Fin 128) : val_main_v3 (F := Ideal) V (ix3 i H e) = V (ix2 i (gcol H e)) := by
  rw [val_main_v3_apply, pos_head i H e (idx_main_v3 (ix3 i H e)) rfl rfl]

/-- Two positions of a cube with the same coordinates are one. -/
theorem ext3 {n0 n1 n2 : ℕ} (f g : (⟨3, ![n0, n1, n2]⟩ : Shape).Idx) (h0 : f 0 = g 0) (h1 : f 1 = g 1) (h2 : f 2 = g 2) : f = g := by
  funext a
  match a with
  | ⟨0, _⟩ => exact h0
  | ⟨1, _⟩ => exact h1
  | ⟨2, _⟩ => exact h2
theorem ext2 {n0 n1 : ℕ} (f g : (⟨2, ![n0, n1]⟩ : Shape).Idx) (h0 : f 0 = g 0) (h1 : f 1 = g 1) : f = g := by
  funext a
  match a with
  | ⟨0, _⟩ => exact h0
  | ⟨1, _⟩ => exact h1

theorem v16_at (H : Fin 128) (i j : Fin 1024) : val_main_v16 (F := Ideal) X K Wq (ix3 H i j) = scR X K Wq H i j := by
  rw [val_main_v16_apply, val_main_v14_apply, val_main_v15_apply, val_main_cst_apply]
  unfold scR
  refine congrArg₂ (· * ·) (Finset.sum_congr rfl fun e _ => congrArg₂ (· * ·) ?_ ?_) rfl
  · rw [ext3 (lidx_main_v14 (ix3 H i j) e) (ix3 i H e) rfl rfl rfl, v1_at]
  · rw [ext3 (ridx_main_v14 (ix3 H i j) e) (ix3 j H e) rfl rfl rfl, v2_at]

/-- The mask. -/
theorem v13_at (i j : Fin 1024) : val_main_v13 (F := Ideal) (ix2 i j) = if Near i.val j.val then 1#1 else 0#1 := by
  rw [val_main_v13_apply, val_main_v11_apply, val_main_v12_apply, val_main_c_apply, val_main_v10_apply, val_main_v8_apply, val_main_v9_apply,
    val_main_v5_apply, val_main_v7_apply, val_main_v4_apply, val_main_v6_apply]
  exact mask_word i.val j.val i.isLt j.isLt

theorem v18_at (H : Fin 128) (i j : Fin 1024) : val_main_v18 (F := Ideal) X K Wq (ix3 H i j) = msR X K Wq H i j := by
  rw [val_main_v18_apply, val_main_call0_v1_apply, val_main_v17_apply, val_main_call0_v2_apply, val_main_call0_v0_apply, val_main_cst_0_apply, v16_at,
    ext2 (idx_main_v17 (idx_main_call0_v1 (ix3 H i j))) (ix2 i j) rfl rfl, v13_at]
  unfold msR
  by_cases h : Near i.val j.val
  · rw [if_pos h, if_pos h]
    rfl
  · rw [if_neg h, if_neg h]
    exact lit_bot

theorem v19_at (H : Fin 128) (i : Fin 1024) : val_main_v19 (F := Ideal) X K Wq (ix2 H i) = mxR X K Wq H i := by
  unfold val_main_v19
  have hr : S128x1024x1024.Reduces [2] S128x1024 := by decide
  have hb : val_main_cst_1 (F := Ideal) (Shape.Idx.first h_S_) = (⊥ : EReal) := by
    rw [val_main_cst_1_apply]
    exact lit_bot
  refine (Host.reduce_eq_fold_single (max : EReal → EReal → EReal) (val_main_v18 (F := Ideal) X K Wq) (val_main_cst_1 (F := Ideal))
    reducesTo_S128x1024x1024_S128x1024_d2 hr h_S_ (ix2 H i)).trans ?_
  rw [hb]
  unfold mxR
  refine Finset.fold_congr fun j _ => ?_
  exact (congrArg (val_main_v18 (F := Ideal) X K Wq) (ext3 (hr.lift (ix2 H i) j) (ix3 H i j) rfl rfl rfl)).trans (v18_at X K Wq H i j)

theorem v23_at (H : Fin 128) (i j : Fin 1024) : val_main_v23 (F := Ideal) X K Wq (ix3 H i j) = exR X K Wq H i j := by
  rw [val_main_v23_apply, val_main_v22_apply, v18_at, val_main_v21_apply, val_main_v20_apply,
    ext2 (idx_main_v20 (idx_main_v21 (ix3 H i j))) (ix2 H i) rfl rfl, v19_at]
  rfl

/-- A disjunction with a true member is true. -/
theorem or_one {n : ℕ} (b : BitVec 1) (f : Fin n → BitVec 1) (q : Fin n) (hq : f q = 1#1) : (Finset.univ : Finset (Fin n)).fold IntOp.ori b f = 1#1 := by
  rw [← Finset.insert_erase (Finset.mem_univ q), Finset.fold_insert (Finset.notMem_erase _ _), hq]
  have hor : ∀ b : BitVec 1, IntOp.ori 1#1 b = 1#1 := by decide
  exact hor _

/-- Every row has a key in its window: its own. -/
theorem v24_at (i : S1024.Idx) : val_main_v24 (F := Ideal) i = 1#1 := by
  unfold val_main_v24
  have hr : S1024x1024.Reduces [1] S1024 := by decide
  have hj : ((i 0).val < 1024) := (i 0).isLt
  have h1 : (val_main_v13 (F := Ideal) ∘ hr.lift i) (⟨(i 0).val, hj⟩ : Fin 1024) = 1#1 :=
    (congrArg (val_main_v13 (F := Ideal)) (ext2 (hr.lift i (⟨(i 0).val, hj⟩ : Fin 1024)) (ix2 ⟨(i 0).val, hj⟩ ⟨(i 0).val, hj⟩) rfl rfl)).trans
      ((v13_at _ _).trans (if_pos ⟨Nat.le_add_right _ _, Nat.le_add_right _ _⟩))
  exact (Host.reduce_eq_fold_single IntOp.ori (val_main_v13 (F := Ideal)) (val_main_c_2 (F := Ideal)) reducesTo_S1024x1024_S1024_d1 hr h_S_ i).trans
    (or_one _ _ _ h1)

theorem v32_at (H : Fin 128) (i j : Fin 1024) :
    val_main_v32 (F := Ideal) X K Wq (ix3 H i j) = Ideal.div (exR X K Wq H i j) (∑ q : Fin 1024, exR X K Wq H i q) := by
  rw [val_main_v32_apply, val_main_call2_v1_apply, val_main_v31_apply, v24_at, val_main_v30_apply, v23_at, val_main_v29_apply, val_main_v28_apply,
    val_main_call1_v1_apply, val_main_v25_apply, v24_at, val_main_v27_apply, val_main_v26_apply]
  have hs : (val_main_cst_3 (F := Ideal)) (Shape.Idx.first h_S_)
      + ∑ k : Fin 1024, (val_main_v23 (F := Ideal) X K Wq) (idx_main_v26 (idx_main_v27 (idx_main_v29 (ix3 H i j))) k)
      = ∑ q : Fin 1024, exR X K Wq H i q := by
    rw [val_main_cst_3_apply]
    refine (congrArg₂ (· + ·) (show _ = (0 : EReal) from ?_) (Finset.sum_congr rfl fun q _ => ?_)).trans (zero_add _)
    · exact lit_zero
    · rw [ext3 (idx_main_v26 (idx_main_v27 (idx_main_v29 (ix3 H i j))) q) (ix3 H i q) rfl rfl rfl, v23_at]
  rw [hs]
  rfl

/-- One lane of one head of the reference. -/
def hdR (H : Fin 128) (i : Fin 1024) (e : Fin 128) : EReal :=
  ∑ j : Fin 1024, V (ix2 j (gcol H e)) * Ideal.div (exR X K Wq H i j) (∑ q : Fin 1024, exR X K Wq H i q)

theorem v35_at (i : Fin 1024) (A : Fin 16384) : val_main_v35 (F := Ideal) X K V Wq (ix2 i A)
    = hdR X K V Wq ⟨A.val / 128, by omega⟩ i ⟨A.val % 128, Nat.mod_lt _ (by decide)⟩ := by
  rw [val_main_v35_apply, val_main_v34_apply]
  have e3 : idx_main_v34 (idx_main_v35 (ix2 i A)) = ix3 (⟨A.val / 128, by omega⟩ : Fin 128) (⟨A.val % 128, Nat.mod_lt _ (by decide)⟩ : Fin 128) i :=
    ext3 _ _ (Fin.ext (by show (i.val * 16384 + A.val) / 128 % 128 = A.val / 128; omega))
      (Fin.ext (by show (i.val * 16384 + A.val) % 128 = A.val % 128; omega))
      (Fin.ext (by show (i.val * 16384 + A.val) / 16384 = i.val; omega))
  rw [e3, val_main_v33_apply]
  unfold hdR
  refine Finset.sum_congr rfl fun j _ => congrArg₂ (· * ·) ?_ ?_
  · rw [ext3 (lidx_main_v33 _ j) (ix3 j (⟨A.val / 128, by omega⟩ : Fin 128) (⟨A.val % 128, Nat.mod_lt _ (by decide)⟩ : Fin 128)) rfl rfl rfl, v3_at]
  · rw [ext3 (ridx_main_v33 _ j) (ix3 (⟨A.val / 128, by omega⟩ : Fin 128) i j) rfl rfl rfl, v32_at]

/-- The reference's result at an index. -/
theorem v37_at (i n : Fin 1024) : val_main_v37 (F := Ideal) X K V Wq Wo (ix2 i n)
    = ∑ A : Fin 16384, hdR X K V Wq ⟨A.val / 128, by omega⟩ i ⟨A.val % 128, Nat.mod_lt _ (by decide)⟩ * Wo (ix2 A n) := by
  rw [val_main_v37_apply, val_main_v36_apply]
  refine Finset.sum_congr rfl fun A _ => congrArg₂ (· * ·) ?_ ?_
  · rw [ext2 (lidx_main_v36 (ix2 i n) A) (ix2 i A) rfl rfl, v35_at]
  · rw [ext2 (ridx_main_v36 (ix2 i n) A) (ix2 A n) rfl rfl]

end Cert.RefVal

end
-- ==== Proof.KI.Heads.lean ====
module

public import proofs.«01_k».proof.Proof.KI.Words
public import Idealize.ShloMosaic.Lib.FinSumWindow
public import Idealize.ShloMosaic.Lib.Pipeline.CanonAppend

@[expose] public section

noncomputable section

namespace Cert.KernelIdeal.Pf

open Cert.KernelIdeal Cert.KernelIdeal.Gen

open Idealize.ShloMosaic
open Idealize.ShloMosaic.FinSumWindow

variable (c : Dev nD) (t : Fin 4) (x k v wq wo : BMat Ideal)

/-- A global row of a quarter. -/
def rowOf (r : Fin 256) : Fin 1024 := ⟨row0 c t + r.val, by have := row0_le c t; omega⟩
/-- A global key of its window. -/
def keyOf (kk : Fin 512) : Fin 1024 := ⟨key0 c t + kk.val, by have := key0_le c t; omega⟩
/-- A column of head `h`. -/
def colOf (h : Fin 8) (e : Fin 128) : Fin 1024 := ⟨128 * h.val + e.val, by omega⟩

/-- A quarter's unnormalised weight is the whole row's weight at that key. -/
theorem wgtQ_at (h : Fin 8) (r : Fin 256) (kk : Fin 512) :
    wgtV h (qQ c t x wq) (k0_pay7 (w90 c (BitVec.ofNat 32 t.val)) (w93 c (BitVec.ofNat 32 t.val)))
      (View.readAt (Elt Ideal) (Memref.whole cc0_scratch1).view (Rect.unit (s := S1024x1024) (kOff c (BitVec.ofNat 32 t.val) h) S512x128.size (kOff_inb c t h)).toLoadRect k) (ix2 r kk)
      = wtAt x k wq h (rowOf c t r) (keyOf c t kk) := by
  rw [wgt_at, w90_eq, w93_eq, mask_at _ _ (row0_le c t) (key0_le c t)]
  have hs : (∑ e : Fin 128, qQ c t x wq (ix2 r ⟨128 * h.val + e.val, by omega⟩)
      * (View.readAt (Elt Ideal) (Memref.whole cc0_scratch1).view (Rect.unit (s := S1024x1024) (kOff c (BitVec.ofNat 32 t.val) h) S512x128.size (kOff_inb c t h)).toLoadRect k) (ix2 kk e))
      = ∑ e : Fin 128, qAt x wq (rowOf c t r) ⟨128 * h.val + e.val, by omega⟩ * k (ix2 (keyOf c t kk) ⟨128 * h.val + e.val, by omega⟩) := by
    refine Finset.sum_congr rfl fun e _ => ?_
    rw [qQ_at]
    exact congrArg (_ * ·) (readRow _ (key0 c t) (128 * h.val) _ (kOff_eq c t h) (by have := key0_le c t; omega) (by omega) k kk e)
  rw [hs]
  unfold wtAt scAt
  by_cases hn : Near (row0 c t + r.val) (key0 c t + kk.val)
  · rw [if_pos hn, if_pos (show Near (rowOf c t r).val (keyOf c t kk).val from hn)]
    rfl
  · rw [if_neg hn, if_neg (show ¬ Near (rowOf c t r).val (keyOf c t kk).val from hn)]
    rfl

/-- Outside a quarter's window of keys every weight of its rows is zero. -/
theorem wt_off (h : Fin 8) (r : Fin 256) (j : Fin 1024) (hj : ¬(key0 c t ≤ j.val ∧ j.val < key0 c t + 512)) :
    wtAt x k wq h (rowOf c t r) j = 0 := by
  unfold wtAt
  refine if_neg fun hn => hj ?_
  have hn' : Near (row0 c t + r.val) j.val := hn
  unfold Near at hn'
  have h1 : row0 c t ≤ 768 := row0_le c t
  have h2 : row0 c t % 256 = 0 := by unfold row0; omega
  unfold key0
  omega

/-- One head of one quarter, over all keys. -/
def hdAt (h : Fin 8) (i : Fin 1024) (e : Fin 128) : EReal :=
  (∑ j : Fin 1024, wtAt x k wq h i j * v (ix2 j (colOf h e))) * Ideal.div 1 (∑ j : Fin 1024, wtAt x k wq h i j)

theorem headQ_at (h : Fin 8) (r : Fin 256) (e : Fin 128) : headQ c t x k v wq h (ix2 r e) = hdAt x k v wq h (rowOf c t r) e := by
  unfold headQ hdAt
  rw [head_at]
  have hk := key0_le c t
  rw [sum_window (W := 512) (key0 c t) (by omega) (fun j => wtAt x k wq h (rowOf c t r) j * v (ix2 j (colOf h e)))
      (fun j hj => by show _ * _ = (0 : EReal); rw [wt_off c t x k wq h r j hj, zero_mul]),
    sum_window (W := 512) (key0 c t) (by omega) (fun j => wtAt x k wq h (rowOf c t r) j) (fun j hj => wt_off c t x k wq h r j hj)]
  refine congrArg₂ (fun a b => a * Ideal.div 1 b) (Finset.sum_congr rfl fun kk _ => ?_) (Finset.sum_congr rfl fun kk _ => wgtQ_at c t x k wq h r kk)
  exact congrArg₂ (· * ·) (wgtQ_at c t x k wq h r kk)
    (readRow _ (key0 c t) (128 * h.val) _ (kOff_eq c t h) (by omega) (by omega) v kk e)

/-- A stored head holds every index of its own columns. -/
theorem mem_piece (o : ℕ) (inb : ∀ a, (![0, o] : Fin 2 → ℕ) a + S256x128.size a ≤ S256x1024.size a) (r : Fin 256) (a : Fin 1024)
    (h : o ≤ a.val ∧ a.val < o + 128) : (ix2 r a : S256x1024.Idx) ∈ (Rect.unit (s := S256x1024) ![0, o] S256x128.size inb).set :=
  Rect.mem_set_unit.mpr (Fin.forall_fin_two.mpr ⟨⟨Nat.zero_le _, by show r.val < 0 + 256; omega⟩, h⟩)

/-- The heads side by side, as one function of the index. -/
def ctxG (hd : Fin 8 → FVec Ideal S256x128 .bf16) : S256x1024.Idx → Elt Ideal .bf16 := fun y =>
  hd ⟨(y 1).val / 128, Nat.div_lt_of_lt_mul (y 1).isLt⟩ (ix2 (y 0) ⟨(y 1).val % 128, Nat.mod_lt _ (by decide)⟩)

theorem ctxG_at (hd : Fin 8 → FVec Ideal S256x128 .bf16) (h : Fin 8) (z : S256x128.Idx) (y : S256x1024.Idx)
    (h0 : (y 0).val = (z 0).val) (h1 : (y 1).val = 128 * h.val + (z 1).val) : hd h z = ctxG hd y := by
  unfold ctxG
  have hz : (z 1).val < 128 := (z 1).isLt
  have e1 : (⟨(y 1).val / 128, Nat.div_lt_of_lt_mul (y 1).isLt⟩ : Fin 8) = h := Fin.ext (by show (y 1).val / 128 = h.val; omega)
  rw [e1]
  refine congrArg (hd h) (funext fun a => ?_)
  match a with
  | 0 => exact Fin.ext h0.symm
  | 1 => exact Fin.ext (by show (z 1).val = (y 1).val % 128; omega)

theorem ctxV_at (hd : Fin 8 → FVec Ideal S256x128 .bf16) (r : Fin 256) (a : Fin 1024) :
    ctxV hd (ix2 r a) = hd ⟨a.val / 128, by omega⟩ (ix2 r ⟨a.val % 128, Nat.mod_lt _ (by decide)⟩) := by
  unfold ctxV
  rw [View.readCov_eq_canon']
  have hy : (Rect.unit (s := S256x1024) ![0, 0] S256x1024.size inb_S256x1024_S256x1024_0_0).toLoadRect.idx (ix2 r a) = ix2 r a := by
    funext b
    match b with
    | 0 => exact Fin.ext (by show 0 + 1 * r.val = r.val; omega)
    | 1 => exact Fin.ext (by show 0 + 1 * a.val = a.val; omega)
  show View.canon (ctxL hd) _ = _
  rw [hy]
  refine (congrFun (congrArg View.canon (List.append_nil (ctxL hd)).symm) (ix2 r a)).trans
    ((View.canon_append_of_pieces (ctxG hd) [] (ctxL hd) ?_ (ix2 r a) ?_).trans rfl)
  · intro p hp z
    simp only [ctxL, List.mem_cons, List.not_mem_nil, or_false] at hp
    rcases hp with rfl | rfl | rfl | rfl | rfl | rfl | rfl | rfl
    · exact ctxG_at hd 7 z _ (by show 0 + 1 * (z 0).val = (z 0).val; omega) (by show 896 + 1 * (z 1).val = 896 + (z 1).val; omega)
    · exact ctxG_at hd 6 z _ (by show 0 + 1 * (z 0).val = (z 0).val; omega) (by show 768 + 1 * (z 1).val = 768 + (z 1).val; omega)
    · exact ctxG_at hd 5 z _ (by show 0 + 1 * (z 0).val = (z 0).val; omega) (by show 640 + 1 * (z 1).val = 640 + (z 1).val; omega)
    · exact ctxG_at hd 4 z _ (by show 0 + 1 * (z 0).val = (z 0).val; omega) (by show 512 + 1 * (z 1).val = 512 + (z 1).val; omega)
    · exact ctxG_at hd 3 z _ (by show 0 + 1 * (z 0).val = (z 0).val; omega) (by show 384 + 1 * (z 1).val = 384 + (z 1).val; omega)
    · exact ctxG_at hd 2 z _ (by show 0 + 1 * (z 0).val = (z 0).val; omega) (by show 256 + 1 * (z 1).val = 256 + (z 1).val; omega)
    · exact ctxG_at hd 1 z _ (by show 0 + 1 * (z 0).val = (z 0).val; omega) (by show 128 + 1 * (z 1).val = 128 + (z 1).val; omega)
    · exact ctxG_at hd 0 z _ (by show 0 + 1 * (z 0).val = (z 0).val; omega) (by show 0 + 1 * (z 1).val = 0 + (z 1).val; omega)
  · have hh : a.val / 128 = 7 ∨ a.val / 128 = 6 ∨ a.val / 128 = 5 ∨ a.val / 128 = 4 ∨ a.val / 128 = 3 ∨ a.val / 128 = 2 ∨ a.val / 128 = 1 ∨ a.val / 128 = 0 := by omega
    unfold ctxL
    simp only [List.mem_cons, exists_eq_or_imp]
    rcases hh with h | h | h | h | h | h | h | h
    · exact Or.inl (mem_piece 896 _ r a (by omega))
    · exact Or.inr (Or.inl (mem_piece 768 _ r a (by omega)))
    · exact Or.inr (Or.inr (Or.inl (mem_piece 640 _ r a (by omega))))
    · exact Or.inr (Or.inr (Or.inr (Or.inl (mem_piece 512 _ r a (by omega)))))
    · exact Or.inr (Or.inr (Or.inr (Or.inr (Or.inl (mem_piece 384 _ r a (by omega))))))
    · exact Or.inr (Or.inr (Or.inr (Or.inr (Or.inr (Or.inl (mem_piece 256 _ r a (by omega)))))))
    · exact Or.inr (Or.inr (Or.inr (Or.inr (Or.inr (Or.inr (Or.inl (mem_piece 128 _ r a (by omega))))))))
    · exact Or.inr (Or.inr (Or.inr (Or.inr (Or.inr (Or.inr (Or.inr (Or.inl (mem_piece 0 _ r a (by omega)))))))))

/-- What device `c` adds to the result at row `i` and column `n`, in its own blocks. -/
def partAt (i n : Fin 1024) : EReal :=
  ∑ a : Fin 1024, hdAt x k v wq ⟨a.val / 128, by omega⟩ i ⟨a.val % 128, Nat.mod_lt _ (by decide)⟩ * wo (ix2 a n)

theorem PQ_at (r : Fin 256) (n : Fin 1024) : PQ c t x k v wq wo (ix2 r n) = partAt x k v wq wo (rowOf c t r) n := by
  unfold PQ
  pointwise []
  unfold partAt
  refine Finset.sum_congr rfl fun a _ => ?_
  rw [ctxV_at, headQ_at]
  refine congrArg (_ * ·) ((readRow _ 0 0 _ rfl (by omega) (by omega) wo a n).trans ?_)
  exact congrArg wo (congrArg₂ ix2 (Fin.ext (Nat.zero_add _)) (Fin.ext (Nat.zero_add _)))

end Cert.KernelIdeal.Pf

end
-- ==== Proof.KI.Parts.lean ====
module

public import proofs.«01_k».proof.Proof.KI.Heads

@[expose] public section

noncomputable section

namespace Cert.KernelIdeal.Pf

open Cert.KernelIdeal Cert.KernelIdeal.Gen

open Idealize.ShloMosaic

/-- Device `c`'s columns of the query weights. -/
theorem wqW_at (c : Dev nD) (wq : Vec Ideal S1024x16384 .f32) (m a : Fin 1024) :
    wqW c wq (ix2 m a) = wq (ix2 m ⟨1024 * c.val + a.val, by have : c.val < 16 := c.isLt; omega⟩) := by
  show wq _ = _
  refine congrArg wq (funext fun b => ?_)
  have h := off1_eq c
  match b with
  | 0 => exact Fin.ext (by show k0_off1 c 0 + 1 * m.val = m.val; rw [h]; show 0 + 1 * m.val = m.val; omega)
  | 1 => exact Fin.ext (by show k0_off1 c 1 + 1 * a.val = 1024 * c.val + a.val; rw [h]; show 1024 * c.val + 1 * a.val = 1024 * c.val + a.val; omega)

/-- Device `c`'s rows of the output weights. -/
theorem woW_at (c : Dev nD) (wo : Vec Ideal S16384x1024 .f32) (a n : Fin 1024) :
    woW c wo (ix2 a n) = wo (ix2 ⟨1024 * c.val + a.val, by have : c.val < 16 := c.isLt; omega⟩ n) := by
  show wo _ = _
  refine congrArg wo (funext fun b => ?_)
  have h := off2_eq c
  match b with
  | 0 => exact Fin.ext (by show k0_off2 c 0 + 1 * a.val = 1024 * c.val + a.val; rw [h]; show 1024 * c.val + 1 * a.val = 1024 * c.val + a.val; omega)
  | 1 => exact Fin.ext (by show k0_off2 c 1 + 1 * n.val = n.val; rw [h]; show 0 + 1 * n.val = n.val; omega)

/-- Over the extended reals a change of format is the identity. -/
theorem nar_eq (w : Vec Ideal S1024x1024 .f32) : nar (F := Ideal) w = w := rfl

/-- What device `c` adds to the result, at an index. -/
theorem PFv_part (c : Dev nD) (x k v : Vec Ideal S1024x1024 .f32) (wq : Vec Ideal S1024x16384 .f32) (wo : Vec Ideal S16384x1024 .f32) (i n : Fin 1024) :
    PFv c x k v wq wo (ix2 i n) = partAt x k v (wqW c wq) (woW c wo) i n := by
  have hb : i.val / 256 < 4 := by omega
  have hz : (fun a : Fin 2 => match a with | 0 => (⟨i.val % 256, Nat.mod_lt _ (by decide)⟩ : Fin 256) | 1 => n : S256x1024.Idx)
      = ix2 ⟨i.val % 256, Nat.mod_lt _ (by decide)⟩ n := funext fun a => match a with | 0 => rfl | 1 => rfl
  show PQ c (tq c (i.val / 256) hb) (nar x) (nar k) (nar v) (nar (wqW c wq)) (nar (woW c wo)) _ = _
  refine (congrArg _ hz).trans ((PQ_at c _ _ _ _ _ _ _ n).trans ?_)
  have hr : rowOf c (tq c (i.val / 256) hb) ⟨i.val % 256, Nat.mod_lt _ (by decide)⟩ = i :=
    Fin.ext (by show row0 c (tq c (i.val / 256) hb) + i.val % 256 = i.val; rw [row0_tq]; omega)
  rw [hr]
  rfl

/-! ## The sum over the devices -/

variable (PF : Dev nD → BMat Ideal)

/-- Row `r` of row block `j`. -/
def blkRow (j : Fin 16) (r : Fin 64) : Fin 1024 := ⟨64 * j.val + r.val, by omega⟩

theorem pblk_at (s : Dev nD) (j : Fin 16) (r : Fin 64) (n : Fin 1024) : pblk PF s j (ix2 r n) = PF s (ix2 (blkRow j r) n) := by
  unfold pblk
  show PF s _ = _
  refine congrArg (PF s) (funext fun b => ?_)
  match b with
  | 0 => exact Fin.ext (by show 64 * j.val + 1 * r.val = 64 * j.val + r.val; omega)
  | 1 => exact Fin.ext (by show 0 + 1 * n.val = n.val; omega)

theorem fold_at (c : Dev nD) (z : S64x1024.Idx) (L : List (Fin 16)) : ∀ f : FRow Ideal,
    (L.foldl (fun f j => acc PF c j f) f) z = f z + (L.map fun j => if j = c then (0 : EReal) else pblk PF j c z).sum := by
  induction L with
  | nil => intro f; exact (add_zero _).symm
  | cons j L ih =>
    intro f
    rw [List.foldl_cons, ih, List.map_cons, List.sum_cons, ← add_assoc]
    refine congrArg (· + _) ?_
    unfold acc
    by_cases h : j = c
    · rw [if_pos h, if_pos h, add_zero]
    · rw [if_neg h, if_neg h]
      rfl

theorem redV_at (c : Dev nD) (z : S64x1024.Idx) : redV PF c z = ∑ d : Fin 16, pblk PF d c z := by
  unfold redV
  have h0 : k0_pay77 (pblk PF c c) z = pblk PF c c z := by
    unfold k0_pay77
    simp only [shapeCast_id]
    rfl
  have ho : ord = List.finRange 16 := by decide
  rw [fold_at, h0, ho, ← Fin.sum_univ_def]
  have hs : ∀ d : Fin 16, pblk PF d c z = (if d = c then pblk PF d c z else 0) + (if d = c then (0 : EReal) else pblk PF d c z) := by
    intro d
    by_cases h : d = c
    · rw [if_pos h, if_pos h, add_zero]
    · rw [if_neg h, if_neg h, zero_add]
  rw [Finset.sum_congr rfl fun d _ => hs d, Finset.sum_add_distrib]
  refine congrArg (· + _) ?_
  rw [Finset.sum_ite_eq' Finset.univ c (fun d : Fin 16 => pblk PF d c z), if_pos (Finset.mem_univ _)]

theorem OF_sum (i n : Fin 1024) : OF PF (ix2 i n) = ∑ d : Fin 16, PF d (ix2 i n) := by
  have hj : i.val / 64 < 16 := by omega
  have hz : (fun a : Fin 2 => match a with | ⟨0, _⟩ => (⟨i.val % 64, Nat.mod_lt _ (by decide)⟩ : Fin 64) | ⟨1, _⟩ => n : S64x1024.Idx)
      = ix2 ⟨i.val % 64, Nat.mod_lt _ (by decide)⟩ n := funext fun a => match a with | ⟨0, _⟩ => rfl | ⟨1, _⟩ => rfl
  have h1 : OF PF (ix2 i n) = outV PF (⟨i.val / 64, hj⟩ : Fin 16) (ix2 ⟨i.val % 64, Nat.mod_lt _ (by decide)⟩ n) := congrArg _ hz
  have h2 : ∀ (j : Fin 16) (z : S64x1024.Idx), outV PF j z = redV PF j z := by
    intro j z
    unfold outV k0_pay94
    rfl
  rw [h1, h2, redV_at]
  refine Finset.sum_congr rfl fun d _ => ?_
  rw [pblk_at]
  exact congrArg (fun q => PF d (ix2 q n)) (Fin.ext (by show 64 * (i.val / 64) + i.val % 64 = i.val; omega))

end Cert.KernelIdeal.Pf

end
-- ==== Proof.KI.Equate.lean ====
module

public import proofs.«01_k».proof.Proof.KI.RefVal
public import proofs.«01_k».proof.Proof.KI.Parts
public import Idealize.ShloMosaic.Lib.Pointwise.Sums

@[expose] public section

noncomputable section

namespace Cert.Equate

open Cert.ReferenceIdeal (S1024x1024 S1024x16384 S16384x1024)
open Cert.ReferenceIdeal.Read
open Idealize.ShloMosaic
open Cert.KernelIdeal.Pf
open Cert.RefVal

variable (X : Vec Ideal S1024x1024 .f32) (K V Wq : Vec Ideal S1024x16384 .f32) (Wo : Vec Ideal S16384x1024 .f32)
variable (d : Fin 16) (k v : Vec Ideal S1024x1024 .f32)

/-- Column `a` of device `d`, among the columns of all heads. -/
def dcol (d : Fin 16) (a : Fin 1024) : Fin 16384 := ⟨1024 * d.val + a.val, by omega⟩
/-- Local head `h` of device `d`, among all heads. -/
def dhead (d : Fin 16) (h : Fin 8) : Fin 128 := ⟨8 * d.val + h.val, by omega⟩

theorem dcol_col (h : Fin 8) (e : Fin 128) : dcol d (colOf h e) = gcol (dhead d h) e :=
  Fin.ext (by show 1024 * d.val + (128 * h.val + e.val) = 128 * (8 * d.val + h.val) + e.val; omega)

/-- A device's score is the reference's score of the same head. -/
theorem sc_eq (hk : ∀ j a, k (ix2 j a) = K (ix2 j (dcol d a))) (h : Fin 8) (i j : Fin 1024) :
    scAt X k (wqW d Wq) h i j = scR X K Wq (dhead d h) i j := by
  unfold scAt scR
  refine congrArg (· * _) (Finset.sum_congr rfl fun e _ => congrArg₂ (· * ·) ?_ ?_)
  · unfold qAt QR
    refine Finset.sum_congr rfl fun m _ => congrArg (_ * ·) ((wqW_at d Wq m (colOf h e)).trans ?_)
    exact congrArg (fun q => Wq (ix2 m q)) (dcol_col d h e)
  · exact (hk j (colOf h e)).trans (congrArg (fun q => K (ix2 j q)) (dcol_col d h e))

/-- Real queries, keys and weights have real scores. -/
theorem sc_real (hX : ∀ i m, ∃ r : ℝ, X (ix2 i m) = r) (hK : ∀ j A, ∃ r : ℝ, K (ix2 j A) = r) (hW : ∀ m A, ∃ r : ℝ, Wq (ix2 m A) = r)
    (H : Fin 128) (i j : Fin 1024) : ∃ r : ℝ, scR X K Wq H i j = r := by
  obtain ⟨a, ha⟩ := sum_mul_fin (fun e : Fin 128 => QR X Wq i (gcol H e)) (fun e => K (ix2 j (gcol H e)))
    (fun e => sum_mul_fin (fun m : Fin 1024 => X (ix2 i m)) (fun m => Wq (ix2 m (gcol H e))) (fun m => hX i m) (fun m => hW m _)) (fun e => hK j _)
  obtain ⟨b, hb⟩ := lit_scale
  refine ⟨a * b, ?_⟩
  unfold scR
  rw [ha, hb, EReal.coe_mul]

/-- One lane of a device's head is the reference's. -/
theorem hd_eq (hk : ∀ j a, k (ix2 j a) = K (ix2 j (dcol d a))) (hv : ∀ j a, v (ix2 j a) = V (ix2 j (dcol d a)))
    (hX : ∀ i m, ∃ r : ℝ, X (ix2 i m) = r) (hK : ∀ j A, ∃ r : ℝ, K (ix2 j A) = r) (hW : ∀ m A, ∃ r : ℝ, Wq (ix2 m A) = r)
    (h : Fin 8) (i : Fin 1024) (e : Fin 128) : hdAt X k v (wqW d Wq) h i e = hdR X K V Wq (dhead d h) i e := by
  have hw : ∀ j, wtAt X k (wqW d Wq) h i j = if Near i.val j.val then Ideal.exp (scR X K Wq (dhead d h) i j) else 0 := by
    intro j
    unfold wtAt
    rw [sc_eq X K Wq d k hk]
  have hvv : ∀ j, v (ix2 j (colOf h e)) = V (ix2 j (gcol (dhead d h) e)) := fun j =>
    (hv j _).trans (congrArg (fun q => V (ix2 j q)) (dcol_col d h e))
  unfold hdAt hdR
  simp only [hw, hvv]
  exact soft_eq (fun j => scR X K Wq (dhead d h) i j) (fun j : Fin 1024 => Near i.val j.val) i ⟨Nat.le_add_right _ _, Nat.le_add_right _ _⟩
    (fun j => sc_real X K Wq hX hK hW _ i j) (fun j => V (ix2 j (gcol (dhead d h) e)))

/-- One element of the sum over the devices of what each adds is the reference's. -/
theorem out_at (ks vs : Fin 16 → Vec Ideal S1024x1024 .f32) (hk : ∀ d j a, ks d (ix2 j a) = K (ix2 j (dcol d a)))
    (hv : ∀ d j a, vs d (ix2 j a) = V (ix2 j (dcol d a)))
    (hX : ∀ i m, ∃ r : ℝ, X (ix2 i m) = r) (hK : ∀ j A, ∃ r : ℝ, K (ix2 j A) = r) (hW : ∀ m A, ∃ r : ℝ, Wq (ix2 m A) = r) (i n : Fin 1024) :
    OF (fun d => PFv d X (ks d) (vs d) Wq Wo) (ix2 i n) = val_main_v37 (F := Ideal) X K V Wq Wo (ix2 i n) := by
  refine (OF_sum _ i n).trans (Eq.trans ?_ ((v37_at X K V Wq Wo i n).trans (Fin.sum_univ_tiles (N := 16384) 16 1024 (by norm_num) _)).symm)
  refine Finset.sum_congr rfl fun d _ => ?_
  rw [PFv_part]
  unfold partAt
  refine Finset.sum_congr rfl fun a _ => congrArg₂ (· * ·) ?_ ?_
  · rw [hd_eq X K V Wq d (ks d) (vs d) (hk d) (hv d) hX hK hW]
    have e1 : dhead d ⟨a.val / 128, by omega⟩ = (⟨(d.val * 1024 + a.val) / 128, by omega⟩ : Fin 128) :=
      Fin.ext (by show 8 * d.val + a.val / 128 = (d.val * 1024 + a.val) / 128; omega)
    have e2 : (⟨a.val % 128, Nat.mod_lt _ (by decide)⟩ : Fin 128) = (⟨(d.val * 1024 + a.val) % 128, Nat.mod_lt _ (by decide)⟩ : Fin 128) :=
      Fin.ext (by show a.val % 128 = (d.val * 1024 + a.val) % 128; omega)
    rw [e1, e2]
  · refine (woW_at d Wo a n).trans (congrArg (fun q => Wo (ix2 q n)) (Fin.ext ?_))
    show 1024 * d.val + a.val = d.val * 1024 + a.val
    omega

/-- The sum over the devices of what each adds is the reference's result. -/
theorem out_eq (ks vs : Fin 16 → Vec Ideal S1024x1024 .f32) (hk : ∀ d j a, ks d (ix2 j a) = K (ix2 j (dcol d a)))
    (hv : ∀ d j a, vs d (ix2 j a) = V (ix2 j (dcol d a)))
    (hX : ∀ i m, ∃ r : ℝ, X (ix2 i m) = r) (hK : ∀ j A, ∃ r : ℝ, K (ix2 j A) = r) (hW : ∀ m A, ∃ r : ℝ, Wq (ix2 m A) = r) :
    OF (fun d => PFv d X (ks d) (vs d) Wq Wo) = val_main_v37 (F := Ideal) X K V Wq Wo := by
  funext y
  have hy : y = ix2 (n0 := 1024) (n1 := 1024) (y 0) (y 1) := ext2 _ _ rfl rfl
  exact (congrArg _ hy).trans ((out_at X K V Wq Wo ks vs hk hv hX hK hW (y 0) (y 1)).trans (congrArg _ hy.symm))

end Cert.Equate

end
-- ==== Proof.KI.Final.lean ====
module

public import proofs.«01_k».proof.Proof.KI.Run
public import proofs.«01_k».proof.Proof.KI.Equate
public import proofs.«01_k».proof.Defs
public import Idealize.ShloMosaic.Lib.Layout

@[expose] public section

noncomputable section

namespace Cert.KernelIdeal.Pf

open Idealize.ShloMosaic Idealize.SL.Sem

variable {F : FTy → Type} [FloatOps F] (m : (ℓ : Loc nD τ sig) → Buf (Elt F) ℓ) (ρ : Dev nD → PrngReg)

/-- The staged queries are the first argument. -/
theorem xstg_eq (c : Dev nD) : xstg m ρ c = m ((c.tc : Thread nD τ).loc main_arg0) := by
  funext y
  exact congrArg (show Vec F S1024x1024 .f32 from m ((c.tc : Thread nD τ).loc main_arg0)) (funext fun a => Fin.ext (by
    show ((win0_0.rect (0 : Fin 1)).emb y a).val = (y a).val
    exact Pipeline.Window.rect_emb_val_of_index_zero win0_0 (0 : Fin 1) a (by decide +revert +kernel) y))
/-- The staged keys are the second argument. -/
theorem kstg_eq (c : Dev nD) : kstg m ρ c = m ((c.tc : Thread nD τ).loc main_arg1) := by
  funext y
  exact congrArg (show Vec F S1024x1024 .f32 from m ((c.tc : Thread nD τ).loc main_arg1)) (funext fun a => Fin.ext (by
    show ((win0_1.rect (0 : Fin 1)).emb y a).val = (y a).val
    exact Pipeline.Window.rect_emb_val_of_index_zero win0_1 (0 : Fin 1) a (by decide +revert +kernel) y))
/-- The staged values are the third argument. -/
theorem vstg_eq (c : Dev nD) : vstg m ρ c = m ((c.tc : Thread nD τ).loc main_arg2) := by
  funext y
  exact congrArg (show Vec F S1024x1024 .f32 from m ((c.tc : Thread nD τ).loc main_arg2)) (funext fun a => Fin.ext (by
    show ((win0_2.rect (0 : Fin 1)).emb y a).val = (y a).val
    exact Pipeline.Window.rect_emb_val_of_index_zero win0_2 (0 : Fin 1) a (by decide +revert +kernel) y))

/-- The result's array ends holding the sum of every device's part. -/
theorem finalA_out (c : Dev nD) : finalA m ρ c (3 : Fin 4) = OF (PFm m ρ) :=
  (dats m ρ 0 c).arrAt_eq_of_after_last (3 : Fin 4) t₀ (by decide +kernel) _ fun j => rfl

end Cert.KernelIdeal.Pf

namespace Cert.Equate

open Idealize.ShloMosaic Idealize.SL.Sem
open Cert.KernelIdeal.Pf Cert.RefVal

/-- Below plus infinity in absolute value is a real number. -/
theorem real_of_lt (x : EReal) (h : Ideal.cmp .olt (max x (-x)) (Ideal.ofBits .f32 0x7F800000#32) = 1#1) : ∃ r : ℝ, x = r := by
  rw [lit_top] at h
  induction x with
  | bot => simp [Ideal.cmp] at h
  | top => simp [Ideal.cmp] at h
  | coe r => exact ⟨r, rfl⟩

/-- The precondition's side conditions hold. -/
theorem preFacts : Cert.Pre_finite_KernelIdeal.Facts := ⟨by decide, by decide⟩
/-- And so do those of the same predicate over the reference's arguments. -/
theorem preFacts' : Cert.Pre_finite_ReferenceIdeal.Facts := ⟨by decide, by decide⟩

section pre
variable [Cert.Pre_finite_KernelIdeal.Facts]
variable {a0 a1 a2 : FVec Ideal Cert.Pre_finite_KernelIdeal.S1024x1024 .f32} {a3 : FVec Ideal Cert.Pre_finite_KernelIdeal.S1024x16384 .f32}
  {a4 : FVec Ideal Cert.Pre_finite_KernelIdeal.S16384x1024 .f32}

theorem pre_x (h : (Cert.Pre_finite_KernelIdeal.fn (F := Ideal) a0 a1 a2 a3 a4).1 = fun _ => 1#1) (i m : Fin 1024) : ∃ r : ℝ, a0 (ix2 i m) = r :=
  real_of_lt _ (congrFun h (ix2 i m))
theorem pre_k (h : (Cert.Pre_finite_KernelIdeal.fn (F := Ideal) a0 a1 a2 a3 a4).2.1 = fun _ => 1#1) (i m : Fin 1024) : ∃ r : ℝ, a1 (ix2 i m) = r :=
  real_of_lt _ (congrFun h (ix2 i m))
theorem pre_w (h : (Cert.Pre_finite_KernelIdeal.fn (F := Ideal) a0 a1 a2 a3 a4).2.2 = fun _ => 1#1) (i : Fin 1024) (A : Fin 16384) : ∃ r : ℝ, a3 (ix2 i A) = r :=
  real_of_lt _ (congrFun h (ix2 i A))
end pre

/-- A device's block of the columns, at an element. -/
theorem block_at (K : Vec Ideal Cert.ReferenceIdeal.S1024x16384 .f32) (d : Fin 16) (j a : Fin 1024) :
    Layout.block ⟨2, ![1024, 1024]⟩ ⟨2, ![1024, 16384]⟩ 1 16 d K (by decide) (ix2 j a) = K (ix2 j (dcol d a)) := by
  refine congrArg K (ext2 _ _ rfl (Fin.ext ?_))
  show d.val * 1024 + a.val = 1024 * d.val + a.val
  omega

open Cert.KernelIdeal in
/-- What the kernel leaves in its result is the reference's function of the whole arguments. -/
theorem kernel_out (m : (ℓ : Loc nD τ sig) → Buf (Elt Ideal) ℓ) (ρ : Dev nD → PrngReg) [Cert.Pre_finite_KernelIdeal.Facts]
    (X : Vec Ideal Cert.ReferenceIdeal.S1024x1024 .f32) (K V Wq : Vec Ideal Cert.ReferenceIdeal.S1024x16384 .f32) (Wo : Vec Ideal Cert.ReferenceIdeal.S16384x1024 .f32)
    (hp : Cert.Pre_KernelIdeal_finite_KernelIdeal m)
    (h0 : ∀ c : Dev nD, m ((c.tc : Thread nD τ).loc main_arg0) = X)
    (h1 : ∀ c : Dev nD, m ((c.tc : Thread nD τ).loc main_arg1) = Layout.block ⟨2, ![1024, 1024]⟩ ⟨2, ![1024, 16384]⟩ 1 16 c K)
    (h2 : ∀ c : Dev nD, m ((c.tc : Thread nD τ).loc main_arg2) = Layout.block ⟨2, ![1024, 1024]⟩ ⟨2, ![1024, 16384]⟩ 1 16 c V)
    (h3 : ∀ c : Dev nD, m ((c.tc : Thread nD τ).loc main_arg3) = Wq)
    (h4 : ∀ c : Dev nD, m ((c.tc : Thread nD τ).loc main_arg4) = Wo) (c : Dev nD) :
    finalA m ρ c (3 : Fin 4) = Cert.ReferenceIdeal.Read.val_main_v37 (F := Ideal) X K V Wq Wo := by
  have hk : ∀ (d : Fin 16) (j a : Fin 1024), kstg m ρ d (ix2 j a) = K (ix2 j (dcol d a)) := fun d j a => by
    rw [kstg_eq, h1 d]; exact block_at K d j a
  have hv : ∀ (d : Fin 16) (j a : Fin 1024), vstg m ρ d (ix2 j a) = V (ix2 j (dcol d a)) := fun d j a => by
    rw [vstg_eq, h2 d]; exact block_at V d j a
  have hX : ∀ i n : Fin 1024, ∃ r : ℝ, X (ix2 i n) = r := fun i n => by
    obtain ⟨r, hr⟩ := pre_x (hp 0).1 i n
    exact ⟨r, (congrFun (h0 0) (ix2 i n)).symm.trans hr⟩
  have hW : ∀ (i : Fin 1024) (A : Fin 16384), ∃ r : ℝ, Wq (ix2 i A) = r := fun i A => by
    obtain ⟨r, hr⟩ := pre_w (hp 0).2.2 i A
    exact ⟨r, (congrFun (h3 0) (ix2 i A)).symm.trans hr⟩
  have hK : ∀ (j : Fin 1024) (A : Fin 16384), ∃ r : ℝ, K (ix2 j A) = r := fun j A => by
    have hA : A = dcol ⟨A.val / 1024, by omega⟩ ⟨A.val % 1024, Nat.mod_lt _ (by decide)⟩ :=
      Fin.ext (Nat.div_add_mod A.val 1024).symm
    obtain ⟨r, hr⟩ := pre_k (hp (⟨A.val / 1024, by omega⟩ : Fin 16)).2.1 j ⟨A.val % 1024, Nat.mod_lt _ (by decide)⟩
    refine ⟨r, (congrArg (fun B => K (ix2 j B)) hA).trans ((hk _ j _).symm.trans ?_)⟩
    rw [kstg_eq]
    exact hr
  have hP : PFm m ρ = fun d => PFv d X (kstg m ρ d) (vstg m ρ d) Wq Wo := funext fun d => by
    unfold PFm
    rw [xstg_eq, h0 d, show wqA m d = Wq from h3 d, show woA m d = Wo from h4 d]
  rw [finalA_out, hP]
  exact out_eq X K V Wq Wo _ _ hk hv hX hK hW

end Cert.Equate

end
-- ==== Proof.lean ====
/- The claims of Defs.lean, from the kernel's run (KI/Run.lean) and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KI.Run
public import proofs.«01_k».proof.Proof.KI.Same
public import proofs.«01_k».proof.Proof.KI.Final
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- At every instance the kernel runs, its arguments end unchanged and its counters end at zero. -/
theorem frame_at {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run _ _ _).mono (fun _ h => ⟨fun c => ⟨((h.1 c).1 (0 : Fin 4)).trans (Cert.KernelIdeal.Pf.finalA_in0 m g c),
    ((h.1 c).1 (1 : Fin 4)).trans (Cert.KernelIdeal.Pf.finalA_in1 m g c), ((h.1 c).1 (2 : Fin 4)).trans (Cert.KernelIdeal.Pf.finalA_in2 m g c),
    (h.1 c).2.1, (h.1 c).2.2⟩, h.2⟩) (Cert.KernelIdeal.Pf.run_main (F := F) m g)

/-- The kernel over the chip's words: the same program as the one over the extended reals, at another instance. -/
theorem frame_kernel : Cert.quiescent_Kernel (hKernel := Cert.Kernel.Gen.facts) := fun m g _ => by
  rw [Cert.Same.defs_eq, Cert.Same.main_eq]
  exact frame_at (F := Bits) m g

/-- The kernel over the extended reals. -/
theorem frame_kernelIdeal : Cert.quiescent_KernelIdeal (hKernelIdeal := Cert.KernelIdeal.Gen.facts) := fun m g _ => frame_at (F := Ideal) m g

/-- The reference over the extended reals: its arguments end unchanged, and it declares no counter. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Over the extended reals, with real queries, keys and query weights, both programs leave the same result: the
    reference's function of the whole arguments. -/
theorem same_result : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Equate.preFacts) := fun m g m' g' hp hm => by
  have out := @Cert.Equate.kernel_out m g Cert.Equate.preFacts _ _ _ _ _ hp (fun c => (hm c).1) (fun c => (hm c).2.1) (fun c => (hm c).2.2.1)
    (fun c => (hm c).2.2.2.1) (fun c => (hm c).2.2.2.2)
  refine ⟨_, (θ_run _ _ _).mono (fun r h c => ⟨((h.1 c).1 (3 : Fin 4)).trans (out c),
      ((h.1 c).1 (0 : Fin 4)).trans (Cert.KernelIdeal.Pf.finalA_in0 m g c), ((h.1 c).1 (1 : Fin 4)).trans (Cert.KernelIdeal.Pf.finalA_in1 m g c),
      ((h.1 c).1 (2 : Fin 4)).trans (Cert.KernelIdeal.Pf.finalA_in2 m g c), (h.1 c).2.1, (h.1 c).2.2⟩) (Cert.KernelIdeal.Pf.run_main (F := Ideal) m g),
    (θ_run _ _ _).mono (fun r h => ⟨((h 0).1).trans (Cert.ReferenceIdeal.Read.val_main_v37_eq (F := Ideal) m' 0), (h 0).2⟩)
      (Cert.ReferenceIdeal.Value.run (F := Ideal) m' g')⟩

theorem claim : Cert.Claim := ⟨Cert.Kernel.Gen.facts, Cert.KernelIdeal.Gen.facts, Cert.ReferenceIdeal.Gen.facts, Cert.Equate.preFacts, Cert.Equate.preFacts',
  frame_kernel, frame_kernelIdeal, fun m g _ => frame_at (F := Ideal) m g, frame_referenceIdeal, fun m g _ => frame_referenceIdeal m g trivial,
  trivial, same_result⟩

end Cert.Proof

end
